-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 1024, 2048]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 512]⟩ ⟨2, ![4, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S512x512 : Shape := ⟨2, ![512, 512]⟩
abbrev S4096x512 : Shape := ⟨2, ![4096, 512]⟩
abbrev S3072x512 : Shape := ⟨2, ![3072, 512]⟩
abbrev S1x1024x512 : Shape := ⟨3, ![1, 1024, 512]⟩
abbrev S20 : Shape := ⟨1, ![20]⟩
abbrev S10 : Shape := ⟨1, ![10]⟩
abbrev S1 : Shape := ⟨1, ![1]⟩
abbrev S_ : Shape := ⟨0, ![]⟩
abbrev S1x512 : Shape := ⟨2, ![1, 512]⟩
abbrev S512 : Shape := ⟨1, ![512]⟩
abbrev S1x1x512 : Shape := ⟨3, ![1, 1, 512]⟩
abbrev S1x3x512 : Shape := ⟨3, ![1, 3, 512]⟩
abbrev S1x1021x512 : Shape := ⟨3, ![1, 1021, 512]⟩
abbrev S1x2x512 : Shape := ⟨3, ![1, 2, 512]⟩
abbrev S1x1022x512 : Shape := ⟨3, ![1, 1022, 512]⟩
abbrev S1x1023x512 : Shape := ⟨3, ![1, 1023, 512]⟩
abbrev S1024x512 : Shape := ⟨2, ![1024, 512]⟩
abbrev S256x512 : Shape := ⟨2, ![256, 512]⟩
abbrev S1x256x512 : Shape := ⟨3, ![1, 256, 512]⟩
abbrev S1x512x512 : Shape := ⟨3, ![1, 512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S512x512, .f32⟩
  | .hbm, ⟨3, _⟩ => ⟨S4x1024x512, .bf16⟩
  | .local _ .vmem, ⟨0, _⟩ => ⟨S4096x512, .f32⟩
  | .local _ .vmem, ⟨1, _⟩ => ⟨S4096x512, .bf16⟩
  | .local _ .vmem, ⟨2, _⟩ => ⟨S3072x512, .bf16⟩
  | .local _ .vmem, ⟨3, _⟩ => ⟨S4x1024x512, .bf16⟩
  | .local _ .vmem, ⟨4, _⟩ => ⟨S1x1024x512, .f32⟩
  | .local _ .vmem, ⟨5, _⟩ => ⟨S1x1024x512, .f32⟩
  | .local _ .vmem, ⟨6, _⟩ => ⟨S4x512, .f32⟩
  | .local _ .vmem, ⟨7, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c1_i32_19 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v50 : BitVec 32 := Scalar.subi c1_i32_19 v47
  let c0_i32_26 : BitVec 32 := 0#32
  let c0_i32_27 : BitVec 32 := 0#32
  ![v50.toNat, 0, 0]
def k0_off2 (d0 : Dev nD) : Fin 3 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v51 : BitVec 32 := Scalar.subi c1_i32_20 v19
  let v52 : BitVec 32 := Scalar.addi c2_i32_21 v51
  let c0_i32_29 : BitVec 32 := 0#32
  let c0_i32_30 : BitVec 32 := 0#32
  ![v52.toNat, 0, 0]
def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_32 : BitVec 32 := 1#32
  let v65 : BitVec 32 := Scalar.muli v48 c1_i32_32
  let v66 : BitVec 32 := Scalar.addi c0_i32_33 v65
  v66.toNat
def k0_dev2 (d0 : Dev nD) : Nat :=
  let c0_i32_36 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_35 : BitVec 32 := 1#32
  let v67 : BitVec 32 := Scalar.muli v49 c1_i32_35
  let v68 : BitVec 32 := Scalar.addi c0_i32_36 v67
  v68.toNat
def k0_off3 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v80 : BitVec 32 := Scalar.subi c1_i32_43 v47
  let c1024_i32_44 : BitVec 32 := 1024#32
  let v81 : BitVec 32 := Scalar.muli v80 c1024_i32_44
  let v151 : Index := Scalar.indexCast v81
  let c0_71 : Index := 0#32
  ![v151.toNat, 0]
def k0_off4 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v95 : BitVec 32 := Scalar.subi c1_i32_53 v19
  let c512_i32_54 : BitVec 32 := 512#32
  let v96 : BitVec 32 := Scalar.muli v95 c512_i32_54
  let c0_i32_77 : BitVec 32 := 0#32
  ![v96.toNat, 0]
def k0_off5 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v80 : BitVec 32 := Scalar.subi c1_i32_43 v47
  let c1024_i32_44 : BitVec 32 := 1024#32
  let v81 : BitVec 32 := Scalar.muli v80 c1024_i32_44
  let c1_i32_53 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v95 : BitVec 32 := Scalar.subi c1_i32_53 v19
  let c512_i32_54 : BitVec 32 := 512#32
  let v96 : BitVec 32 := Scalar.muli v95 c512_i32_54
  let v155 : BitVec 32 := Scalar.addi v81 v96
  let c0_i32_78 : BitVec 32 := 0#32
  ![v155.toNat, 0]
def k0_dev3 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_75 : BitVec 32 := 1#32
  let v156 : BitVec 32 := Scalar.muli v48 c1_i32_75
  let v157 : BitVec 32 := Scalar.addi c0_i32_76 v156
  v157.toNat
def k0_off6 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v95 : BitVec 32 := Scalar.subi c1_i32_53 v19
  let c512_i32_54 : BitVec 32 := 512#32
  let v96 : BitVec 32 := Scalar.muli v95 c512_i32_54
  let c256_i32_79 : BitVec 32 := 256#32
  let v166 : BitVec 32 := Scalar.addi v96 c256_i32_79
  let c0_i32_84 : BitVec 32 := 0#32
  ![v166.toNat, 0]
def k0_off7 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v80 : BitVec 32 := Scalar.subi c1_i32_43 v47
  let c1024_i32_44 : BitVec 32 := 1024#32
  let v81 : BitVec 32 := Scalar.muli v80 c1024_i32_44
  let c1_i32_53 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v95 : BitVec 32 := Scalar.subi c1_i32_53 v19
  let c512_i32_54 : BitVec 32 := 512#32
  let v96 : BitVec 32 := Scalar.muli v95 c512_i32_54
  let v164 : BitVec 32 := Scalar.addi v81 v96
  let c256_i32 : BitVec 32 := 256#32
  let v165 : BitVec 32 := Scalar.addi v164 c256_i32
  let c0_i32_85 : BitVec 32 := 0#32
  ![v165.toNat, 0]
def k0_dev4 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_82 : BitVec 32 := 1#32
  let v167 : BitVec 32 := Scalar.muli v48 c1_i32_82
  let v168 : BitVec 32 := Scalar.addi c0_i32_83 v167
  v168.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_55 : BitVec 32 := 512#32
  let v97 : BitVec 32 := Scalar.muli v19 c512_i32_55
  let c0_i32_90 : BitVec 32 := 0#32
  ![v97.toNat, 0]
def k0_off9 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v80 : BitVec 32 := Scalar.subi c1_i32_43 v47
  let c1024_i32_44 : BitVec 32 := 1024#32
  let v81 : BitVec 32 := Scalar.muli v80 c1024_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_55 : BitVec 32 := 512#32
  let v97 : BitVec 32 := Scalar.muli v19 c512_i32_55
  let v175 : BitVec 32 := Scalar.addi v81 v97
  let c0_i32_91 : BitVec 32 := 0#32
  ![v175.toNat, 0]
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_88 : BitVec 32 := 1#32
  let v176 : BitVec 32 := Scalar.muli v48 c1_i32_88
  let v177 : BitVec 32 := Scalar.addi c0_i32_89 v176
  v177.toNat
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c0_i32_96 : BitVec 32 := 0#32
  let c0_i32_97 : BitVec 32 := 0#32
  ![v47.toNat, 0, 0]
def k0_off11 (d0 : Dev nD) : Fin 2 → Nat :=
  let c2048_i32_47 : BitVec 32 := 2048#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v82 : BitVec 32 := Scalar.subi c1_i32_45 v19
  let c1024_i32_46 : BitVec 32 := 1024#32
  let v83 : BitVec 32 := Scalar.muli v82 c1024_i32_46
  let v84 : BitVec 32 := Scalar.addi c2048_i32_47 v83
  let v237 : Index := Scalar.indexCast v84
  let c0_108 : Index := 0#32
  ![v237.toNat, 0]
def k0_off12 (d0 : Dev nD) : Fin 2 → Nat :=
  let c1024_i32_109 : BitVec 32 := 1024#32
  let c1_i32_56 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v98 : BitVec 32 := Scalar.subi c1_i32_56 v47
  let c512_i32_57 : BitVec 32 := 512#32
  let v99 : BitVec 32 := Scalar.muli v98 c512_i32_57
  let v242 : BitVec 32 := Scalar.addi c1024_i32_109 v99
  let c0_i32_114 : BitVec 32 := 0#32
  ![v242.toNat, 0]
def k0_off13 (d0 : Dev nD) : Fin 2 → Nat :=
  let c2048_i32_47 : BitVec 32 := 2048#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v82 : BitVec 32 := Scalar.subi c1_i32_45 v19
  let c1024_i32_46 : BitVec 32 := 1024#32
  let v83 : BitVec 32 := Scalar.muli v82 c1024_i32_46
  let v84 : BitVec 32 := Scalar.addi c2048_i32_47 v83
  let c1_i32_56 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v98 : BitVec 32 := Scalar.subi c1_i32_56 v47
  let c512_i32_57 : BitVec 32 := 512#32
  let v99 : BitVec 32 := Scalar.muli v98 c512_i32_57
  let v241 : BitVec 32 := Scalar.addi v84 v99
  let c0_i32_115 : BitVec 32 := 0#32
  ![v241.toNat, 0]
def k0_dev6 (d0 : Dev nD) : Nat :=
  let c0_i32_113 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_112 : BitVec 32 := 1#32
  let v243 : BitVec 32 := Scalar.muli v49 c1_i32_112
  let v244 : BitVec 32 := Scalar.addi c0_i32_113 v243
  v244.toNat
def k0_off14 (d0 : Dev nD) : Fin 2 → Nat :=
  let c1024_i32_117 : BitVec 32 := 1024#32
  let c1_i32_56 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v98 : BitVec 32 := Scalar.subi c1_i32_56 v47
  let c512_i32_57 : BitVec 32 := 512#32
  let v99 : BitVec 32 := Scalar.muli v98 c512_i32_57
  let v253 : BitVec 32 := Scalar.addi c1024_i32_117 v99
  let c256_i32_118 : BitVec 32 := 256#32
  let v254 : BitVec 32 := Scalar.addi v253 c256_i32_118
  let c0_i32_123 : BitVec 32 := 0#32
  ![v254.toNat, 0]
def k0_off15 (d0 : Dev nD) : Fin 2 → Nat :=
  let c2048_i32_47 : BitVec 32 := 2048#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v82 : BitVec 32 := Scalar.subi c1_i32_45 v19
  let c1024_i32_46 : BitVec 32 := 1024#32
  let v83 : BitVec 32 := Scalar.muli v82 c1024_i32_46
  let v84 : BitVec 32 := Scalar.addi c2048_i32_47 v83
  let c1_i32_56 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v98 : BitVec 32 := Scalar.subi c1_i32_56 v47
  let c512_i32_57 : BitVec 32 := 512#32
  let v99 : BitVec 32 := Scalar.muli v98 c512_i32_57
  let v251 : BitVec 32 := Scalar.addi v84 v99
  let c256_i32_116 : BitVec 32 := 256#32
  let v252 : BitVec 32 := Scalar.addi v251 c256_i32_116
  let c0_i32_124 : BitVec 32 := 0#32
  ![v252.toNat, 0]
def k0_dev7 (d0 : Dev nD) : Nat :=
  let c0_i32_122 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_121 : BitVec 32 := 1#32
  let v255 : BitVec 32 := Scalar.muli v49 c1_i32_121
  let v256 : BitVec 32 := Scalar.addi c0_i32_122 v255
  v256.toNat
def k0_off16 (d0 : Dev nD) : Fin 2 → Nat :=
  let c1024_i32_125 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_58 : BitVec 32 := 512#32
  let v100 : BitVec 32 := Scalar.muli v47 c512_i32_58
  let v264 : BitVec 32 := Scalar.addi c1024_i32_125 v100
  let c0_i32_129 : BitVec 32 := 0#32
  ![v264.toNat, 0]
def k0_off17 (d0 : Dev nD) : Fin 2 → Nat :=
  let c2048_i32_47 : BitVec 32 := 2048#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v82 : BitVec 32 := Scalar.subi c1_i32_45 v19
  let c1024_i32_46 : BitVec 32 := 1024#32
  let v83 : BitVec 32 := Scalar.muli v82 c1024_i32_46
  let v84 : BitVec 32 := Scalar.addi c2048_i32_47 v83
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_58 : BitVec 32 := 512#32
  let v100 : BitVec 32 := Scalar.muli v47 c512_i32_58
  let v263 : BitVec 32 := Scalar.addi v84 v100
  let c0_i32_130 : BitVec 32 := 0#32
  ![v263.toNat, 0]
def k0_dev8 (d0 : Dev nD) : Nat :=
  let c0_i32_128 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_127 : BitVec 32 := 1#32
  let v265 : BitVec 32 := Scalar.muli v49 c1_i32_127
  let v266 : BitVec 32 := Scalar.addi c0_i32_128 v265
  v266.toNat
def k0_off18 (d0 : Dev nD) : Fin 3 → Nat :=
  let c2_i32_22 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v53 : BitVec 32 := Scalar.addi c2_i32_22 v19
  let c0_i32_135 : BitVec 32 := 0#32
  let c0_i32_136 : BitVec 32 := 0#32
  ![v53.toNat, 0, 0]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1024_i32 : BitVec 32 := 1024#32
  let v77 : BitVec 32 := Scalar.muli v47 c1024_i32
  let v325 : Index := Scalar.indexCast v77
  let c0_147 : Index := 0#32
  ![v325.toNat, 0]
def k0_off20 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1024_i32_42 : BitVec 32 := 1024#32
  let v78 : BitVec 32 := Scalar.muli v19 c1024_i32_42
  let v79 : BitVec 32 := Scalar.addi c2048_i32 v78
  let v378 : Index := Scalar.indexCast v79
  let c0_161 : Index := 0#32
  ![v378.toNat, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1024_i32 : BitVec 32 := 1024#32
  let v77 : BitVec 32 := Scalar.muli v47 c1024_i32
  let c1_i32_48 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v85 : BitVec 32 := Scalar.subi c1_i32_48 v19
  let c512_i32 : BitVec 32 := 512#32
  let v86 : BitVec 32 := Scalar.muli v85 c512_i32
  let v87 : BitVec 32 := Scalar.addi v77 v86
  let v388 : Index := Scalar.indexCast v87
  let c0_168 : Index := 0#32
  ![v388.toNat, 0]
def k0_off22 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v95 : BitVec 32 := Scalar.subi c1_i32_53 v19
  let c512_i32_54 : BitVec 32 := 512#32
  let v96 : BitVec 32 := Scalar.muli v95 c512_i32_54
  let v390 : Index := Scalar.indexCast v96
  let c0_169 : Index := 0#32
  ![v390.toNat, 0]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1024_i32 : BitVec 32 := 1024#32
  let v77 : BitVec 32 := Scalar.muli v47 c1024_i32
  let c1_i32_48 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v85 : BitVec 32 := Scalar.subi c1_i32_48 v19
  let c512_i32 : BitVec 32 := 512#32
  let v86 : BitVec 32 := Scalar.muli v85 c512_i32
  let v87 : BitVec 32 := Scalar.addi v77 v86
  let c0_i32_176 : BitVec 32 := 0#32
  ![v87.toNat, 0]
def k0_dev9 (d0 : Dev nD) : Nat :=
  let c0_i32_173 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_172 : BitVec 32 := 1#32
  let v399 : BitVec 32 := Scalar.muli v49 c1_i32_172
  let v400 : BitVec 32 := Scalar.addi c0_i32_173 v399
  v400.toNat
def k0_off24 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1024_i32_42 : BitVec 32 := 1024#32
  let v78 : BitVec 32 := Scalar.muli v19 c1024_i32_42
  let v79 : BitVec 32 := Scalar.addi c2048_i32 v78
  let c1_i32_49 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v88 : BitVec 32 := Scalar.subi c1_i32_49 v47
  let c512_i32_50 : BitVec 32 := 512#32
  let v89 : BitVec 32 := Scalar.muli v88 c512_i32_50
  let v90 : BitVec 32 := Scalar.addi v79 v89
  let v414 : Index := Scalar.indexCast v90
  let c0_184 : Index := 0#32
  ![v414.toNat, 0]
def k0_off25 (d0 : Dev nD) : Fin 2 → Nat :=
  let c1024_i32_183 : BitVec 32 := 1024#32
  let c1_i32_56 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v98 : BitVec 32 := Scalar.subi c1_i32_56 v47
  let c512_i32_57 : BitVec 32 := 512#32
  let v99 : BitVec 32 := Scalar.muli v98 c512_i32_57
  let v413 : BitVec 32 := Scalar.addi c1024_i32_183 v99
  let v416 : Index := Scalar.indexCast v413
  let c0_185 : Index := 0#32
  ![v416.toNat, 0]
def k0_off26 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1024_i32_42 : BitVec 32 := 1024#32
  let v78 : BitVec 32 := Scalar.muli v19 c1024_i32_42
  let v79 : BitVec 32 := Scalar.addi c2048_i32 v78
  let c1_i32_49 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v88 : BitVec 32 := Scalar.subi c1_i32_49 v47
  let c512_i32_50 : BitVec 32 := 512#32
  let v89 : BitVec 32 := Scalar.muli v88 c512_i32_50
  let v90 : BitVec 32 := Scalar.addi v79 v89
  let c0_i32_191 : BitVec 32 := 0#32
  ![v90.toNat, 0]
def k0_dev10 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_188 : BitVec 32 := 1#32
  let v425 : BitVec 32 := Scalar.muli v48 c1_i32_188
  let v426 : BitVec 32 := Scalar.addi c0_i32_189 v425
  v426.toNat
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1024_i32 : BitVec 32 := 1024#32
  let v77 : BitVec 32 := Scalar.muli v47 c1024_i32
  let c1_i32_48 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v85 : BitVec 32 := Scalar.subi c1_i32_48 v19
  let c512_i32 : BitVec 32 := 512#32
  let v86 : BitVec 32 := Scalar.muli v85 c512_i32
  let v87 : BitVec 32 := Scalar.addi v77 v86
  let c256_i32_199 : BitVec 32 := 256#32
  let v440 : BitVec 32 := Scalar.addi v87 c256_i32_199
  let v442 : Index := Scalar.indexCast v440
  let c0_201 : Index := 0#32
  ![v442.toNat, 0]
def k0_off28 (d0 : Dev nD) : Fin 2 → Nat :=
  let c1_i32_53 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v95 : BitVec 32 := Scalar.subi c1_i32_53 v19
  let c512_i32_54 : BitVec 32 := 512#32
  let v96 : BitVec 32 := Scalar.muli v95 c512_i32_54
  let c256_i32_200 : BitVec 32 := 256#32
  let v441 : BitVec 32 := Scalar.addi v96 c256_i32_200
  let v444 : Index := Scalar.indexCast v441
  let c0_202 : Index := 0#32
  ![v444.toNat, 0]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1024_i32 : BitVec 32 := 1024#32
  let v77 : BitVec 32 := Scalar.muli v47 c1024_i32
  let c1_i32_48 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v85 : BitVec 32 := Scalar.subi c1_i32_48 v19
  let c512_i32 : BitVec 32 := 512#32
  let v86 : BitVec 32 := Scalar.muli v85 c512_i32
  let v87 : BitVec 32 := Scalar.addi v77 v86
  let c256_i32_204 : BitVec 32 := 256#32
  let v453 : BitVec 32 := Scalar.addi v87 c256_i32_204
  let c0_i32_209 : BitVec 32 := 0#32
  ![v453.toNat, 0]
def k0_dev11 (d0 : Dev nD) : Nat :=
  let c0_i32_207 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_206 : BitVec 32 := 1#32
  let v454 : BitVec 32 := Scalar.muli v49 c1_i32_206
  let v455 : BitVec 32 := Scalar.addi c0_i32_207 v454
  v455.toNat
def k0_off30 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1024_i32_42 : BitVec 32 := 1024#32
  let v78 : BitVec 32 := Scalar.muli v19 c1024_i32_42
  let v79 : BitVec 32 := Scalar.addi c2048_i32 v78
  let c1_i32_49 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v88 : BitVec 32 := Scalar.subi c1_i32_49 v47
  let c512_i32_50 : BitVec 32 := 512#32
  let v89 : BitVec 32 := Scalar.muli v88 c512_i32_50
  let v90 : BitVec 32 := Scalar.addi v79 v89
  let c256_i32_217 : BitVec 32 := 256#32
  let v469 : BitVec 32 := Scalar.addi v90 c256_i32_217
  let v472 : Index := Scalar.indexCast v469
  let c0_220 : Index := 0#32
  ![v472.toNat, 0]
def k0_off31 (d0 : Dev nD) : Fin 2 → Nat :=
  let c1024_i32_218 : BitVec 32 := 1024#32
  let c1_i32_56 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v98 : BitVec 32 := Scalar.subi c1_i32_56 v47
  let c512_i32_57 : BitVec 32 := 512#32
  let v99 : BitVec 32 := Scalar.muli v98 c512_i32_57
  let v470 : BitVec 32 := Scalar.addi c1024_i32_218 v99
  let c256_i32_219 : BitVec 32 := 256#32
  let v471 : BitVec 32 := Scalar.addi v470 c256_i32_219
  let v474 : Index := Scalar.indexCast v471
  let c0_221 : Index := 0#32
  ![v474.toNat, 0]
def k0_off32 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1024_i32_42 : BitVec 32 := 1024#32
  let v78 : BitVec 32 := Scalar.muli v19 c1024_i32_42
  let v79 : BitVec 32 := Scalar.addi c2048_i32 v78
  let c1_i32_49 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v88 : BitVec 32 := Scalar.subi c1_i32_49 v47
  let c512_i32_50 : BitVec 32 := 512#32
  let v89 : BitVec 32 := Scalar.muli v88 c512_i32_50
  let v90 : BitVec 32 := Scalar.addi v79 v89
  let c256_i32_223 : BitVec 32 := 256#32
  let v483 : BitVec 32 := Scalar.addi v90 c256_i32_223
  let c0_i32_228 : BitVec 32 := 0#32
  ![v483.toNat, 0]
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_225 : BitVec 32 := 1#32
  let v484 : BitVec 32 := Scalar.muli v48 c1_i32_225
  let v485 : BitVec 32 := Scalar.addi c0_i32_226 v484
  v485.toNat
def k0_off33 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1024_i32_42 : BitVec 32 := 1024#32
  let v78 : BitVec 32 := Scalar.muli v19 c1024_i32_42
  let v79 : BitVec 32 := Scalar.addi c2048_i32 v78
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_52 : BitVec 32 := 512#32
  let v93 : BitVec 32 := Scalar.muli v47 c512_i32_52
  let v94 : BitVec 32 := Scalar.addi v79 v93
  let v513 : Index := Scalar.indexCast v94
  let c0_251 : Index := 0#32
  ![v513.toNat, 0]
def k0_off34 (d0 : Dev nD) : Fin 2 → Nat :=
  let c1024_i32_250 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_58 : BitVec 32 := 512#32
  let v100 : BitVec 32 := Scalar.muli v47 c512_i32_58
  let v512 : BitVec 32 := Scalar.addi c1024_i32_250 v100
  let v515 : Index := Scalar.indexCast v512
  let c0_252 : Index := 0#32
  ![v515.toNat, 0]
def k0_off35 (d0 : Dev nD) : Fin 3 → Nat :=
  let c2_i32_248 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v510 : BitVec 32 := Scalar.addi c2_i32_248 v19
  let v524 : Index := Scalar.indexCast v510
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_249 : BitVec 32 := 512#32
  let v511 : BitVec 32 := Scalar.muli v47 c512_i32_249
  let v525 : Index := Scalar.indexCast v511
  let c0_254 : Index := 0#32
  ![v524.toNat, v525.toNat, 0]
def k0_off36 (d0 : Dev nD) : Fin 3 → Nat :=
  let c2_i32_255 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v529 : BitVec 32 := Scalar.addi c2_i32_255 v19
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_256 : BitVec 32 := 512#32
  let v530 : BitVec 32 := Scalar.muli v47 c512_i32_256
  let c0_i32_260 : BitVec 32 := 0#32
  ![v529.toNat, v530.toNat, 0]
def k0_dev13 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_258 : BitVec 32 := 1#32
  let v531 : BitVec 32 := Scalar.muli v48 c1_i32_258
  let v532 : BitVec 32 := Scalar.addi c0_i32_259 v531
  v532.toNat
def k0_off37 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1024_i32 : BitVec 32 := 1024#32
  let v77 : BitVec 32 := Scalar.muli v47 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_51 : BitVec 32 := 512#32
  let v91 : BitVec 32 := Scalar.muli v19 c512_i32_51
  let v92 : BitVec 32 := Scalar.addi v77 v91
  let v546 : Index := Scalar.indexCast v92
  let c0_270 : Index := 0#32
  ![v546.toNat, 0]
def k0_off38 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_55 : BitVec 32 := 512#32
  let v97 : BitVec 32 := Scalar.muli v19 c512_i32_55
  let v548 : Index := Scalar.indexCast v97
  let c0_271 : Index := 0#32
  ![v548.toNat, 0]
def k0_off39 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v557 : Index := Scalar.indexCast v47
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_269 : BitVec 32 := 512#32
  let v545 : BitVec 32 := Scalar.muli v19 c512_i32_269
  let v558 : Index := Scalar.indexCast v545
  let c0_273 : Index := 0#32
  ![v557.toNat, v558.toNat, 0]
def k0_off40 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_274 : BitVec 32 := 512#32
  let v562 : BitVec 32 := Scalar.muli v19 c512_i32_274
  let c0_i32_278 : BitVec 32 := 0#32
  ![v47.toNat, v562.toNat, 0]
def k0_dev14 (d0 : Dev nD) : Nat :=
  let c0_i32_277 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_276 : BitVec 32 := 1#32
  let v563 : BitVec 32 := Scalar.muli v49 c1_i32_276
  let v564 : BitVec 32 := Scalar.addi c0_i32_277 v563
  v564.toNat
def k0_off41 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c1024_i32_42 : BitVec 32 := 1024#32
  let v78 : BitVec 32 := Scalar.muli v19 c1024_i32_42
  let v79 : BitVec 32 := Scalar.addi c2048_i32 v78
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_52 : BitVec 32 := 512#32
  let v93 : BitVec 32 := Scalar.muli v47 c512_i32_52
  let v94 : BitVec 32 := Scalar.addi v79 v93
  let c256_i32_290 : BitVec 32 := 256#32
  let v580 : BitVec 32 := Scalar.addi v94 c256_i32_290
  let v583 : Index := Scalar.indexCast v580
  let c0_293 : Index := 0#32
  ![v583.toNat, 0]
def k0_off42 (d0 : Dev nD) : Fin 2 → Nat :=
  let c1024_i32_291 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_58 : BitVec 32 := 512#32
  let v100 : BitVec 32 := Scalar.muli v47 c512_i32_58
  let v581 : BitVec 32 := Scalar.addi c1024_i32_291 v100
  let c256_i32_292 : BitVec 32 := 256#32
  let v582 : BitVec 32 := Scalar.addi v581 c256_i32_292
  let v585 : Index := Scalar.indexCast v582
  let c0_294 : Index := 0#32
  ![v585.toNat, 0]
def k0_off43 (d0 : Dev nD) : Fin 3 → Nat :=
  let c2_i32_287 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v577 : BitVec 32 := Scalar.addi c2_i32_287 v19
  let v594 : Index := Scalar.indexCast v577
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_288 : BitVec 32 := 512#32
  let v578 : BitVec 32 := Scalar.muli v47 c512_i32_288
  let c256_i32_289 : BitVec 32 := 256#32
  let v579 : BitVec 32 := Scalar.addi v578 c256_i32_289
  let v595 : Index := Scalar.indexCast v579
  let c0_296 : Index := 0#32
  ![v594.toNat, v595.toNat, 0]
def k0_off44 (d0 : Dev nD) : Fin 3 → Nat :=
  let c2_i32_297 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v599 : BitVec 32 := Scalar.addi c2_i32_297 v19
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_298 : BitVec 32 := 512#32
  let v600 : BitVec 32 := Scalar.muli v47 c512_i32_298
  let c256_i32_299 : BitVec 32 := 256#32
  let v601 : BitVec 32 := Scalar.addi v600 c256_i32_299
  let c0_i32_303 : BitVec 32 := 0#32
  ![v599.toNat, v601.toNat, 0]
def k0_dev15 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_301 : BitVec 32 := 1#32
  let v602 : BitVec 32 := Scalar.muli v48 c1_i32_301
  let v603 : BitVec 32 := Scalar.addi c0_i32_302 v602
  v603.toNat
def k0_off45 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1024_i32 : BitVec 32 := 1024#32
  let v77 : BitVec 32 := Scalar.muli v47 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_51 : BitVec 32 := 512#32
  let v91 : BitVec 32 := Scalar.muli v19 c512_i32_51
  let v92 : BitVec 32 := Scalar.addi v77 v91
  let c256_i32_314 : BitVec 32 := 256#32
  let v618 : BitVec 32 := Scalar.addi v92 c256_i32_314
  let v620 : Index := Scalar.indexCast v618
  let c0_316 : Index := 0#32
  ![v620.toNat, 0]
def k0_off46 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_55 : BitVec 32 := 512#32
  let v97 : BitVec 32 := Scalar.muli v19 c512_i32_55
  let c256_i32_315 : BitVec 32 := 256#32
  let v619 : BitVec 32 := Scalar.addi v97 c256_i32_315
  let v622 : Index := Scalar.indexCast v619
  let c0_317 : Index := 0#32
  ![v622.toNat, 0]
def k0_off47 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v631 : Index := Scalar.indexCast v47
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_312 : BitVec 32 := 512#32
  let v616 : BitVec 32 := Scalar.muli v19 c512_i32_312
  let c256_i32_313 : BitVec 32 := 256#32
  let v617 : BitVec 32 := Scalar.addi v616 c256_i32_313
  let v632 : Index := Scalar.indexCast v617
  let c0_319 : Index := 0#32
  ![v631.toNat, v632.toNat, 0]
def k0_off48 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_320 : BitVec 32 := 512#32
  let v636 : BitVec 32 := Scalar.muli v19 c512_i32_320
  let c256_i32_321 : BitVec 32 := 256#32
  let v637 : BitVec 32 := Scalar.addi v636 c256_i32_321
  let c0_i32_325 : BitVec 32 := 0#32
  ![v47.toNat, v637.toNat, 0]
def k0_dev16 (d0 : Dev nD) : Nat :=
  let c0_i32_324 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_323 : BitVec 32 := 1#32
  let v638 : BitVec 32 := Scalar.muli v49 c1_i32_323
  let v639 : BitVec 32 := Scalar.addi c0_i32_324 v638
  v639.toNat
def k0_off49 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_327 : BitVec 32 := 512#32
  let v646 : BitVec 32 := Scalar.muli v19 c512_i32_327
  let c0_i32_331 : BitVec 32 := 0#32
  ![v47.toNat, v646.toNat, 0]
def k0_dev17 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_329 : BitVec 32 := 1#32
  let v647 : BitVec 32 := Scalar.muli v48 c1_i32_329
  let v648 : BitVec 32 := Scalar.addi c0_i32_330 v647
  v648.toNat
def k0_off50 (d0 : Dev nD) : Fin 3 → Nat :=
  let c2_i32_333 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v655 : BitVec 32 := Scalar.addi c2_i32_333 v19
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c512_i32_334 : BitVec 32 := 512#32
  let v656 : BitVec 32 := Scalar.muli v47 c512_i32_334
  let c0_i32_338 : BitVec 32 := 0#32
  ![v655.toNat, v656.toNat, 0]
def k0_dev18 (d0 : Dev nD) : Nat :=
  let c0_i32_337 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_336 : BitVec 32 := 1#32
  let v657 : BitVec 32 := Scalar.muli v49 c1_i32_336
  let v658 : BitVec 32 := Scalar.addi c0_i32_337 v657
  v658.toNat
def k0_off51 (d0 : Dev nD) : Fin 3 → Nat :=
  let c2_i32_346 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v671 : BitVec 32 := Scalar.addi c2_i32_346 v19
  let c1_i32_347 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v672 : BitVec 32 := Scalar.subi c1_i32_347 v47
  let c512_i32_348 : BitVec 32 := 512#32
  let v673 : BitVec 32 := Scalar.muli v672 c512_i32_348
  let c0_i32_352 : BitVec 32 := 0#32
  ![v671.toNat, v673.toNat, 0]
def k0_dev19 (d0 : Dev nD) : Nat :=
  let c0_i32_351 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_350 : BitVec 32 := 1#32
  let v674 : BitVec 32 := Scalar.muli v49 c1_i32_350
  let v675 : BitVec 32 := Scalar.addi c0_i32_351 v674
  v675.toNat
def k0_off52 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1_i32_360 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v688 : BitVec 32 := Scalar.subi c1_i32_360 v19
  let c512_i32_361 : BitVec 32 := 512#32
  let v689 : BitVec 32 := Scalar.muli v688 c512_i32_361
  let c0_i32_365 : BitVec 32 := 0#32
  ![v47.toNat, v689.toNat, 0]
def k0_dev20 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_363 : BitVec 32 := 1#32
  let v690 : BitVec 32 := Scalar.muli v48 c1_i32_363
  let v691 : BitVec 32 := Scalar.addi c0_i32_364 v690
  v691.toNat
def k0_off53 (d0 : Dev nD) : Fin 3 → Nat :=
  let c2_i32_373 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v704 : BitVec 32 := Scalar.addi c2_i32_373 v19
  let c1_i32_374 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let v705 : BitVec 32 := Scalar.subi c1_i32_374 v47
  let c512_i32_375 : BitVec 32 := 512#32
  let v706 : BitVec 32 := Scalar.muli v705 c512_i32_375
  let c256_i32_376 : BitVec 32 := 256#32
  let v707 : BitVec 32 := Scalar.addi v706 c256_i32_376
  let c0_i32_380 : BitVec 32 := 0#32
  ![v704.toNat, v707.toNat, 0]
def k0_dev21 (d0 : Dev nD) : Nat :=
  let c0_i32_379 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.subi c3_i32 v2
  let c1_i32_378 : BitVec 32 := 1#32
  let v708 : BitVec 32 := Scalar.muli v49 c1_i32_378
  let v709 : BitVec 32 := Scalar.addi c0_i32_379 v708
  v709.toNat
def k0_off54 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let c2_i32_12 : BitVec 32 := 2#32
  let c0_i32_13 : BitVec 32 := 0#32
  let v37 : BitVec 1 := Scalar.cmpi .eq c2_i32_12 c0_i32_13
  let c1_i32_14 : BitVec 32 := 1#32
  let v38 : BitVec 32 := Scalar.select v37 c1_i32_14 c2_i32_12
  let v39 : BitVec 32 := Scalar.remsi v2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let v47 : BitVec 32 := Scalar.xori v36 v46
  let c1_i32_395 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v728 : BitVec 32 := Scalar.subi c1_i32_395 v19
  let c512_i32_396 : BitVec 32 := 512#32
  let v729 : BitVec 32 := Scalar.muli v728 c512_i32_396
  let c256_i32_397 : BitVec 32 := 256#32
  let v730 : BitVec 32 := Scalar.addi v729 c256_i32_397
  let c0_i32_401 : BitVec 32 := 0#32
  ![v47.toNat, v730.toNat, 0]
def k0_dev22 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v48 : BitVec 32 := Scalar.xori v2 c1_i32_18
  let c1_i32_399 : BitVec 32 := 1#32
  let v731 : BitVec 32 := Scalar.muli v48 c1_i32_399
  let v732 : BitVec 32 := Scalar.addi c0_i32_400 v731
  v732.toNat
-- ==== ReferenceIdeal.lean ====
abbrev S4x1024x2048 : Shape := ⟨3, ![4, 1024, 2048]⟩
abbrev S4x2048 : Shape := ⟨2, ![4, 2048]⟩
abbrev S2048x512 : Shape := ⟨2, ![2048, 512]⟩
abbrev S_ : Shape := ⟨0, ![]⟩
abbrev S4x3x2048 : Shape := ⟨3, ![4, 3, 2048]⟩
abbrev S4x1027x2048 : Shape := ⟨3, ![4, 1027, 2048]⟩
abbrev S1x2048 : Shape := ⟨2, ![1, 2048]⟩
abbrev S2048 : Shape := ⟨1, ![2048]⟩
abbrev S1x1x2048 : Shape := ⟨3, ![1, 1, 2048]⟩
abbrev S4x1024x512 : Shape := ⟨3, ![4, 1024, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x2048, .f32⟩
  | .hbm, ⟨2, _⟩ => ⟨S2048x512, .f32⟩
  | .hbm, ⟨3, _⟩ => ⟨S_, .f32⟩
  | .hbm, ⟨4, _⟩ => ⟨S4x3x2048, .f32⟩
  | .hbm, ⟨5, _⟩ => ⟨S4x1027x2048, .f32⟩
  | .hbm, ⟨6, _⟩ => ⟨S_, .f32⟩
  | .hbm, ⟨7, _⟩ => ⟨S4x1024x2048, .f32⟩
  | .hbm, ⟨8, _⟩ => ⟨S4x1024x2048, .f32⟩
  | .hbm, ⟨9, _⟩ => ⟨S1x2048, .f32⟩
  | .hbm, ⟨10, _⟩ => ⟨S2048, .f32⟩
  | .hbm, ⟨11, _⟩ => ⟨S1x1x2048, .f32⟩
  | .hbm, ⟨12, _⟩ => ⟨S4x1024x2048, .f32⟩
  | .hbm, ⟨13, _⟩ => ⟨S4x1024x2048, .f32⟩
  | .hbm, ⟨14, _⟩ => ⟨S4x1024x2048, .f32⟩
  | .hbm, ⟨15, _⟩ => ⟨S4x1024x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S4x1024x2048, .f32⟩
  | .hbm, ⟨20, _⟩ => ⟨S4x1024x2048, .f32⟩
  | .hbm, ⟨21, _⟩ => ⟨S4x1024x2048, .f32⟩
  | .hbm, ⟨22, _⟩ => ⟨S4x1024x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x1024x2048, .f32⟩
  | .hbm, ⟨27, _⟩ => ⟨S4x1024x2048, .f32⟩
  | .hbm, ⟨28, _⟩ => ⟨S4x1024x2048, .f32⟩
  | .hbm, ⟨29, _⟩ => ⟨S4x1024x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x1024x2048, .f32⟩
  | .hbm, ⟨34, _⟩ => ⟨S4x1024x2048, .f32⟩
  | .hbm, ⟨35, _⟩ => ⟨S4x1024x2048, .f32⟩
  | .hbm, ⟨36, _⟩ => ⟨S4x1024x2048, .f32⟩
  | .hbm, ⟨37, _⟩ => ⟨S4x1024x2048, .f32⟩
  | .hbm, ⟨38, _⟩ => ⟨S_, .f32⟩
  | .hbm, ⟨39, _⟩ => ⟨S4x1024x2048, .f32⟩
  | .hbm, ⟨40, _⟩ => ⟨S4x1024x2048, .f32⟩
  | .hbm, ⟨41, _⟩ => ⟨S4x1024x2048, .f32⟩
  | .hbm, ⟨42, _⟩ => ⟨S4x1024x512, .f32⟩
  | .hbm, ⟨43, _⟩ => ⟨S4x1024x512, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Proof.Geo.lean ====
/-
# Devices and offsets

The mesh is a square of four devices. Each device exchanges data with two partners: `py c` and `px c`.
This module names the partners, the two coordinates `xb` and `yb` of a device, and states in closed form
every device number and every slice offset that the kernel computes from its device number.
-/
module

public import proofs.«01_k».proof.Proof.Gen.KernelIdeal
public import proofs.«01_k».proof.Proof.Gen.KernelIdeal.Skeleton

@[expose] public section

noncomputable section

namespace Cert.Allreduce

open Cert.KernelIdeal Cert.KernelIdeal.Gen
open Idealize.ShloMosaic

/-! ## Partners and coordinates -/

set_option backward.proofsInPublic true in
/-- The partner of `c` along the first direction. -/
def px (c : Dev nD) : Dev nD := ⟨3 - c.val, by have h : nD = 4 := rfl; omega⟩
set_option backward.proofsInPublic true in
/-- The partner of `c` along the second direction. -/
def py (c : Dev nD) : Dev nD := ⟨(c.val / 2) * 2 + (1 - c.val % 2), by have := c.isLt; have h : nD = 4 := rfl; omega⟩
/-- First coordinate of a device; `px` flips it. -/
def xb (c : Dev nD) : ℕ := c.val / 2
/-- Second coordinate of a device; `py` flips it. -/
def yb (c : Dev nD) : ℕ := (c.val / 2 + c.val % 2) % 2

theorem px_px (c : Dev nD) : px (px c) = c := by revert c; decide
theorem py_py (c : Dev nD) : py (py c) = c := by revert c; decide
theorem px_py (c : Dev nD) : px (py c) = py (px c) := by revert c; decide
theorem xb_le (c : Dev nD) : xb c ≤ 1 := by revert c; decide
theorem yb_le (c : Dev nD) : yb c ≤ 1 := by revert c; decide
theorem xb_py (c : Dev nD) : xb (py c) = xb c := by revert c; decide
theorem yb_py (c : Dev nD) : yb (py c) = 1 - yb c := by revert c; decide
theorem xb_px (c : Dev nD) : xb (px c) = 1 - xb c := by revert c; decide
theorem yb_px (c : Dev nD) : yb (px c) = yb c := by revert c; decide
theorem px_ne_py (c : Dev nD) : px c ≠ py c := by revert c; decide

/-- The device with coordinates `x` and `y`. -/
def devAt (x y : ℕ) : Dev nD := if x = 0 then (if y = 0 then 0 else 1) else (if y = 0 then 3 else 2)
theorem devAt_self (c : Dev nD) : devAt (xb c) (yb c) = c := by revert c; decide
theorem devAt_px (c : Dev nD) : devAt (1 - xb c) (yb c) = px c := by revert c; decide
theorem devAt_py (c : Dev nD) : devAt (xb c) (1 - yb c) = py c := by revert c; decide
theorem devAt_pxy (c : Dev nD) : devAt (1 - xb c) (1 - yb c) = px (py c) := by revert c; decide

/-! ## Device numbers -/

theorem dev1_eq (c : Dev nD) : (⟨k0_dev1 c, k0_dev1_lt c⟩ : Dev nD) = py c := by apply Fin.ext; revert c; decide +kernel
theorem dev2_eq (c : Dev nD) : (⟨k0_dev2 c, k0_dev2_lt c⟩ : Dev nD) = px c := by apply Fin.ext; revert c; decide +kernel
theorem dev3_eq (c : Dev nD) : (⟨k0_dev3 c, k0_dev3_lt c⟩ : Dev nD) = py c := by apply Fin.ext; revert c; decide +kernel
theorem dev4_eq (c : Dev nD) : (⟨k0_dev4 c, k0_dev4_lt c⟩ : Dev nD) = py c := by apply Fin.ext; revert c; decide +kernel
theorem dev5_eq (c : Dev nD) : (⟨k0_dev5 c, k0_dev5_lt c⟩ : Dev nD) = py c := by apply Fin.ext; revert c; decide +kernel
theorem dev6_eq (c : Dev nD) : (⟨k0_dev6 c, k0_dev6_lt c⟩ : Dev nD) = px c := by apply Fin.ext; revert c; decide +kernel
theorem dev7_eq (c : Dev nD) : (⟨k0_dev7 c, k0_dev7_lt c⟩ : Dev nD) = px c := by apply Fin.ext; revert c; decide +kernel
theorem dev8_eq (c : Dev nD) : (⟨k0_dev8 c, k0_dev8_lt c⟩ : Dev nD) = px c := by apply Fin.ext; revert c; decide +kernel
theorem dev9_eq (c : Dev nD) : (⟨k0_dev9 c, k0_dev9_lt c⟩ : Dev nD) = px c := by apply Fin.ext; revert c; decide +kernel
theorem dev10_eq (c : Dev nD) : (⟨k0_dev10 c, k0_dev10_lt c⟩ : Dev nD) = py c := by apply Fin.ext; revert c; decide +kernel
theorem dev11_eq (c : Dev nD) : (⟨k0_dev11 c, k0_dev11_lt c⟩ : Dev nD) = px c := by apply Fin.ext; revert c; decide +kernel
theorem dev12_eq (c : Dev nD) : (⟨k0_dev12 c, k0_dev12_lt c⟩ : Dev nD) = py c := by apply Fin.ext; revert c; decide +kernel
theorem dev13_eq (c : Dev nD) : (⟨k0_dev13 c, k0_dev13_lt c⟩ : Dev nD) = py c := by apply Fin.ext; revert c; decide +kernel
theorem dev14_eq (c : Dev nD) : (⟨k0_dev14 c, k0_dev14_lt c⟩ : Dev nD) = px c := by apply Fin.ext; revert c; decide +kernel
theorem dev15_eq (c : Dev nD) : (⟨k0_dev15 c, k0_dev15_lt c⟩ : Dev nD) = py c := by apply Fin.ext; revert c; decide +kernel
theorem dev16_eq (c : Dev nD) : (⟨k0_dev16 c, k0_dev16_lt c⟩ : Dev nD) = px c := by apply Fin.ext; revert c; decide +kernel
theorem dev17_eq (c : Dev nD) : (⟨k0_dev17 c, k0_dev17_lt c⟩ : Dev nD) = py c := by apply Fin.ext; revert c; decide +kernel
theorem dev18_eq (c : Dev nD) : (⟨k0_dev18 c, k0_dev18_lt c⟩ : Dev nD) = px c := by apply Fin.ext; revert c; decide +kernel
theorem dev19_eq (c : Dev nD) : (⟨k0_dev19 c, k0_dev19_lt c⟩ : Dev nD) = px c := by apply Fin.ext; revert c; decide +kernel
theorem dev20_eq (c : Dev nD) : (⟨k0_dev20 c, k0_dev20_lt c⟩ : Dev nD) = py c := by apply Fin.ext; revert c; decide +kernel
theorem dev21_eq (c : Dev nD) : (⟨k0_dev21 c, k0_dev21_lt c⟩ : Dev nD) = px c := by apply Fin.ext; revert c; decide +kernel
theorem dev22_eq (c : Dev nD) : (⟨k0_dev22 c, k0_dev22_lt c⟩ : Dev nD) = py c := by apply Fin.ext; revert c; decide +kernel

/-! ## Slice offsets -/

theorem off1_eq (c : Dev nD) : k0_off1 c = ![(1 - yb c), 0, 0] := by revert c; decide +kernel
theorem off2_eq (c : Dev nD) : k0_off2 c = ![2 + (1 - xb c), 0, 0] := by revert c; decide +kernel
theorem off3_eq (c : Dev nD) : k0_off3 c = ![(1 - yb c) * 1024, 0] := by revert c; decide +kernel
theorem off4_eq (c : Dev nD) : k0_off4 c = ![(1 - xb c) * 512, 0] := by revert c; decide +kernel
theorem off5_eq (c : Dev nD) : k0_off5 c = ![(1 - yb c) * 1024 + (1 - xb c) * 512, 0] := by revert c; decide +kernel
theorem off6_eq (c : Dev nD) : k0_off6 c = ![(1 - xb c) * 512 + 256, 0] := by revert c; decide +kernel
theorem off7_eq (c : Dev nD) : k0_off7 c = ![(1 - yb c) * 1024 + (1 - xb c) * 512 + 256, 0] := by revert c; decide +kernel
theorem off8_eq (c : Dev nD) : k0_off8 c = ![xb c * 512, 0] := by revert c; decide +kernel
theorem off9_eq (c : Dev nD) : k0_off9 c = ![(1 - yb c) * 1024 + xb c * 512, 0] := by revert c; decide +kernel
theorem off10_eq (c : Dev nD) : k0_off10 c = ![yb c, 0, 0] := by revert c; decide +kernel
theorem off11_eq (c : Dev nD) : k0_off11 c = ![2048 + (1 - xb c) * 1024, 0] := by revert c; decide +kernel
theorem off12_eq (c : Dev nD) : k0_off12 c = ![1024 + (1 - yb c) * 512, 0] := by revert c; decide +kernel
theorem off13_eq (c : Dev nD) : k0_off13 c = ![2048 + (1 - xb c) * 1024 + (1 - yb c) * 512, 0] := by revert c; decide +kernel
theorem off14_eq (c : Dev nD) : k0_off14 c = ![1024 + (1 - yb c) * 512 + 256, 0] := by revert c; decide +kernel
theorem off15_eq (c : Dev nD) : k0_off15 c = ![2048 + (1 - xb c) * 1024 + (1 - yb c) * 512 + 256, 0] := by revert c; decide +kernel
theorem off16_eq (c : Dev nD) : k0_off16 c = ![1024 + yb c * 512, 0] := by revert c; decide +kernel
theorem off17_eq (c : Dev nD) : k0_off17 c = ![2048 + (1 - xb c) * 1024 + yb c * 512, 0] := by revert c; decide +kernel
theorem off18_eq (c : Dev nD) : k0_off18 c = ![2 + xb c, 0, 0] := by revert c; decide +kernel
theorem off19_eq (c : Dev nD) : k0_off19 c = ![yb c * 1024, 0] := by revert c; decide +kernel
theorem off20_eq (c : Dev nD) : k0_off20 c = ![2048 + xb c * 1024, 0] := by revert c; decide +kernel
theorem off21_eq (c : Dev nD) : k0_off21 c = ![yb c * 1024 + (1 - xb c) * 512, 0] := by revert c; decide +kernel
theorem off22_eq (c : Dev nD) : k0_off22 c = ![(1 - xb c) * 512, 0] := by revert c; decide +kernel
theorem off23_eq (c : Dev nD) : k0_off23 c = ![yb c * 1024 + (1 - xb c) * 512, 0] := by revert c; decide +kernel
theorem off24_eq (c : Dev nD) : k0_off24 c = ![2048 + xb c * 1024 + (1 - yb c) * 512, 0] := by revert c; decide +kernel
theorem off25_eq (c : Dev nD) : k0_off25 c = ![1024 + (1 - yb c) * 512, 0] := by revert c; decide +kernel
theorem off26_eq (c : Dev nD) : k0_off26 c = ![2048 + xb c * 1024 + (1 - yb c) * 512, 0] := by revert c; decide +kernel
theorem off27_eq (c : Dev nD) : k0_off27 c = ![yb c * 1024 + (1 - xb c) * 512 + 256, 0] := by revert c; decide +kernel
theorem off28_eq (c : Dev nD) : k0_off28 c = ![(1 - xb c) * 512 + 256, 0] := by revert c; decide +kernel
theorem off29_eq (c : Dev nD) : k0_off29 c = ![yb c * 1024 + (1 - xb c) * 512 + 256, 0] := by revert c; decide +kernel
theorem off30_eq (c : Dev nD) : k0_off30 c = ![2048 + xb c * 1024 + (1 - yb c) * 512 + 256, 0] := by revert c; decide +kernel
theorem off31_eq (c : Dev nD) : k0_off31 c = ![1024 + (1 - yb c) * 512 + 256, 0] := by revert c; decide +kernel
theorem off32_eq (c : Dev nD) : k0_off32 c = ![2048 + xb c * 1024 + (1 - yb c) * 512 + 256, 0] := by revert c; decide +kernel
theorem off33_eq (c : Dev nD) : k0_off33 c = ![2048 + xb c * 1024 + yb c * 512, 0] := by revert c; decide +kernel
theorem off34_eq (c : Dev nD) : k0_off34 c = ![1024 + yb c * 512, 0] := by revert c; decide +kernel
theorem off35_eq (c : Dev nD) : k0_off35 c = ![2 + xb c, yb c * 512, 0] := by revert c; decide +kernel
theorem off36_eq (c : Dev nD) : k0_off36 c = ![2 + xb c, yb c * 512, 0] := by revert c; decide +kernel
theorem off37_eq (c : Dev nD) : k0_off37 c = ![yb c * 1024 + xb c * 512, 0] := by revert c; decide +kernel
theorem off38_eq (c : Dev nD) : k0_off38 c = ![xb c * 512, 0] := by revert c; decide +kernel
theorem off39_eq (c : Dev nD) : k0_off39 c = ![yb c, xb c * 512, 0] := by revert c; decide +kernel
theorem off40_eq (c : Dev nD) : k0_off40 c = ![yb c, xb c * 512, 0] := by revert c; decide +kernel
theorem off41_eq (c : Dev nD) : k0_off41 c = ![2048 + xb c * 1024 + yb c * 512 + 256, 0] := by revert c; decide +kernel
theorem off42_eq (c : Dev nD) : k0_off42 c = ![1024 + yb c * 512 + 256, 0] := by revert c; decide +kernel
theorem off43_eq (c : Dev nD) : k0_off43 c = ![2 + xb c, yb c * 512 + 256, 0] := by revert c; decide +kernel
theorem off44_eq (c : Dev nD) : k0_off44 c = ![2 + xb c, yb c * 512 + 256, 0] := by revert c; decide +kernel
theorem off45_eq (c : Dev nD) : k0_off45 c = ![yb c * 1024 + xb c * 512 + 256, 0] := by revert c; decide +kernel
theorem off46_eq (c : Dev nD) : k0_off46 c = ![xb c * 512 + 256, 0] := by revert c; decide +kernel
theorem off47_eq (c : Dev nD) : k0_off47 c = ![yb c, xb c * 512 + 256, 0] := by revert c; decide +kernel
theorem off48_eq (c : Dev nD) : k0_off48 c = ![yb c, xb c * 512 + 256, 0] := by revert c; decide +kernel
theorem off49_eq (c : Dev nD) : k0_off49 c = ![yb c, xb c * 512, 0] := by revert c; decide +kernel
theorem off50_eq (c : Dev nD) : k0_off50 c = ![2 + xb c, yb c * 512, 0] := by revert c; decide +kernel
theorem off51_eq (c : Dev nD) : k0_off51 c = ![2 + xb c, (1 - yb c) * 512, 0] := by revert c; decide +kernel
theorem off52_eq (c : Dev nD) : k0_off52 c = ![yb c, (1 - xb c) * 512, 0] := by revert c; decide +kernel
theorem off53_eq (c : Dev nD) : k0_off53 c = ![2 + xb c, (1 - yb c) * 512 + 256, 0] := by revert c; decide +kernel
theorem off54_eq (c : Dev nD) : k0_off54 c = ![yb c, (1 - xb c) * 512 + 256, 0] := by revert c; decide +kernel

end Cert.Allreduce

end
-- ==== Proof.Model.lean ====
/-
# Index sets and contents

The kernel cuts its buffers into row ranges. This module names those ranges, says how a range splits in
two, and says what every buffer holds: the partial products of each device, what it sends in the first
exchange, what it sends in the second, and the final result.
-/
module

public import proofs.«01_k».proof.Proof.Geo
public import Idealize.ShloMosaic.Lib.Pipeline.Value

@[expose] public section

noncomputable section

namespace Cert.Allreduce

open Cert.KernelIdeal Cert.KernelIdeal.Gen
open Idealize.ShloMosaic Idealize.ShloMosaic.TcCoe

/-! ## Row ranges -/

/-- Rows `lo ≤ row < lo + n` of a buffer of 4096 rows. -/
def rowsA (lo n : ℕ) : Finset S4096x512.Idx := Finset.univ.filter fun i => lo ≤ (i 0).val ∧ (i 0).val < lo + n
/-- Rows `lo ≤ row < lo + n` of a buffer of 3072 rows. -/
def rowsB (lo n : ℕ) : Finset S3072x512.Idx := Finset.univ.filter fun i => lo ≤ (i 0).val ∧ (i 0).val < lo + n
/-- Rows `lo ≤ row < lo + n` of the batches `b ≤ batch < b + k`. -/
def blk (b k lo n : ℕ) : Finset S4x1024x512.Idx :=
  Finset.univ.filter fun i => (b ≤ (i 0).val ∧ (i 0).val < b + k) ∧ lo ≤ (i 1).val ∧ (i 1).val < lo + n

theorem mem_rowsA {lo n : ℕ} {i : S4096x512.Idx} : i ∈ rowsA lo n ↔ lo ≤ (i 0).val ∧ (i 0).val < lo + n := by simp [rowsA]
theorem mem_rowsB {lo n : ℕ} {i : S3072x512.Idx} : i ∈ rowsB lo n ↔ lo ≤ (i 0).val ∧ (i 0).val < lo + n := by simp [rowsB]
theorem mem_blk {b k lo n : ℕ} {i : S4x1024x512.Idx} :
    i ∈ blk b k lo n ↔ (b ≤ (i 0).val ∧ (i 0).val < b + k) ∧ lo ≤ (i 1).val ∧ (i 1).val < lo + n := by simp [blk]

theorem rowsA_all : (Finset.univ : Finset S4096x512.Idx) = rowsA 0 4096 := by
  ext i; rw [mem_rowsA]; have h : (i 0).val < 4096 := (i 0).isLt; simp; exact h
theorem rowsB_all : (Finset.univ : Finset S3072x512.Idx) = rowsB 0 3072 := by
  ext i; rw [mem_rowsB]; have h : (i 0).val < 3072 := (i 0).isLt; simp; exact h
theorem blk_all : (Finset.univ : Finset S4x1024x512.Idx) = blk 0 4 0 1024 := by
  ext i; rw [mem_blk]; have h : (i 0).val < 4 := (i 0).isLt; have h' : (i 1).val < 1024 := (i 1).isLt; simp; exact ⟨h, h'⟩

/-- A row range is the union of two adjacent ones, named in either order. -/
theorem rowsA_split {lo n lo1 n1 lo2 n2 : ℕ} (h : (lo1 = lo ∧ lo2 = lo + n1 ∨ lo2 = lo ∧ lo1 = lo + n2) ∧ n = n1 + n2) :
    rowsA lo n = rowsA lo1 n1 ∪ rowsA lo2 n2 := by
  ext i; simp only [Finset.mem_union, mem_rowsA]; omega
theorem rowsA_disj {lo lo1 n1 lo2 n2 : ℕ} (h : (lo1 = lo ∧ lo2 = lo + n1 ∨ lo2 = lo ∧ lo1 = lo + n2)) :
    Disjoint (rowsA lo1 n1) (rowsA lo2 n2) := by
  rw [Finset.disjoint_left]; intro i; simp only [mem_rowsA]; omega
theorem rowsB_split {lo n lo1 n1 lo2 n2 : ℕ} (h : (lo1 = lo ∧ lo2 = lo + n1 ∨ lo2 = lo ∧ lo1 = lo + n2) ∧ n = n1 + n2) :
    rowsB lo n = rowsB lo1 n1 ∪ rowsB lo2 n2 := by
  ext i; simp only [Finset.mem_union, mem_rowsB]; omega
theorem rowsB_disj {lo lo1 n1 lo2 n2 : ℕ} (h : (lo1 = lo ∧ lo2 = lo + n1 ∨ lo2 = lo ∧ lo1 = lo + n2)) :
    Disjoint (rowsB lo1 n1) (rowsB lo2 n2) := by
  rw [Finset.disjoint_left]; intro i; simp only [mem_rowsB]; omega
/-- The rows of one range of batches split in two row ranges. -/
theorem blk_split {b k lo n lo1 n1 lo2 n2 : ℕ} (h : (lo1 = lo ∧ lo2 = lo + n1 ∨ lo2 = lo ∧ lo1 = lo + n2) ∧ n = n1 + n2) :
    blk b k lo n = blk b k lo1 n1 ∪ blk b k lo2 n2 := by
  ext i; simp only [Finset.mem_union, mem_blk]; omega
theorem blk_disj {b k lo lo1 n1 lo2 n2 : ℕ} (h : (lo1 = lo ∧ lo2 = lo + n1 ∨ lo2 = lo ∧ lo1 = lo + n2)) :
    Disjoint (blk b k lo1 n1) (blk b k lo2 n2) := by
  rw [Finset.disjoint_left]; intro i; simp only [mem_blk]; omega
/-- A range of batches splits in two ranges of batches. -/
theorem blk_splitB {b k b1 k1 b2 k2 lo n : ℕ} (h : (b1 = b ∧ b2 = b + k1 ∨ b2 = b ∧ b1 = b + k2) ∧ k = k1 + k2) :
    blk b k lo n = blk b1 k1 lo n ∪ blk b2 k2 lo n := by
  ext i; simp only [Finset.mem_union, mem_blk]; omega
theorem blk_disjB {b b1 k1 b2 k2 lo n : ℕ} (h : (b1 = b ∧ b2 = b + k1 ∨ b2 = b ∧ b1 = b + k2)) :
    Disjoint (blk b1 k1 lo n) (blk b2 k2 lo n) := by
  rw [Finset.disjoint_left]; intro i; simp only [mem_blk]; omega

/-- The set of a rectangle of whole rows. -/
theorem rectA_set {off : Fin 2 → ℕ} {size : Fin 2 → ℕ} {inb} {lo n : ℕ} (ho : off = ![lo, 0]) (hs : size = ![n, 512]) :
    (Rect.unit (s := S4096x512) off size inb).set = rowsA lo n := by
  subst ho hs
  ext i; rw [Rect.mem_set_unit, mem_rowsA]
  have h : (i 1).val < 512 := (i 1).isLt
  constructor
  · intro H; exact H 0
  · intro H a; fin_cases a
    · exact H
    · exact ⟨Nat.zero_le _, by show (i 1).val < 0 + 512; omega⟩
theorem rectB_set {off : Fin 2 → ℕ} {size : Fin 2 → ℕ} {inb} {lo n : ℕ} (ho : off = ![lo, 0]) (hs : size = ![n, 512]) :
    (Rect.unit (s := S3072x512) off size inb).set = rowsB lo n := by
  subst ho hs
  ext i; rw [Rect.mem_set_unit, mem_rowsB]
  have h : (i 1).val < 512 := (i 1).isLt
  constructor
  · intro H; exact H 0
  · intro H a; fin_cases a
    · exact H
    · exact ⟨Nat.zero_le _, by show (i 1).val < 0 + 512; omega⟩
theorem rectC_set {off : Fin 3 → ℕ} {size : Fin 3 → ℕ} {inb} {b lo n : ℕ} (ho : off = ![b, lo, 0]) (hs : size = ![1, n, 512]) :
    (Rect.unit (s := S4x1024x512) off size inb).set = blk b 1 lo n := by
  subst ho hs
  ext i; rw [Rect.mem_set_unit, mem_blk]
  have h : (i 2).val < 512 := (i 2).isLt
  constructor
  · intro H; exact ⟨H 0, H 1⟩
  · intro H a; fin_cases a
    · exact H.1
    · exact H.2
    · exact ⟨Nat.zero_le _, by show (i 2).val < 0 + 512; omega⟩

/-! ## Contents -/

variable {F : FTy → Type} [FloatOps F]
variable (m : (ℓ : Loc nD τ sig) → Buf (Elt F) ℓ)

set_option backward.proofsInPublic true in
/-- The index of row `r`, column `n` of a 1024 by 512 array. -/
def ix2 (r n : ℕ) : S1024x512.Idx
  | ⟨0, _⟩ => ⟨r % 1024, Nat.mod_lt _ (by decide)⟩
  | ⟨1, _⟩ => ⟨n % 512, Nat.mod_lt _ (by decide)⟩
set_option backward.proofsInPublic true in
/-- The index of batch `b`, row `r`, column `n` of a 4 by 1024 by 512 array. -/
def ix3 (b r n : ℕ) : S4x1024x512.Idx
  | ⟨0, _⟩ => ⟨b % 4, Nat.mod_lt _ (by decide)⟩
  | ⟨1, _⟩ => ⟨r % 1024, Nat.mod_lt _ (by decide)⟩
  | ⟨2, _⟩ => ⟨n % 512, Nat.mod_lt _ (by decide)⟩

theorem ix2_self (j : S1024x512.Idx) : ix2 (j 0).val (j 1).val = j := by
  funext a; fin_cases a
  · exact Fin.ext (Nat.mod_eq_of_lt (j 0).isLt)
  · exact Fin.ext (Nat.mod_eq_of_lt (j 1).isLt)
theorem ix3_self (i : S4x1024x512.Idx) : ix3 (i 0).val (i 1).val (i 2).val = i := by
  funext a; fin_cases a
  · exact Fin.ext (Nat.mod_eq_of_lt (i 0).isLt)
  · exact Fin.ext (Nat.mod_eq_of_lt (i 1).isLt)
  · exact Fin.ext (Nat.mod_eq_of_lt (i 2).isLt)

/-- Narrowing, widening and adding one value. -/
def tr (x : F .f32) : F .bf16 := FloatOps.truncf .bf16 bitsLt_bf16_f32 x
def ex (x : F .bf16) : F .f32 := FloatOps.extf .f32 bitsLt_bf16_f32 x
def ad (x y : F .f32) : F .f32 := FloatOps.addf x y

/-- A partial product of one batch: the activation of the convolved block times the weights. -/
def Pv (k : FVec F S4x512 .bf16) (w : FVec F S512x512 .bf16) (x : Vec F S1x1024x512 .f32) : FVec F S1024x512 .f32 :=
  matmul dot_S1024x512_S512x512_S1024x512_1_0_0_1_n_n none (k0_pay3 k x) w (constant S1024x512 .f32 0x00000000#32)

/-- Device `c`'s first argument, its taps and its weights. -/
def argX (c : Dev nD) : Vec F S4x1024x512 .f32 := m ((c : Thread nD τ).loc main_arg0)
def argK (c : Dev nD) : Vec F S4x512 .f32 := m ((c : Thread nD τ).loc main_arg1)
def argW (c : Dev nD) : Vec F S512x512 .f32 := m ((c : Thread nD τ).loc main_arg2)
/-- One batch of device `c`'s first argument. -/
def xblk (c : Dev nD) (b : ℕ) : Vec F S1x1024x512 .f32 := fun j => argX m c (ix3 b (j 1).val (j 2).val)

/-- Row `r`, column `n` of device `c`'s partial product for batch `b`. -/
def P (c : Dev nD) (b r n : ℕ) : F .f32 := Pv (k0_pay1 (argK m c)) (k0_pay2 (argW m c)) (xblk m c b) (ix2 r n)
/-- The partner a batch is first exchanged with, and the other one. -/
def fstP (c : Dev nD) (b : ℕ) : Dev nD := if b < 2 then py c else px c
def sndP (c : Dev nD) (b : ℕ) : Dev nD := if b < 2 then px c else py c
/-- The sum of two devices' partial products, narrowed: what is sent in the second exchange. -/
def S2 (c : Dev nD) (b r n : ℕ) : F .bf16 := tr (ad (P m c b r n) (ex (tr (P m (fstP c b) b r n))))
/-- The sum of all four devices' partial products, narrowed, as device `c` forms it. -/
def S4 (c : Dev nD) (b r n : ℕ) : F .bf16 :=
  tr (ad (ad (P m c b r n) (ex (tr (P m (fstP c b) b r n)))) (ex (S2 m (sndP c b) b r n)))
/-- The device that forms the final value of row `r` of batch `b`. -/
def ownerOf (b r : ℕ) : Dev nD := if b < 2 then devAt (r / 512) b else devAt (b - 2) (r / 512)

/-- The accumulator of device `c`. -/
def AC (c : Dev nD) : S4096x512.Idx → F .f32 := fun i => P m c ((i 0).val / 1024) ((i 0).val % 1024) (i 1).val
/-- The send buffer of device `c`. -/
def SB (c : Dev nD) : S4096x512.Idx → F .bf16 := fun i =>
  if (i 0).val / 1024 = yb c ∨ (i 0).val / 1024 = 2 + xb c then S2 m c ((i 0).val / 1024) ((i 0).val % 1024) (i 1).val
  else tr (P m c ((i 0).val / 1024) ((i 0).val % 1024) (i 1).val)
/-- The receive buffer of device `c`. -/
def RB (c : Dev nD) : S3072x512.Idx → F .bf16 := fun i =>
  if (i 0).val < 1024 then tr (P m (py c) (yb c) (i 0).val (i 1).val)
  else if (i 0).val < 2048 then tr (P m (px c) (2 + xb c) ((i 0).val - 1024) (i 1).val)
  else if (i 0).val < 2560 then S2 m (px c) (yb c) (xb c * 512 + ((i 0).val - 2048)) (i 1).val
  else S2 m (py c) (2 + xb c) (yb c * 512 + ((i 0).val - 2560)) (i 1).val
/-- The result, the same on every device. -/
def OU : S4x1024x512.Idx → F .bf16 := fun i => S4 m (ownerOf (i 0).val (i 1).val) (i 0).val (i 1).val (i 2).val

variable {m}

omit [FloatOps F] in
theorem xblk_apply (c : Dev nD) {b : ℕ} {i : S4x1024x512.Idx} {j : S1x1024x512.Idx} (h0 : (i 0).val = b) (h1 : (i 1).val = (j 1).val)
    (h2 : (i 2).val = (j 2).val) : argX m c i = xblk m c b j := by
  unfold xblk; rw [← h0, ← h1, ← h2, ix3_self]

theorem P_apply (c : Dev nD) (b : ℕ) (j : S1024x512.Idx) :
    Pv (k0_pay1 (argK m c)) (k0_pay2 (argW m c)) (xblk m c b) j = P m c b (j 0).val (j 1).val := by
  unfold P; rw [ix2_self]

theorem AC_at (c : Dev nD) {i : S4096x512.Idx} {b r n : ℕ} (h0 : (i 0).val = b * 1024 + r) (hr : r < 1024) (h1 : (i 1).val = n) :
    AC m c i = P m c b r n := by
  unfold AC; rw [show (i 0).val / 1024 = b by omega, show (i 0).val % 1024 = r by omega, h1]
theorem SB_sent (c : Dev nD) {i : S4096x512.Idx} {b r n : ℕ} (h0 : (i 0).val = b * 1024 + r) (hr : r < 1024) (h1 : (i 1).val = n)
    (hb : ¬ (b = yb c ∨ b = 2 + xb c)) : SB m c i = tr (P m c b r n) := by
  unfold SB; rw [show (i 0).val / 1024 = b by omega, show (i 0).val % 1024 = r by omega, h1, if_neg hb]
theorem SB_kept (c : Dev nD) {i : S4096x512.Idx} {b r n : ℕ} (h0 : (i 0).val = b * 1024 + r) (hr : r < 1024) (h1 : (i 1).val = n)
    (hb : b = yb c ∨ b = 2 + xb c) : SB m c i = S2 m c b r n := by
  unfold SB; rw [show (i 0).val / 1024 = b by omega, show (i 0).val % 1024 = r by omega, h1, if_pos hb]
theorem RB_1 (c : Dev nD) {i : S3072x512.Idx} {r n : ℕ} (h0 : (i 0).val = r) (hr : r < 1024) (h1 : (i 1).val = n) :
    RB m c i = tr (P m (py c) (yb c) r n) := by unfold RB; rw [if_pos (by omega), h0, h1]
theorem RB_2 (c : Dev nD) {i : S3072x512.Idx} {r n : ℕ} (h0 : (i 0).val = 1024 + r) (hr : r < 1024) (h1 : (i 1).val = n) :
    RB m c i = tr (P m (px c) (2 + xb c) r n) := by
  unfold RB; rw [if_neg (by omega), if_pos (by omega), h0, h1, show 1024 + r - 1024 = r by omega]
theorem RB_3 (c : Dev nD) {i : S3072x512.Idx} {r n : ℕ} (h0 : (i 0).val = 2048 + r) (hr : r < 512) (h1 : (i 1).val = n) :
    RB m c i = S2 m (px c) (yb c) (xb c * 512 + r) n := by
  unfold RB; rw [if_neg (by omega), if_neg (by omega), if_pos (by omega), h0, h1, show 2048 + r - 2048 = r by omega]
theorem RB_4 (c : Dev nD) {i : S3072x512.Idx} {r n : ℕ} (h0 : (i 0).val = 2560 + r) (hr : r < 512) (h1 : (i 1).val = n) :
    RB m c i = S2 m (py c) (2 + xb c) (yb c * 512 + r) n := by
  unfold RB; rw [if_neg (by omega), if_neg (by omega), if_neg (by omega), h0, h1, show 2560 + r - 2560 = r by omega]
theorem OU_1 (c : Dev nD) {i : S4x1024x512.Idx} {r n : ℕ} (hb : (i 0).val = yb c) (h0 : (i 1).val = xb c * 512 + r) (hr : r < 512)
    (h1 : (i 2).val = n) : OU m i = S4 m c (yb c) (xb c * 512 + r) n := by
  unfold OU ownerOf
  rw [if_pos (by have := yb_le c; omega), hb, h0, h1, show (xb c * 512 + r) / 512 = xb c by omega, devAt_self]
theorem OU_2 (c : Dev nD) {i : S4x1024x512.Idx} {r n : ℕ} (hb : (i 0).val = 2 + xb c) (h0 : (i 1).val = yb c * 512 + r) (hr : r < 512)
    (h1 : (i 2).val = n) : OU m i = S4 m c (2 + xb c) (yb c * 512 + r) n := by
  unfold OU ownerOf
  rw [if_neg (by omega), hb, h0, h1, show (yb c * 512 + r) / 512 = yb c by omega, show 2 + xb c - 2 = xb c by omega, devAt_self]

/-! ## The stored values -/

theorem pay4_eq (k : FVec F S4x512 .bf16) (w : FVec F S512x512 .bf16) (x : Vec F S1x1024x512 .f32) (j : S1024x512.Idx) :
    k0_pay4 w (k0_pay3 k x) (constant S1024x512 .f32 0x00000000#32) j = tr (Pv k w x j) := by
  unfold k0_pay4; rw [shapeCast_self]; rfl
theorem pay7_eq (k : FVec F S4x512 .bf16) (w : FVec F S512x512 .bf16) (x : Vec F S1x1024x512 .f32) (j : S1024x512.Idx) :
    k0_pay7 w (k0_pay5 k x) k0_pay6 j = tr (Pv k w x j) := by
  unfold k0_pay7; rw [shapeCast_self]; rfl
theorem pay12_eq (k : FVec F S4x512 .bf16) (w : FVec F S512x512 .bf16) (x : Vec F S1x1024x512 .f32) (j : S1024x512.Idx) :
    k0_pay12 k w (k0_pay8 x) (k0_pay9 k x) (k0_pay10 x) (k0_pay11 k) j = Pv k w x j := by
  unfold k0_pay12; rw [shapeCast_self]; rfl
theorem pay16_eq (k : FVec F S4x512 .bf16) (w : FVec F S512x512 .bf16) (x : Vec F S1x1024x512 .f32) (j : S1024x512.Idx) :
    k0_pay16 k w (k0_pay13 x) (k0_pay14 k x) (k0_pay15 k x) j = Pv k w x j := by
  unfold k0_pay16; rw [shapeCast_self]; rfl
theorem pay17_eq (a : Vec F S256x512 .f32) (r : Vec F S256x512 .bf16) (j : S256x512.Idx) :
    k0_pay17 a r j = tr (ad (a j) (ex (r j))) := by unfold k0_pay17; rw [shapeCast_self]; rfl
theorem pay18_eq (a : Vec F S256x512 .f32) (r : Vec F S256x512 .bf16) (j : S256x512.Idx) :
    k0_pay18 a r j = tr (ad (a j) (ex (r j))) := by unfold k0_pay18; rw [shapeCast_self]; rfl
theorem pay19_eq (a : Vec F S256x512 .f32) (r : Vec F S256x512 .bf16) (j : S256x512.Idx) :
    k0_pay19 a r j = tr (ad (a j) (ex (r j))) := by unfold k0_pay19; rw [shapeCast_self]; rfl
theorem pay20_eq (a : Vec F S256x512 .f32) (r : Vec F S256x512 .bf16) (j : S256x512.Idx) :
    k0_pay20 a r j = tr (ad (a j) (ex (r j))) := by unfold k0_pay20; rw [shapeCast_self]; rfl

set_option backward.proofsInPublic true in
/-- A block's index without its leading axis. -/
def tl (j : S1x256x512.Idx) : S256x512.Idx := fun a => j a.succ

theorem pay22_eq (a : Vec F S256x512 .f32) (r r' : Vec F S256x512 .bf16) (j : S1x256x512.Idx) :
    k0_pay22 (k0_pay21 a r r') j = tr (ad (ad (a (tl j)) (ex (r (tl j)))) (ex (r' (tl j)))) := by
  unfold k0_pay22 k0_pay21; rw [shapeCast_self]; exact shapeCast_addUnit_apply ![256, 512] _ _ j
theorem pay24_eq (a : Vec F S256x512 .f32) (r r' : Vec F S256x512 .bf16) (j : S1x256x512.Idx) :
    k0_pay24 (k0_pay23 a r r') j = tr (ad (ad (a (tl j)) (ex (r (tl j)))) (ex (r' (tl j)))) := by
  unfold k0_pay24 k0_pay23; rw [shapeCast_self]; exact shapeCast_addUnit_apply ![256, 512] _ _ j
theorem pay26_eq (a : Vec F S256x512 .f32) (r r' : Vec F S256x512 .bf16) (j : S1x256x512.Idx) :
    k0_pay26 (k0_pay25 a r r') j = tr (ad (ad (a (tl j)) (ex (r (tl j)))) (ex (r' (tl j)))) := by
  unfold k0_pay26 k0_pay25; rw [shapeCast_self]; exact shapeCast_addUnit_apply ![256, 512] _ _ j
theorem pay28_eq (a : Vec F S256x512 .f32) (r r' : Vec F S256x512 .bf16) (j : S1x256x512.Idx) :
    k0_pay28 (k0_pay27 a r) r' j = tr (ad (ad (a (tl j)) (ex (r (tl j)))) (ex (r' (tl j)))) := by
  unfold k0_pay28 k0_pay27; rw [shapeCast_self]; exact shapeCast_addUnit_apply ![256, 512] _ _ j

end Cert.Allreduce

end
-- ==== Proof.Cells.lean ====
/-
# Semaphores, payloads and levels

Every device owns a barrier cell, twenty send cells and twenty receive cells. This module says which part
of which buffer each of the twenty transfers moves, what each cell hands over when it is waited for, in
which order the cells may be waited for, and what a device owes while it runs.
-/
module

public import proofs.«01_k».proof.Proof.Model
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' rounds in the ghost algebra. -/
def ER : Emb UB (MT nD τ sig Unit (Elt F) ℕ UU ℕ) := (Emb.inl : Emb UB (UB × Counters)).trans embR
instance ER_lands : (ER (F := F)).LandsIn (upEmb : UEmb _ 𝕄) := by unfold ER; infer_instance
/-- The local copies' counters in the ghost algebra. -/
abbrev EC : UEmb Counters (MT nD τ sig Unit (Elt F) ℕ UU ℕ) := countersEmb

variable (m : (ℓ : Loc nD τ sig) → Buf (Elt F) ℓ)

/-! ## The transfers -/

/-- Whether a transfer goes to `py c` (else it goes to `px c`). -/
def toPy : ℕ → Bool
  | 0 | 2 | 4 | 7 | 9 | 11 | 13 | 14 | 16 | 18 => true
  | _ => false
/-- The device transfer `k` of `c` goes to, which is also the device `c` receives transfer `k` from. -/
def peer (k : ℕ) (c : Dev nD) : Dev nD := if toPy k then py c else px c
theorem peer_peer (k : ℕ) (c : Dev nD) : peer k (peer k c) = c := by
  unfold peer; by_cases h : toPy k
  · rw [if_pos h, if_pos h, py_py]
  · rw [if_neg h, if_neg h, px_px]
/-- The number of rows transfer `k` moves. -/
def len : ℕ → ℕ
  | 4 | 5 | 14 | 15 => 512
  | _ => 256
/-- The first row of the send buffer that transfer `k` of `c` reads. -/
def sR (c : Dev nD) : ℕ → ℕ
  | 0 => (1 - yb c) * 1024 + (1 - xb c) * 512
  | 1 => 2048 + (1 - xb c) * 1024 + (1 - yb c) * 512
  | 2 => (1 - yb c) * 1024 + (1 - xb c) * 512 + 256
  | 3 => 2048 + (1 - xb c) * 1024 + (1 - yb c) * 512 + 256
  | 4 => (1 - yb c) * 1024 + xb c * 512
  | 5 => 2048 + (1 - xb c) * 1024 + yb c * 512
  | 6 => yb c * 1024 + (1 - xb c) * 512
  | 7 => 2048 + xb c * 1024 + (1 - yb c) * 512
  | 8 => yb c * 1024 + (1 - xb c) * 512 + 256
  | 9 => 2048 + xb c * 1024 + (1 - yb c) * 512 + 256
  | _ => 0
/-- The first row of the receive buffer of `c` that transfer `k` writes. -/
def dR (c : Dev nD) : ℕ → ℕ
  | 0 => (1 - xb c) * 512
  | 1 => 1024 + (1 - yb c) * 512
  | 2 => (1 - xb c) * 512 + 256
  | 3 => 1024 + (1 - yb c) * 512 + 256
  | 4 => xb c * 512
  | 5 => 1024 + yb c * 512
  | 6 => 2048
  | 7 => 2560
  | 8 => 2304
  | 9 => 2816
  | _ => 0
/-- The batch of the output buffer that transfer `k` of `c` reads. -/
def sb (c : Dev nD) : ℕ → ℕ
  | 10 | 12 | 14 | 16 | 18 => yb c
  | _ => 2 + xb c
/-- The first row of that batch that it reads. -/
def so (c : Dev nD) : ℕ → ℕ
  | 10 => xb c * 512
  | 11 => yb c * 512
  | 12 => xb c * 512 + 256
  | 13 => yb c * 512 + 256
  | 14 => xb c * 512
  | 15 => yb c * 512
  | 16 => (1 - xb c) * 512
  | 17 => (1 - yb c) * 512
  | 18 => (1 - xb c) * 512 + 256
  | 19 => (1 - yb c) * 512 + 256
  | _ => 0
/-- The batch of the output buffer of `c` that transfer `k` writes. -/
def db (c : Dev nD) : ℕ → ℕ
  | 10 | 12 => yb c
  | 11 | 13 => 2 + xb c
  | 14 | 16 | 18 => 1 - yb c
  | _ => 2 + (1 - xb c)
/-- The first row of that batch that it writes. -/
def dO (c : Dev nD) : ℕ → ℕ
  | 10 => (1 - xb c) * 512
  | 11 => (1 - yb c) * 512
  | 12 => (1 - xb c) * 512 + 256
  | 13 => (1 - yb c) * 512 + 256
  | 14 => xb c * 512
  | 15 => yb c * 512
  | 16 => (1 - xb c) * 512
  | 17 => (1 - yb c) * 512
  | 18 => (1 - xb c) * 512 + 256
  | 19 => (1 - yb c) * 512 + 256
  | _ => 0
/-- The share of the output buffer that transfer `k` reads with. -/
def shr : ℕ → PosShare TreeShare
  | 10 | 11 | 12 | 13 => fullShare.right.left
  | 14 | 15 => fullShare.right.right
  | _ => fullShare.right

/-- The memory transfer `k` writes on device `d`, at any contents. -/
def landing (d : Dev nD) (k : ℕ) : sProp 𝕄 :=
  if k < 10 then iprop(∃ f : Buf (Elt F) ((d : Thread nD τ).loc cc0_scratch2), ((d : Thread nD τ).loc cc0_scratch2) ↦[rowsB (dR d k) (len k)]{fullShare} f)
  else iprop(∃ f : Buf (Elt F) ((d : Thread nD τ).loc cc0_scratch3), ((d : Thread nD τ).loc cc0_scratch3) ↦[blk (db d k) 1 (dO d k) (len k)]{fullShare} f)
/-- The memory transfer `k` writes on device `d`, once written. -/
def landed (d : Dev nD) (k : ℕ) : sProp 𝕄 :=
  if k < 10 then iprop(((d : Thread nD τ).loc cc0_scratch2) ↦[rowsB (dR d k) (len k)]{fullShare} (RB m d : Buf (Elt F) ((d : Thread nD τ).loc cc0_scratch2)))
  else iprop(((d : Thread nD τ).loc cc0_scratch3) ↦[blk (db d k) 1 (dO d k) (len k)]{fullShare} (OU m : Buf (Elt F) ((d : Thread nD τ).loc cc0_scratch3)))
/-- The memory transfer `k` of device `c` reads. -/
def source (c : Dev nD) (k : ℕ) : sProp 𝕄 :=
  if k < 10 then iprop(((c : Thread nD τ).loc cc0_scratch1) ↦[rowsA (sR c k) (len k)]{fullShare} (SB m c : Buf (Elt F) ((c : Thread nD τ).loc cc0_scratch1)))
  else iprop(((c : Thread nD τ).loc cc0_scratch3) ↦[blk (sb c k) 1 (so c k) (len k)]{shr k} (OU m : Buf (Elt F) ((c : Thread nD τ).loc cc0_scratch3)))
/-- What a device learns from its barrier: the memory its partners let it write. -/
def barPay (d : Dev nD) (b : Bool) : sProp 𝕄 :=
  if b then iprop(landing (px d) 1 ∗ landing (px d) 3 ∗ landing (px d) 5 ∗ landing (px d) 6 ∗ landing (px d) 8 ∗ landing (px d) 10 ∗ landing (px d) 12
    ∗ landing (px d) 15 ∗ landing (px d) 17 ∗ landing (px d) 19)
  else iprop(landing (py d) 0 ∗ landing (py d) 2 ∗ landing (py d) 4 ∗ landing (py d) 7 ∗ landing (py d) 9 ∗ landing (py d) 11 ∗ landing (py d) 13
    ∗ landing (py d) 14 ∗ landing (py d) 16 ∗ landing (py d) 18)

omit [FloatOps F] in
instance landing_storable (d : Dev nD) (k : ℕ) : BI.Storable (upEmb : UEmb _ 𝕄) (landing (F := F) d k) := by unfold landing; split <;> infer_instance
instance landed_storable (d : Dev nD) (k : ℕ) : BI.Storable (upEmb : UEmb _ 𝕄) (landed m d k) := by unfold landed; split <;> infer_instance
instance source_storable (d : Dev nD) (k : ℕ) : BI.Storable (upEmb : UEmb _ 𝕄) (source m d k) := by unfold source; split <;> infer_instance
omit [FloatOps F] in
instance barPay_storable (d : Dev nD) (b : Bool) : BI.Storable (upEmb : UEmb _ 𝕄) (barPay (F := F) d b) := by unfold barPay; split <;> infer_instance

/-! ## The cells -/

/-- The runtime's barrier semaphore. -/
abbrev barS : Sem sig := (SemArray.scalar (sig.barrier 0 rfl) : Sems sig S_).sem
set_option backward.proofsInPublic true in
/-- The DMA semaphore number `i`. -/
def dm (i : ℕ) : DmaSem sig := ⟨i % 50, Nat.mod_lt _ (by decide)⟩
abbrev barCell (c : Dev nD) : GSem nD τ sig := ((c : Thread nD τ), .reg barS)
abbrev sendCell (c : Dev nD) (k : ℕ) : GSem nD τ sig := ((c : Thread nD τ), .dma (dm k))
abbrev recvCell (c : Dev nD) (k : ℕ) : GSem nD τ sig := ((c : Thread nD τ), .dma (dm (20 + k)))

/-- The credit of a transfer of 256 or 512 rows into the receive buffer or into the output buffer. -/
abbrev NB1 : ℕ := ((Memref.whole cc0_scratch2 : Memref sig .tc .vmem S3072x512 .bf16).slice (Rect.unit (s := S3072x512) ![2048, 0] S256x512.size inb_S3072x512_S256x512_2048_0) (fun _ => rfl)).view.dmaCredit
abbrev NB2 : ℕ := ((Memref.whole cc0_scratch2 : Memref sig .tc .vmem S3072x512 .bf16).slice (Rect.unit (s := S3072x512) (k0_off8 0) S512x512.size (k0_off8_inb 0)) (fun _ => rfl)).view.dmaCredit
abbrev NC1 : ℕ := ((Memref.whole cc0_scratch3 : Memref sig .tc .vmem S4x1024x512 .bf16).slice (Rect.unit (s := S4x1024x512) (k0_off54 0) S1x256x512.size (k0_off54_inb 0)) (fun _ => rfl)).view.dmaCredit
abbrev NC2 : ℕ := ((Memref.whole cc0_scratch3 : Memref sig .tc .vmem S4x1024x512 .bf16).slice (Rect.unit (s := S4x1024x512) (k0_off49 0) S1x512x512.size (k0_off49_inb 0)) (fun _ => rfl)).view.dmaCredit
/-- The credit of transfer `k`. -/
def amt : ℕ → ℕ
  | 0 | 1 | 2 | 3 | 6 | 7 | 8 | 9 => NB1
  | 4 | 5 => NB2
  | 14 | 15 => NC2
  | _ => NC1
theorem NB1_pos : 0 < NB1 := View.dmaCredit_pos _ (by decide)
theorem NB2_pos : 0 < NB2 := View.dmaCredit_pos _ (by decide)
theorem NC1_pos : 0 < NC1 := View.dmaCredit_pos _ (by decide)
theorem NC2_pos : 0 < NC2 := View.dmaCredit_pos _ (by decide)
theorem amt_pos (k : ℕ) : 0 < amt k := by
  unfold amt; split <;> first | exact NB1_pos | exact NB2_pos | exact NC2_pos | exact NC1_pos

/-- One round: a barrier cell has two duties of one unit, a send or a receive cell one duty of the transfer's credit. -/
def Rd : Rounds.Schedule (GSem nD τ sig) Bool 𝕄 where
  duties g r := if r = 0 ∧ g.1.2 = .tc then (match g.2 with
    | .reg s => if s = barS then Finset.univ else ∅
    | .dma i => if i.val < 40 then {false} else ∅) else ∅
  unitless _ := False
  amount g _ _ := match g.2 with
    | .reg _ => 1
    | .dma i => amt (i.val % 20)
  payload g _ d := match g.2 with
    | .reg _ => barPay g.1.1 d
    | .dma i => if i.val < 20 then source m g.1.1 i.val else landed m g.1.1 (i.val - 20)
  amount_pos g _ _ _ := by
    dsimp only; split
    · exact Nat.one_pos
    · exact amt_pos _

instance Rd_payload_storable (g : GSem nD τ sig) (r : ℕ) (d : Bool) :
    BI.Storable (upEmb : UEmb _ 𝕄) ((Rd m).payload g r d) := by
  dsimp only [Rd]; split
  · infer_instance
  · split <;> infer_instance

section Sched
variable (c : Dev nD)

theorem dm_val {i : ℕ} (h : i < 50) : (dm i).val = i := Nat.mod_eq_of_lt h

theorem duties_bar : (Rd m).duties (barCell c) 0 = Finset.univ := by
  dsimp only [Rd]; rw [if_pos ⟨rfl, rfl⟩, if_pos rfl]
theorem duties_dma {i : ℕ} (h : i < 40) : (Rd m).duties ((c : Thread nD τ), .dma (dm i)) 0 = {false} := by
  dsimp only [Rd]; rw [if_pos ⟨rfl, rfl⟩, if_pos (by rw [dm_val (by omega)]; exact h)]
theorem duties_later (g : GSem nD τ sig) : ∀ r, 1 ≤ r → (Rd m).duties g r = ∅ :=
  fun r hr => by dsimp only [Rd]; rw [if_neg fun h => by omega]
theorem amount_bar (d : Bool) : (Rd m).amount (barCell c) 0 d = 1 := rfl
theorem amount_send {k : ℕ} (h : k < 20) (d : Bool) : (Rd m).amount (sendCell c k) 0 d = amt k := by
  dsimp only [Rd]; rw [dm_val (by omega), Nat.mod_eq_of_lt h]
theorem amount_recv {k : ℕ} (h : k < 20) (d : Bool) : (Rd m).amount (recvCell c k) 0 d = amt k := by
  dsimp only [Rd]; rw [dm_val (by omega), show (20 + k) % 20 = k by omega]
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_send {k : ℕ} (h : k < 20) : (Rd m).expect (sendCell c k) 0 = amt k := by
  unfold Schedule.expect Schedule.amountOf; rw [duties_dma m c (by omega), Finset.sum_singleton, amount_send m c h]
theorem expect_recv {k : ℕ} (h : k < 20) : (Rd m).expect (recvCell c k) 0 = amt k := by
  unfold Schedule.expect Schedule.amountOf; rw [duties_dma m c (by omega), Finset.sum_singleton, amount_recv m c h]
theorem payload_bar (d : Bool) : (Rd m).payload (barCell c) 0 d = barPay c d := rfl
theorem payload_send {k : ℕ} (h : k < 20) (d : Bool) : (Rd m).payload (sendCell c k) 0 d = source m c k := by
  dsimp only [Rd]; rw [dm_val (by omega), if_pos h]
theorem payload_recv {k : ℕ} (h : k < 20) (d : Bool) : (Rd m).payload (recvCell c k) 0 d = landed m c k := by
  dsimp only [Rd]; rw [dm_val (by omega), if_neg (by omega), Nat.add_sub_cancel_left]

/-- Everything a barrier cell hands over. -/
theorem rest_bar : bigSep ((Rd m).duties (barCell c) 0 \ ∅) (fun d => (Rd m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send {k : ℕ} (h : k < 20) :
    bigSep ((Rd m).duties (sendCell c k) 0 \ ∅) (fun d => (Rd m).payload (sendCell c k) 0 d) = source m c k := by
  rw [Finset.sdiff_empty, duties_dma m c (by omega), bigSep_singleton, payload_send m c h]
theorem rest_recv {k : ℕ} (h : k < 20) :
    bigSep ((Rd m).duties (recvCell c k) 0 \ ∅) (fun d => (Rd m).payload (recvCell c k) 0 d) = landed m c k := by
  rw [Finset.sdiff_empty, duties_dma m c (by omega), bigSep_singleton, payload_recv m c h]

end Sched

/-! ## What a device owes; the levels -/

/-- The credit of the transfers in the list, which device `c` has still to send. -/
def owed (c : Dev nD) : List ℕ → CellTallies nD τ sig Unit
  | [] => 0
  | k :: ks => owed c ks + tallyAt (recvCell (peer k c) k) () (amt k)
/-- The transfers in the order they are sent. -/
abbrev order : List ℕ := [0, 2, 4, 1, 3, 5, 6, 7, 8, 9, 11, 10, 13, 12, 14, 15, 17, 16, 19, 18]
/-- What device `c` owes after its first signal, and at launch. -/
def O₁ (c : Dev nD) : CellTallies nD τ sig Unit := owed c order + tallyAt (barCell (px c)) () 1
def O₀ (c : Dev nD) : CellTallies nD τ sig Unit := O₁ c + tallyAt (barCell (py c)) () 1

/-- The cells with a level: those of the TensorCores. -/
def L (g : GSem nD τ sig) : Finset Unit := if g.1.2 = .tc then {()} else ∅
/-- The level of the DMA semaphore number `i`. -/
def lvD (i : ℕ) : ℕ := if i < 20 then 0 else if i < 26 then 2 else if i < 30 then 3 else if i < 34 then 4 else if i < 40 then 5 else 0
/-- The level of a semaphore: a wait at one level may only be waited for by cells of lower levels. -/
def lv (g : GSem nD τ sig) (_ : Unit) : ℕ := match g.2 with
  | .reg _ => 1
  | .dma i => lvD i.val

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {ks : List ℕ} {g : GSem nD τ sig} {u : Unit} (h : 0 < owed c ks g u) :
    ∃ k ∈ ks, g = recvCell (peer k c) k := by
  induction ks with
  | nil => exact absurd h (Nat.lt_irrefl 0)
  | cons k ks ih =>
    unfold owed at h
    rw [Pi.add_apply, Finsupp.add_apply, tallyAt_apply] at h
    by_cases hg : g = recvCell (peer k c) k ∧ u = ()
    · exact ⟨k, List.mem_cons_self, hg.1⟩
    · rw [if_neg hg, Nat.add_zero] at h
      obtain ⟨k', h1, h2⟩ := ih h
      exact ⟨k', List.mem_cons_of_mem _ h1, h2⟩
theorem O₀_pos {c : Dev nD} {g : GSem nD τ sig} {u : Unit} (h : 0 < O₀ c g u) :
    (∃ k ∈ order, g = recvCell (peer k c) k) ∨ g = barCell (px c) ∨ g = barCell (py c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  exact hn.1 (owed_pos (by simpa using h))

omit [FloatOps F] in
/-- A device may wait on a cell while it owes transfers of higher levels. -/
theorem mayWait (c : Dev nD) (sm : SemLoc sig) (ks : List ℕ) (n : ℕ) (hs : lv ((c : Thread nD τ), sm) () ≤ n)
    (hk : ∀ k ∈ ks, n < lvD ((20 + k) % 50)) : (levAts L lv : sProp 𝕄) ⊢ MayWait (c : Thread nD τ) sm () (owed c ks) :=
  MayOwe.of_cut (L := L) (lev := lv) n (fun p hp => by rw [Finset.mem_singleton.mp hp, L_tc]; exact Finset.mem_singleton_self _)
    (fun g u hg => by obtain ⟨k, -, rfl⟩ := owed_pos hg; rw [L_tc]; exact Finset.mem_singleton_self _)
    (fun p hp => by rw [Finset.mem_singleton.mp hp]; exact hs)
    (fun g u hg => by obtain ⟨k, h1, rfl⟩ := owed_pos hg; exact hk k h1)

/-! ## What a device holds -/

/-- The cells of one device: the barrier, then the forty send and receive cells. -/
abbrev kcell (ck : Dev nD × Option (Fin 40)) : GSem nD τ sig := match ck.2 with
  | none => barCell ck.1
  | some i => ((ck.1 : Thread nD τ), .dma (dm i.val))

/-- The cells' invariants, under the names `K`, and that every cell has reached its first round. -/
def records (K : Dev nD × Option (Fin 40) → ℕ) : sProp 𝕄 :=
  bigSep Finset.univ (fun ck : Dev nD × Option (Fin 40) => iprop(cellInv ER (Rd m) (K ck) (kcell ck) ∗ reached ER (kcell ck) 0))
instance records_persistent (K) : BI.Persistent (records m K) := by unfold records; infer_instance
/-- What every step may use again and again. -/
def ctx (K : Dev nD × Option (Fin 40) → ℕ) : sProp 𝕄 := iprop(records m K ∗ levAts L lv)
instance ctx_persistent (K) : BI.Persistent (ctx m K) := by unfold ctx; infer_instance

theorem ctx_lev (K) : ctx m K ⊢ (levAts L lv : sProp 𝕄) := by unfold ctx; iintro ⟨-, H⟩; iexact H
theorem inv_at (K) (ck : Dev nD × Option (Fin 40)) : ctx m K ⊢ cellInv ER (Rd m) (K ck) (kcell ck) := by
  have h : records m K ⊢ iprop(cellInv ER (Rd m) (K ck) (kcell ck) ∗ reached ER (kcell ck) 0) := bigSep_elim (Finset.mem_univ ck)
  unfold ctx; iintro ⟨H, -⟩
  ihave H := h $$ H
  icases H with ⟨H, -⟩; iexact H
theorem reached_at (K) (ck : Dev nD × Option (Fin 40)) : ctx m K ⊢ reached ER (kcell ck) 0 := by
  have h : records m K ⊢ iprop(cellInv ER (Rd m) (K ck) (kcell ck) ∗ reached ER (kcell ck) 0) := bigSep_elim (Finset.mem_univ ck)
  unfold ctx; iintro ⟨H, -⟩
  ihave H := h $$ H
  icases H with ⟨-, H⟩; iexact H

set_option backward.proofsInPublic true in
/-- The index of a send or receive cell. -/
def ki (i : ℕ) : Fin 40 := ⟨i % 40, Nat.mod_lt _ (by decide)⟩
theorem ki_val {i : ℕ} (h : i < 40) : (ki i).val = i := Nat.mod_eq_of_lt h
theorem inv_dma (K) (c : Dev nD) {i : ℕ} (h : i < 40) : ctx m K ⊢ cellInv ER (Rd m) (K (c, some (ki i))) ((c : Thread nD τ), .dma (dm i)) := by
  have := inv_at m K (c, some (ki i)); dsimp only [kcell] at this; rwa [ki_val h] at this
theorem reached_dma (K) (c : Dev nD) {i : ℕ} (h : i < 40) : ctx m K ⊢ reached ER (((c : Thread nD τ), .dma (dm i)) : GSem nD τ sig) 0 := by
  have := reached_at m K (c, some (ki i)); dsimp only [kcell] at this; rwa [ki_val h] at this

/-- What device `c` holds to send transfer `k`, what it holds once it is sent, and what it holds to receive it. -/
def sTok (c : Dev nD) (k : ℕ) : sProp 𝕄 :=
  iprop(atPos ER (sendCell c k) 0 ∅ 0 ∗ dutyTok ER (sendCell c k) 0 false ∗ dutyTok ER (recvCell (peer k c) k) 0 false)
def sFly (c : Dev nD) (k : ℕ) : sProp 𝕄 := iprop(cred (tallyAt (sendCell c k) () (amt k)) ∗ atPos ER (sendCell c k) 0 ∅ 0)
def rTok (c : Dev nD) (k : ℕ) : sProp 𝕄 := iprop(atPos ER (recvCell c k) 0 ∅ 0 ∗ cred (tallyAt (recvCell c k) () (amt k)))
/-- Device `c` owes the transfers in the list and nothing else. -/
def OW (c : Dev nD) (ks : List ℕ) : sProp 𝕄 := iprop(∃ W : Waits sig Unit, owes (c : Thread nD τ) (owed c ks) W)

end Cert.Allreduce

end
-- ==== Proof.Steps.lean ====
/-
# One step at a time

Each theorem here runs one kind of operation of the kernel: a load, a store, a transfer to a partner, a
wait for a transfer, a local copy. The operations of the kernel are instances of these.
-/
module

public import proofs.«01_k».proof.Proof.Cells
public import Mathlib.Tactic.IntervalCases

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev accM : Memref sig .tc .vmem S4096x512 .f32 := Memref.whole cc0_scratch0
abbrev sbM : Memref sig .tc .vmem S4096x512 .bf16 := Memref.whole cc0_scratch1
abbrev rbM : Memref sig .tc .vmem S3072x512 .bf16 := Memref.whole cc0_scratch2
abbrev ouM : Memref sig .tc .vmem S4x1024x512 .bf16 := Memref.whole cc0_scratch3

/-- Rows of the accumulator, of the send buffer, of the receive buffer, and of the output buffer of device `c`. -/
def accP (c : Dev nD) (lo n : ℕ) (f : S4096x512.Idx → F .f32) : sProp 𝕄 :=
  ((c : Thread nD τ).loc cc0_scratch0) ↦[rowsA lo n]{fullShare} (f : Buf (Elt F) ((c : Thread nD τ).loc cc0_scratch0))
def sbP (c : Dev nD) (lo n : ℕ) (f : S4096x512.Idx → F .bf16) : sProp 𝕄 :=
  ((c : Thread nD τ).loc cc0_scratch1) ↦[rowsA lo n]{fullShare} (f : Buf (Elt F) ((c : Thread nD τ).loc cc0_scratch1))
def rbP (c : Dev nD) (lo n : ℕ) (f : S3072x512.Idx → F .bf16) : sProp 𝕄 :=
  ((c : Thread nD τ).loc cc0_scratch2) ↦[rowsB lo n]{fullShare} (f : Buf (Elt F) ((c : Thread nD τ).loc cc0_scratch2))
def ouP (c : Dev nD) (b lo n : ℕ) (q : PosShare TreeShare) (f : S4x1024x512.Idx → F .bf16) : sProp 𝕄 :=
  ((c : Thread nD τ).loc cc0_scratch3) ↦[blk b 1 lo n]{q} (f : Buf (Elt F) ((c : Thread nD τ).loc cc0_scratch3))

theorem rowsA_sub {lo n lo' n' : ℕ} (h : lo ≤ lo' ∧ lo' + n' ≤ lo + n) : rowsA lo' n' ⊆ rowsA lo n :=
  fun i hi => mem_rowsA.mpr (by have := mem_rowsA.mp hi; omega)
theorem rowsB_sub {lo n lo' n' : ℕ} (h : lo ≤ lo' ∧ lo' + n' ≤ lo + n) : rowsB lo' n' ⊆ rowsB lo n :=
  fun i hi => mem_rowsB.mpr (by have := mem_rowsB.mp hi; omega)

section Access
variable {c : Dev nD}

/-! ## Stores -/

theorem store_acc {α : Type} {Q : α → sProp 𝕄} {off size : Fin 2 → ℕ} {inb} {lo n : ℕ} {w : (Rect.unit (s := S4096x512) off size inb).shape.Idx → Elt F .f32} {hx hm}
    {k : PUnit → Prog (TpuEff nD τ sig (Elt F) Λ₀ .tc) α} (f g : S4096x512.Idx → F .f32) (ho : off = ![lo, 0]) (hs : size = ![n, 512])
    (hw : ∀ j, w j = g ((Rect.unit (s := S4096x512) off size inb).emb j)) :
    accP c lo n f ⊢ iprop((accP c lo n g -∗ run c (k ⟨⟩) Q)
      -∗ run c (.op (.store accM (Rect.unit (s := S4096x512) off size inb) w Finset.univ hx hm) k) Q) := by
  have hset : (accM.access (Rect.unit (s := S4096x512) off size inb)).set = rowsA lo n := (View.set_slice_whole _ _).trans (rectA_set ho hs)
  have h := wp_store (defs := defs₀ (F := F)) 𝒱₀ (c : Thread nD τ) none (Γ := []) Set.univ (m := accM) (r := Rect.unit (s := S4096x512) off size inb) (w := w) (Mk := Finset.univ)
    (hx := hx) (hm := hm) (k := k) (Q := Q) (f := f) (S := rowsA lo n) (by rw [← hset]; exact subset_rfl)
  refine h.trans (wand_mono_left (wand_mono_left (Entails.of_eq (pointsTo_congr ?_))))
  intro i hi
  rw [← hset] at hi
  obtain ⟨j, -, rfl⟩ := Finset.mem_map.mp hi
  have hj := View.write_emb_of_mem (Val := Elt F) (v := accM.access (Rect.unit (s := S4096x512) off size inb)) f w (Finset.mem_univ j)
  exact hj.trans (hw j)

theorem store_sb {α : Type} {Q : α → sProp 𝕄} {off size : Fin 2 → ℕ} {inb} {lo n : ℕ} {w : (Rect.unit (s := S4096x512) off size inb).shape.Idx → Elt F .bf16} {hx hm}
    {k : PUnit → Prog (TpuEff nD τ sig (Elt F) Λ₀ .tc) α} (f g : S4096x512.Idx → F .bf16) (ho : off = ![lo, 0]) (hs : size = ![n, 512])
    (hw : ∀ j, w j = g ((Rect.unit (s := S4096x512) off size inb).emb j)) :
    sbP c lo n f ⊢ iprop((sbP c lo n g -∗ run c (k ⟨⟩) Q)
      -∗ run c (.op (.store sbM (Rect.unit (s := S4096x512) off size inb) w Finset.univ hx hm) k) Q) := by
  have hset : (sbM.access (Rect.unit (s := S4096x512) off size inb)).set = rowsA lo n := (View.set_slice_whole _ _).trans (rectA_set ho hs)
  have h := wp_store (defs := defs₀ (F := F)) 𝒱₀ (c : Thread nD τ) none (Γ := []) Set.univ (m := sbM) (r := Rect.unit (s := S4096x512) off size inb) (w := w) (Mk := Finset.univ)
    (hx := hx) (hm := hm) (k := k) (Q := Q) (f := f) (S := rowsA lo n) (by rw [← hset]; exact subset_rfl)
  refine h.trans (wand_mono_left (wand_mono_left (Entails.of_eq (pointsTo_congr ?_))))
  intro i hi
  rw [← hset] at hi
  obtain ⟨j, -, rfl⟩ := Finset.mem_map.mp hi
  have hj := View.write_emb_of_mem (Val := Elt F) (v := sbM.access (Rect.unit (s := S4096x512) off size inb)) f w (Finset.mem_univ j)
  exact hj.trans (hw j)

theorem store_ou {α : Type} {Q : α → sProp 𝕄} {off size : Fin 3 → ℕ} {inb} {b lo n : ℕ} {w : (Rect.unit (s := S4x1024x512) off size inb).shape.Idx → Elt F .bf16} {hx hm}
    {k : PUnit → Prog (TpuEff nD τ sig (Elt F) Λ₀ .tc) α} (f g : S4x1024x512.Idx → F .bf16) (ho : off = ![b, lo, 0]) (hs : size = ![1, n, 512])
    (hw : ∀ j, w j = g ((Rect.unit (s := S4x1024x512) off size inb).emb j)) :
    ouP c b lo n fullShare f ⊢ iprop((ouP c b lo n fullShare g -∗ run c (k ⟨⟩) Q)
      -∗ run c (.op (.store ouM (Rect.unit (s := S4x1024x512) off size inb) w Finset.univ hx hm) k) Q) := by
  have hset : (ouM.access (Rect.unit (s := S4x1024x512) off size inb)).set = blk b 1 lo n := (View.set_slice_whole _ _).trans (rectC_set ho hs)
  have h := wp_store (defs := defs₀ (F := F)) 𝒱₀ (c : Thread nD τ) none (Γ := []) Set.univ (m := ouM) (r := Rect.unit (s := S4x1024x512) off size inb) (w := w) (Mk := Finset.univ)
    (hx := hx) (hm := hm) (k := k) (Q := Q) (f := f) (S := blk b 1 lo n) (by rw [← hset]; exact subset_rfl)
  refine h.trans (wand_mono_left (wand_mono_left (Entails.of_eq (pointsTo_congr ?_))))
  intro i hi
  rw [← hset] at hi
  obtain ⟨j, -, rfl⟩ := Finset.mem_map.mp hi
  have hj := View.write_emb_of_mem (Val := Elt F) (v := ouM.access (Rect.unit (s := S4x1024x512) off size inb)) f w (Finset.mem_univ j)
  exact hj.trans (hw j)

/-! ## Loads -/

theorem load_acc {α : Type} {Q : α → sProp 𝕄} {off size : Fin 2 → ℕ} {inb} {lo n lo' n' : ℕ} {hl}
    {k : ((Rect.unit (s := S4096x512) off size inb).shape.Idx → Elt F .f32) → Prog (TpuEff nD τ sig (Elt F) Λ₀ .tc) α} (g : S4096x512.Idx → F .f32)
    (ho : off = ![lo', 0]) (hs : size = ![n', 512]) (hi : lo ≤ lo' ∧ lo' + n' ≤ lo + n) :
    accP c lo n g ⊢ iprop((accP c lo n g -∗ run c (k fun j => g ((Rect.unit (s := S4096x512) off size inb).emb j)) Q)
      -∗ run c (.op (.load accM (Rect.unit (s := S4096x512) off size inb).toLoadRect hl) k) Q) := by
  have hset : (accM.access (Rect.unit (s := S4096x512) off size inb)).set = rowsA lo' n' := (View.set_slice_whole _ _).trans (rectA_set ho hs)
  exact wp_load_rect (defs := defs₀ (F := F)) 𝒱₀ (c : Thread nD τ) none (Γ := []) Set.univ (m := accM) (r := Rect.unit (s := S4096x512) off size inb)
    (hl := hl) (k := k) (Q := Q) (f := g) (S := rowsA lo n) (by rw [hset]; exact rowsA_sub hi)
theorem load_sb {α : Type} {Q : α → sProp 𝕄} {off size : Fin 2 → ℕ} {inb} {lo n : ℕ} {hl}
    {k : ((Rect.unit (s := S4096x512) off size inb).shape.Idx → Elt F .bf16) → Prog (TpuEff nD τ sig (Elt F) Λ₀ .tc) α} (g : S4096x512.Idx → F .bf16)
    (ho : off = ![lo, 0]) (hs : size = ![n, 512]) :
    sbP c lo n g ⊢ iprop((sbP c lo n g -∗ run c (k fun j => g ((Rect.unit (s := S4096x512) off size inb).emb j)) Q)
      -∗ run c (.op (.load sbM (Rect.unit (s := S4096x512) off size inb).toLoadRect hl) k) Q) := by
  have hset : (sbM.access (Rect.unit (s := S4096x512) off size inb)).set = rowsA lo n := (View.set_slice_whole _ _).trans (rectA_set ho hs)
  exact wp_load_rect (defs := defs₀ (F := F)) 𝒱₀ (c : Thread nD τ) none (Γ := []) Set.univ (m := sbM) (r := Rect.unit (s := S4096x512) off size inb)
    (hl := hl) (k := k) (Q := Q) (f := g) (S := rowsA lo n) (by rw [hset])
theorem load_rb {α : Type} {Q : α → sProp 𝕄} {off size : Fin 2 → ℕ} {inb} {lo n lo' n' : ℕ} {hl}
    {k : ((Rect.unit (s := S3072x512) off size inb).shape.Idx → Elt F .bf16) → Prog (TpuEff nD τ sig (Elt F) Λ₀ .tc) α} (g : S3072x512.Idx → F .bf16)
    (ho : off = ![lo', 0]) (hs : size = ![n', 512]) (hi : lo ≤ lo' ∧ lo' + n' ≤ lo + n) :
    rbP c lo n g ⊢ iprop((rbP c lo n g -∗ run c (k fun j => g ((Rect.unit (s := S3072x512) off size inb).emb j)) Q)
      -∗ run c (.op (.load rbM (Rect.unit (s := S3072x512) off size inb).toLoadRect hl) k) Q) := by
  have hset : (rbM.access (Rect.unit (s := S3072x512) off size inb)).set = rowsB lo' n' := (View.set_slice_whole _ _).trans (rectB_set ho hs)
  exact wp_load_rect (defs := defs₀ (F := F)) 𝒱₀ (c : Thread nD τ) none (Γ := []) Set.univ (m := rbM) (r := Rect.unit (s := S3072x512) off size inb)
    (hl := hl) (k := k) (Q := Q) (f := g) (S := rowsB lo n) (by rw [hset]; exact rowsB_sub hi)
theorem load_ou {α : Type} {Q : α → sProp 𝕄} {off size : Fin 3 → ℕ} {inb} {b lo n : ℕ} {q : PosShare TreeShare} {hl}
    {k : ((Rect.unit (s := S4x1024x512) off size inb).shape.Idx → Elt F .bf16) → Prog (TpuEff nD τ sig (Elt F) Λ₀ .tc) α} (g : S4x1024x512.Idx → F .bf16)
    (ho : off = ![b, lo, 0]) (hs : size = ![1, n, 512]) :
    ouP c b lo n q g ⊢ iprop((ouP c b lo n q g -∗ run c (k fun j => g ((Rect.unit (s := S4x1024x512) off size inb).emb j)) Q)
      -∗ run c (.op (.load ouM (Rect.unit (s := S4x1024x512) off size inb).toLoadRect hl) k) Q) := by
  have hset : (ouM.access (Rect.unit (s := S4x1024x512) off size inb)).set = blk b 1 lo n := (View.set_slice_whole _ _).trans (rectC_set ho hs)
  exact wp_load_rect (defs := defs₀ (F := F)) 𝒱₀ (c : Thread nD τ) none (Γ := []) Set.univ (m := ouM) (r := Rect.unit (s := S4x1024x512) off size inb)
    (hl := hl) (k := k) (Q := Q) (f := g) (S := blk b 1 lo n) (by rw [hset])

end Access

/-! ## Coordinates of the elements of a part -/

theorem emb2_0 {R C : ℕ} {off size : Fin 2 → ℕ} {inb} {a : ℕ} (ho : off = ![a, 0]) (j : (⟨2, size⟩ : Shape).Idx) :
    ((Rect.unit (s := ⟨2, ![R, C]⟩) off size inb).emb j 0).val = a + (j 0).val := by
  subst ho; rw [Rect.emb_apply]; show a + 1 * (j 0).val = _; omega
theorem emb2_1 {R C : ℕ} {off size : Fin 2 → ℕ} {inb} {a : ℕ} (ho : off = ![a, 0]) (j : (⟨2, size⟩ : Shape).Idx) :
    ((Rect.unit (s := ⟨2, ![R, C]⟩) off size inb).emb j 1).val = (j 1).val := by
  subst ho; rw [Rect.emb_apply]; show 0 + 1 * (j 1).val = _; omega
theorem idx2_lt {size : Fin 2 → ℕ} {n C' : ℕ} (hs : size = ![n, C']) (j : (⟨2, size⟩ : Shape).Idx) :
    (j 0).val < n := by
  subst hs; exact (j 0).isLt
theorem emb3_0 {B R C : ℕ} {off size : Fin 3 → ℕ} {inb} {b a : ℕ} (ho : off = ![b, a, 0]) (j : (⟨3, size⟩ : Shape).Idx) :
    ((Rect.unit (s := ⟨3, ![B, R, C]⟩) off size inb).emb j 0).val = b + (j 0).val := by
  subst ho; rw [Rect.emb_apply]; show b + 1 * (j 0).val = _; omega
theorem emb3_1 {B R C : ℕ} {off size : Fin 3 → ℕ} {inb} {b a : ℕ} (ho : off = ![b, a, 0]) (j : (⟨3, size⟩ : Shape).Idx) :
    ((Rect.unit (s := ⟨3, ![B, R, C]⟩) off size inb).emb j 1).val = a + (j 1).val := by
  subst ho; rw [Rect.emb_apply]; show a + 1 * (j 1).val = _; omega
theorem emb3_2 {B R C : ℕ} {off size : Fin 3 → ℕ} {inb} {b a : ℕ} (ho : off = ![b, a, 0]) (j : (⟨3, size⟩ : Shape).Idx) :
    ((Rect.unit (s := ⟨3, ![B, R, C]⟩) off size inb).emb j 2).val = (j 2).val := by
  subst ho; rw [Rect.emb_apply]; show 0 + 1 * (j 2).val = _; omega

/-! ## Transfers to a partner -/

theorem dR_peer (c : Dev nD) {k : ℕ} (hk : k < 10) : dR (peer k c) k = dR c k := by
  have h := xb_le c; have h' := yb_le c
  interval_cases k <;> simp only [dR, peer, toPy, if_true, if_false, Bool.false_eq_true, xb_px, yb_px, xb_py, yb_py]
theorem db_peer (c : Dev nD) {k : ℕ} (hk : 10 ≤ k) (hk' : k < 20) : db (peer k c) k = sb c k := by
  have h := xb_le c; have h' := yb_le c
  interval_cases k <;> simp only [db, sb, peer, toPy, if_true, if_false, Bool.false_eq_true, xb_px, yb_px, xb_py, yb_py] <;> omega
theorem dO_peer (c : Dev nD) {k : ℕ} (hk : 10 ≤ k) (hk' : k < 20) : dO (peer k c) k = so c k := by
  have h := xb_le c; have h' := yb_le c
  interval_cases k <;> simp only [dO, so, peer, toPy, if_true, if_false, Bool.false_eq_true, xb_px, yb_px, xb_py, yb_py] <;> omega

/-- What a device sends is what its partner receives. -/
theorem sent_eq (c : Dev nD) {k : ℕ} (hk : k < 10) {r : ℕ} (hr : r < len k) {i : S4096x512.Idx} {i' : S3072x512.Idx}
    (h0 : (i 0).val = sR c k + r) (h0' : (i' 0).val = dR c k + r) (h1 : (i 1).val = (i' 1).val) : RB m (peer k c) i' = SB m c i := by
  have h := xb_le c; have h' := yb_le c
  interval_cases k <;> simp only [dR, sR, peer, toPy, if_true, if_false, Bool.false_eq_true, len] at *
  · rw [SB_sent c (b := 1 - yb c) (r := (1 - xb c) * 512 + r) (by omega) (by omega) h1 (by omega),
      RB_1 (py c) (r := (1 - xb c) * 512 + r) (by omega) (by omega) rfl, py_py, yb_py]
  · rw [SB_sent c (b := 2 + (1 - xb c)) (r := (1 - yb c) * 512 + r) (by omega) (by omega) h1 (by omega),
      RB_2 (px c) (r := (1 - yb c) * 512 + r) (by omega) (by omega) rfl, px_px, xb_px]
  · rw [SB_sent c (b := 1 - yb c) (r := (1 - xb c) * 512 + 256 + r) (by omega) (by omega) h1 (by omega),
      RB_1 (py c) (r := (1 - xb c) * 512 + 256 + r) (by omega) (by omega) rfl, py_py, yb_py]
  · rw [SB_sent c (b := 2 + (1 - xb c)) (r := (1 - yb c) * 512 + 256 + r) (by omega) (by omega) h1 (by omega),
      RB_2 (px c) (r := (1 - yb c) * 512 + 256 + r) (by omega) (by omega) rfl, px_px, xb_px]
  · rw [SB_sent c (b := 1 - yb c) (r := xb c * 512 + r) (by omega) (by omega) h1 (by omega),
      RB_1 (py c) (r := xb c * 512 + r) (by omega) (by omega) rfl, py_py, yb_py]
  · rw [SB_sent c (b := 2 + (1 - xb c)) (r := yb c * 512 + r) (by omega) (by omega) h1 (by omega),
      RB_2 (px c) (r := yb c * 512 + r) (by omega) (by omega) rfl, px_px, xb_px]
  · rw [SB_kept c (b := yb c) (r := (1 - xb c) * 512 + r) (by omega) (by omega) h1 (by omega),
      RB_3 (px c) (r := r) (by omega) (by omega) rfl, px_px, xb_px, yb_px]
  · rw [SB_kept c (b := 2 + xb c) (r := (1 - yb c) * 512 + r) (by omega) (by omega) h1 (by omega),
      RB_4 (py c) (r := r) (by omega) (by omega) rfl, py_py, xb_py, yb_py]
  · rw [SB_kept c (b := yb c) (r := (1 - xb c) * 512 + (256 + r)) (by omega) (by omega) h1 (by omega),
      RB_3 (px c) (r := 256 + r) (by omega) (by omega) rfl, px_px, xb_px, yb_px]
  · rw [SB_kept c (b := 2 + xb c) (r := (1 - yb c) * 512 + (256 + r)) (by omega) (by omega) h1 (by omega),
      RB_4 (py c) (r := 256 + r) (by omega) (by omega) rfl, py_py, xb_py, yb_py]

variable (K : Dev nD × Option (Fin 40) → ℕ)

/-- Sending transfer `k`, from a source that holds what it has to hold to a destination that is free. -/
theorem send_gen (c : Dev nD) (k : ℕ) (ks : List ℕ) (hk : k < 20) {s : Shape} {e : EltTy} {src dst : Memref sig .tc .vmem s e}
    {hsc : dst.view.ref.isScScratch = false} {hsrc : src.view.WordExact} {hdst : dst.view.WordExact}
    {hsem : DmaTarget.Typed .vmem (.dma (dm (20 + k))) (.remote (Dev.tc (peer k c) : Thread nD τ) dst (.dma (dm k)) hsc)}
    {α : Type} {Q : α → sProp 𝕄} {kont : PUnit → Prog (TpuEff nD τ sig (Elt F) Λ₀ .tc) α}
    (q : PosShare TreeShare) (fs : Buf (Elt F) (src.view.loc (c : Thread nD τ)))
    (hS : source m c k ⊢ iprop(src.view.loc (c : Thread nD τ) ↦[src.view.set]{q} fs)) (hS' : (src.view.loc (c : Thread nD τ) ↦[src.view.set]{q} fs) ⊢ source m c k)
    (hD : landing (peer k c) k ⊢ iprop(∃ fd : Buf (Elt F) (dst.view.loc (Dev.tc (peer k c) : Thread nD τ)), (dst.view.loc (Dev.tc (peer k c) : Thread nD τ)) ↦[dst.view.set]{fullShare} fd))
    (hL : ∀ fd : Buf (Elt F) (dst.view.loc (Dev.tc (peer k c) : Thread nD τ)),
      ((dst.view.loc (Dev.tc (peer k c) : Thread nD τ)) ↦[dst.view.set]{fullShare} (dst.view.write (Elt F) fd (src.view.read (Elt F) fs) Finset.univ)) ⊢ landed m (peer k c) k)
    (hN : dst.view.dmaCredit = amt k) :
    iprop(ctx m K ∗ source m c k ∗ landing (peer k c) k ∗ sTok c k ∗ OW c (k :: ks))
      ⊢ iprop(((sFly c k ∗ OW c ks) -∗ run c (kont ⟨⟩) Q)
        -∗ run c (.op (.enqueueDma src (.remote (Dev.tc (peer k c) : Thread nD τ) dst (.dma (dm k)) hsc) (.dma (dm (20 + k))) hsrc hdst hsem) kont) Q) := by
  unfold sTok sFly OW
  iintro ⟨#Hctx, Hsrc, Hland, ⟨Hat, Ht1, Ht2⟩, ⟨%W, HO⟩⟩ Hk
  ihave Hsrc := hS $$ Hsrc
  ihave Hland := hD $$ Hland
  icases Hland with ⟨%fd, Hland⟩
  iapply (Rounds.wp_send_pointsTo (defs := defs₀ (F := F)) 𝒱₀ ER (Rd m) (c : Thread nD τ) none (κ₁ := K (c, some (ki k))) (κ₂ := K (peer k c, some (ki (20 + k))))
    (src := src) (c' := (Dev.tc (peer k c) : Thread nD τ)) (dst := dst) (hsc := hsc) (sS := .dma (dm k)) (sem := .dma (dm (20 + k)))
    (r₁ := 0) (r₂ := 0) (d₁ := false) (d₂ := false) (q := q) (fs := fs) (fd := fd)
    (by rw [duties_dma m c (by omega)]; exact Finset.mem_singleton_self _) (by rw [duties_dma m (peer k c) (by omega)]; exact Finset.mem_singleton_self _)
    () () (amt k) hN (amount_send m c hk false) (amount_recv m (peer k c) hk false) (owed c ks) rfl (W := W)
    (by rw [payload_send m c hk]; exact hS') (by rw [payload_recv m (peer k c) hk]; exact hL fd)) $$ [Hsrc Hland HO Ht1 Ht2]
  · isplitr; · iapply (inv_dma m K c (i := k) (by omega)); iexact Hctx
    isplitr; · iapply (inv_dma m K (peer k c) (i := 20 + k) (by omega)); iexact Hctx
    isplitl [Hsrc]; · iexact Hsrc
    isplitl [Hland]; · iexact Hland
    isplitl [HO]; · iexact HO
    isplitl [Ht1]; · iexact Ht1
    isplitr; · iapply (reached_dma m K c (i := k) (by omega)); iexact Hctx
    isplitl [Ht2]; · iexact Ht2
    iapply (reached_dma m K (peer k c) (i := 20 + k) (by omega)); iexact Hctx
  iintro ⟨Hc, HO⟩
  iapply Hk
  isplitl [Hc Hat]
  · isplitl [Hc] <;> iassumption
  iexists W; iexact HO

/-- Sending rows of the send buffer to a partner's receive buffer. -/
theorem send_rs (c n : Dev nD) (k : ℕ) (ks : List ℕ) (hk : k < 10) (hn : n = peer k c) {offS offD size : Fin 2 → ℕ} {inbS inbD}
    {sS sV : DmaSem sig} {hsc hsrc hdst hsem} {α : Type} {Q : α → sProp 𝕄} {kont : PUnit → Prog (TpuEff nD τ sig (Elt F) Λ₀ .tc) α}
    (hs : size = ![len k, 512]) (hoS : offS = ![sR c k, 0]) (hoD : offD = ![dR c k, 0]) (hsS : sS = dm k) (hsV : sV = dm (20 + k))
    (hN : (rbM.slice (Rect.unit (s := S3072x512) offD size inbD) (fun _ => rfl)).view.dmaCredit = amt k) :
    iprop(ctx m K ∗ source m c k ∗ landing (peer k c) k ∗ sTok c k ∗ OW c (k :: ks))
      ⊢ iprop(((sFly c k ∗ OW c ks) -∗ run c (kont ⟨⟩) Q)
        -∗ run c (.op (.enqueueDma (sbM.slice (Rect.unit (s := S4096x512) offS size inbS) (fun _ => rfl))
            (.remote (Dev.tc n : Thread nD τ) (rbM.slice (Rect.unit (s := S3072x512) offD size inbD) (fun _ => rfl)) (.dma sS) hsc) (.dma sV) hsrc hdst hsem) kont) Q) := by
  subst hn hsS hsV
  have hset1 : ((sbM.slice (Rect.unit (s := S4096x512) offS size inbS) (fun _ => rfl))).view.set = rowsA (sR c k) (len k) := (View.set_slice_whole _ _).trans (rectA_set hoS hs)
  have hset2 : ((rbM.slice (Rect.unit (s := S3072x512) offD size inbD) (fun _ => rfl))).view.set = rowsB (dR (peer k c) k) (len k) := by
    rw [dR_peer c hk]; exact (View.set_slice_whole _ _).trans (rectB_set hoD hs)
  refine send_gen m K c k ks (by omega) fullShare (SB m c) ?_ ?_ ?_ ?_ hN
  · unfold source; rw [if_pos hk, hset1]
  · unfold source; rw [if_pos hk, hset1]
  · unfold landing; rw [if_pos hk, hset2]
  · intro fd
    unfold landed; rw [if_pos hk, ← hset2]
    refine Entails.of_eq (pointsTo_congr ?_)
    intro i hi
    obtain ⟨j, -, rfl⟩ := Finset.mem_map.mp hi
    have hj := View.write_emb_of_mem (Val := Elt F) (v := (rbM.slice (Rect.unit (s := S3072x512) offD size inbD) (fun _ => rfl)).view) fd
      ((sbM.slice (Rect.unit (s := S4096x512) offS size inbS) (fun _ => rfl)).view.read (Elt F) (SB m c)) (Finset.mem_univ j)
    refine hj.trans ?_
    have key := sent_eq m c hk (i := (Rect.unit (s := S4096x512) offS size inbS).emb j) (i' := (Rect.unit (s := S3072x512) offD size inbD).emb j)
      (idx2_lt hs j) (emb2_0 hoS j) (emb2_0 hoD j) ((emb2_1 (R := 4096) (inb := inbS) hoS j).trans (emb2_1 (R := 3072) (inb := inbD) hoD j).symm)
    exact key.symm

/-- Sending rows of the output buffer to a partner's output buffer, at the same place. -/
theorem send_ag (c n : Dev nD) (k : ℕ) (ks : List ℕ) (hk : 10 ≤ k) (hk' : k < 20) (hn : n = peer k c) {off size : Fin 3 → ℕ} {inb inb'}
    {sS sV : DmaSem sig} {hsc hsrc hdst hsem} {α : Type} {Q : α → sProp 𝕄} {kont : PUnit → Prog (TpuEff nD τ sig (Elt F) Λ₀ .tc) α}
    (hs : size = ![1, len k, 512]) (ho : off = ![sb c k, so c k, 0]) (hsS : sS = dm k) (hsV : sV = dm (20 + k))
    (hN : (ouM.slice (Rect.unit (s := S4x1024x512) off size inb') (fun _ => rfl)).view.dmaCredit = amt k) :
    iprop(ctx m K ∗ source m c k ∗ landing (peer k c) k ∗ sTok c k ∗ OW c (k :: ks))
      ⊢ iprop(((sFly c k ∗ OW c ks) -∗ run c (kont ⟨⟩) Q)
        -∗ run c (.op (.enqueueDma (ouM.slice (Rect.unit (s := S4x1024x512) off size inb) (fun _ => rfl))
            (.remote (Dev.tc n : Thread nD τ) (ouM.slice (Rect.unit (s := S4x1024x512) off size inb') (fun _ => rfl)) (.dma sS) hsc) (.dma sV) hsrc hdst hsem) kont) Q) := by
  subst hn hsS hsV
  have hset1 : ((ouM.slice (Rect.unit (s := S4x1024x512) off size inb) (fun _ => rfl))).view.set = blk (sb c k) 1 (so c k) (len k) := (View.set_slice_whole _ _).trans (rectC_set ho hs)
  have hset2 : ((ouM.slice (Rect.unit (s := S4x1024x512) off size inb') (fun _ => rfl))).view.set = blk (db (peer k c) k) 1 (dO (peer k c) k) (len k) := by
    rw [db_peer c hk hk', dO_peer c hk hk']; exact (View.set_slice_whole _ _).trans (rectC_set ho hs)
  have hk0 : ¬ k < 10 := by omega
  refine send_gen m K c k ks (by omega) (shr k) (OU m) ?_ ?_ ?_ ?_ hN
  · unfold source; rw [if_neg hk0, hset1]
  · unfold source; rw [if_neg hk0, hset1]
  · unfold landing; rw [if_neg hk0, hset2]
  · intro fd
    unfold landed; rw [if_neg hk0, ← hset2]
    refine Entails.of_eq (pointsTo_congr ?_)
    intro i hi
    obtain ⟨j, -, rfl⟩ := Finset.mem_map.mp hi
    exact View.write_emb_of_mem (Val := Elt F) (v := (ouM.slice (Rect.unit (s := S4x1024x512) off size inb') (fun _ => rfl)).view) fd
      ((ouM.slice (Rect.unit (s := S4x1024x512) off size inb) (fun _ => rfl)).view.read (Elt F) (OU m)) (Finset.mem_univ j)

/-! ## Waits for a transfer -/

/-- Waiting for a transfer to arrive. -/
theorem wait_recv (c : Dev nD) (k : ℕ) (ks : List ℕ) (hk : k < 20) {sp sp' : Space} {s s' : Shape} {e e' : EltTy} {sem : DmaSem sig}
    {srcw : Memref sig .tc sp' s' e'} {dstw : Memref sig .tc sp s e} {hsrc hdst}
    {α : Type} {Q : α → sProp 𝕄} {kont : PUnit → Prog (TpuEff nD τ sig (Elt F) Λ₀ .tc) α}
    (hsem : sem = dm (20 + k)) (hN : dstw.view.dmaCredit = amt k) (hks : ∀ j ∈ ks, lvD (20 + k) < lvD ((20 + j) % 50)) :
    iprop(ctx m K ∗ rTok c k ∗ OW c ks)
      ⊢ iprop(((landed m c k ∗ semVal (recvCell c k) 0 ∗ OW c ks) -∗ run c (kont ⟨⟩) Q)
        -∗ run c (.op (.waitDma2 sem srcw dstw hsrc hdst) kont) Q) := by
  subst hsem
  unfold rTok OW
  iintro ⟨#Hctx, ⟨Hat, Hc⟩, ⟨%W, HO⟩⟩ Hk
  iapply (Rounds.wp_wait_rest_token 𝒱₀ ER (Rd m) (c : Thread nD τ) none (κ := K (c, some (ki (20 + k))))
      (wpE_waitDma2_eq 𝒱₀ (c : Thread nD τ) none Set.univ) (Set.mem_univ _) () (O := owed c ks) (W := W) (R := 0) (m := 0) (T := ∅)
      (by rw [Nat.zero_add, expect_recv m c hk, hN])) $$ [Hc HO Hat]
  · isplitr; · iapply (inv_dma m K c (i := 20 + k) (by omega)); iexact Hctx
    isplitl [Hc]; · rw [hN]; iexact Hc
    isplitl [HO]; · iexact HO
    isplitr
    · iapply (mayWait c (.dma (dm (20 + k))) ks (lvD (20 + k)) (by show lvD (dm (20 + k)).val ≤ _; rw [dm_val (by omega)]) hks)
      iapply (ctx_lev m K); iexact Hctx
    iexact Hat
  iintro ⟨HO, Hat, -, Hpay⟩
  ihave Hp := (Entails.of_eq (rest_recv m c hk)) $$ Hpay
  imod (Rounds.cell_close ER (Rd m) (Set.mem_univ (K (c, some (ki (20 + k))))) (fun h => h) (R := 0 + 1) (duties_later m (recvCell c k))) $$ [Hat] with Hz
  · isplitr; · iapply (inv_dma m K c (i := 20 + k) (by omega)); iexact Hctx
    iexact Hat
  iapply Hk
  isplitl [Hp]; · iexact Hp
  isplitl [Hz]; · iexact Hz
  iexists _; iexact HO

/-- Waiting for a transfer to have left: its source comes back. -/
theorem wait_send (c : Dev nD) (k : ℕ) (hk : k < 20) {sp sp' : Space} {s s' : Shape} {e e' : EltTy} {sem : DmaSem sig}
    {srcw : Memref sig .tc sp' s' e'} {dstw : Memref sig .tc sp s e} {hsrc hdst}
    {α : Type} {Q : α → sProp 𝕄} {kont : PUnit → Prog (TpuEff nD τ sig (Elt F) Λ₀ .tc) α}
    (hsem : sem = dm k) (hN : dstw.view.dmaCredit = amt k) :
    iprop(ctx m K ∗ sFly c k ∗ OW c [])
      ⊢ iprop(((source m c k ∗ semVal (sendCell c k) 0 ∗ OW c []) -∗ run c (kont ⟨⟩) Q)
        -∗ run c (.op (.waitDma2 sem srcw dstw hsrc hdst) kont) Q) := by
  subst hsem
  unfold sFly OW
  iintro ⟨#Hctx, ⟨Hc, Hat⟩, ⟨%W, HO⟩⟩ Hk
  iapply (Rounds.wp_wait_rest_token 𝒱₀ ER (Rd m) (c : Thread nD τ) none (κ := K (c, some (ki k)))
      (wpE_waitDma2_eq 𝒱₀ (c : Thread nD τ) none Set.univ) (Set.mem_univ _) () (O := owed c []) (W := W) (R := 0) (m := 0) (T := ∅)
      (by rw [Nat.zero_add, expect_send m c hk, hN])) $$ [Hc HO Hat]
  · isplitr; · iapply (inv_dma m K c (i := k) (by omega)); iexact Hctx
    isplitl [Hc]; · rw [hN]; iexact Hc
    isplitl [HO]; · iexact HO
    isplitr
    · unfold owed; rw [MayWait_zero]; iempintro
    iexact Hat
  iintro ⟨HO, Hat, -, Hpay⟩
  ihave Hp := (Entails.of_eq (rest_send m c hk)) $$ Hpay
  imod (Rounds.cell_close ER (Rd m) (Set.mem_univ (K (c, some (ki k)))) (fun h => h) (R := 0 + 1) (duties_later m (sendCell c k))) $$ [Hat] with Hz
  · isplitr; · iapply (inv_dma m K c (i := k) (by omega)); iexact Hctx
    iexact Hat
  iapply Hk
  isplitl [Hp]; · iexact Hp
  isplitl [Hz]; · iexact Hz
  iexists _; iexact HO

end Cert.Allreduce

end
-- ==== Proof.Local.lean ====
/-
# Steps of one device: the barrier, whole loads, local copies

The two signals to the partners' barriers and the wait for the own one, loads of whole buffers, and the ten
copies between a device's main memory and its on-chip memory.
-/
module

public import proofs.«01_k».proof.Proof.Steps

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 40) → ℕ)

/-! ## The barrier -/

/-- What device `c` lets `py c` write, and what it lets `px c` write. -/
def giveY (c : Dev nD) : sProp 𝕄 :=
  iprop(landing c 0 ∗ landing c 2 ∗ landing c 4 ∗ landing c 7 ∗ landing c 9 ∗ landing c 11 ∗ landing c 13 ∗ landing c 14 ∗ landing c 16 ∗ landing c 18)
def giveX (c : Dev nD) : sProp 𝕄 :=
  iprop(landing c 1 ∗ landing c 3 ∗ landing c 5 ∗ landing c 6 ∗ landing c 8 ∗ landing c 10 ∗ landing c 12 ∗ landing c 15 ∗ landing c 17 ∗ landing c 19)

theorem inv_bar (c : Dev nD) : ctx m K ⊢ cellInv ER (Rd m) (K (c, none)) (barCell c) := inv_at m K (c, none)
theorem reached_bar (c : Dev nD) : ctx m K ⊢ reached ER (barCell c) 0 := reached_at m K (c, none)

theorem one_toInt : (1#32).toInt = ((1 : ℕ) : ℤ) := by decide
theorem two_toInt : (2#32).toInt = ((2 : ℕ) : ℤ) := by decide

/-- The signal to `py c`: `c` hands over the memory that `py c` writes. -/
theorem signal_py (c n : Dev nD) (hn : n = py c) (W : Waits sig Unit) {s : Sem sig} (hs : s = barS) {α : Type} {Q : α → sProp 𝕄} {kont : PUnit → Prog (TpuEff nD τ sig (Elt F) Λ₀ .tc) α} :
    iprop(ctx m K ∗ giveY c ∗ dutyTok ER (barCell (py c)) 0 false ∗ owes (c : Thread nD τ) (O₀ c) W)
      ⊢ iprop((owes (c : Thread nD τ) (O₁ c) W -∗ run c (kont ⟨⟩) Q)
        -∗ run c (.op (.semSignal (Dev.tc n : Thread nD τ) s (1#32).toInt) kont) Q) := by
  subst hn hs
  rw [one_toInt]
  iintro ⟨#Hctx, Hg, Ht, HO⟩ Hk
  iapply (Rounds.wp_signal (defs := defs₀ (F := F)) 𝒱₀ ER (Rd m) (c : Thread nD τ) none (dst := (Dev.tc (py c) : Thread nD τ)) (κ := K (py c, none)) (sem := barS)
      (d := false) (by rw [duties_bar]; exact Finset.mem_univ _) (amount_bar m (py c) false) () (O₁ c) rfl) $$ [HO Ht Hg]
  · isplitr; · iapply (inv_bar m K (py c)); iexact Hctx
    isplitl [HO]; · iexact HO
    isplitl [Ht]; · iexact Ht
    isplitl [Hg]
    · unfold giveY; rw [payload_bar]; unfold barPay; rw [if_neg Bool.false_ne_true, py_py]; iexact Hg
    iapply (reached_bar m K (py c)); iexact Hctx
  iexact Hk

/-- The signal to `px c`: `c` hands over the memory that `px c` writes. -/
theorem signal_px (c n : Dev nD) (hn : n = px c) (W : Waits sig Unit) {s : Sem sig} (hs : s = barS) {α : Type} {Q : α → sProp 𝕄} {kont : PUnit → Prog (TpuEff nD τ sig (Elt F) Λ₀ .tc) α} :
    iprop(ctx m K ∗ giveX c ∗ dutyTok ER (barCell (px c)) 0 true ∗ owes (c : Thread nD τ) (O₁ c) W)
      ⊢ iprop((OW c order -∗ run c (kont ⟨⟩) Q)
        -∗ run c (.op (.semSignal (Dev.tc n : Thread nD τ) s (1#32).toInt) kont) Q) := by
  subst hn hs
  rw [one_toInt]
  iintro ⟨#Hctx, Hg, Ht, HO⟩ Hk
  iapply (Rounds.wp_signal (defs := defs₀ (F := F)) 𝒱₀ ER (Rd m) (c : Thread nD τ) none (dst := (Dev.tc (px c) : Thread nD τ)) (κ := K (px c, none)) (sem := barS)
      (d := true) (by rw [duties_bar]; exact Finset.mem_univ _) (amount_bar m (px c) true) () (owed c order) rfl) $$ [HO Ht Hg]
  · isplitr; · iapply (inv_bar m K (px c)); iexact Hctx
    isplitl [HO]; · iexact HO
    isplitl [Ht]; · iexact Ht
    isplitl [Hg]
    · unfold giveX; rw [payload_bar]; unfold barPay; rw [if_pos rfl, px_px]; iexact Hg
    iapply (reached_bar m K (px c)); iexact Hctx
  iintro HO
  iapply Hk
  unfold OW; iexists W; iexact HO

/-- The wait for both partners: `c` may now write their memory. -/
theorem wait_bar (c : Dev nD) {s : Sem sig} (hs : s = barS) {α : Type} {Q : α → sProp 𝕄} {kont : PUnit → Prog (TpuEff nD τ sig (Elt F) Λ₀ .tc) α} :
    iprop(ctx m K ∗ atPos ER (barCell c) 0 ∅ 0 ∗ cred (tallyAt (barCell c) () 2) ∗ OW c order)
      ⊢ iprop(((barPay c false ∗ barPay c true ∗ semVal (barCell c) 0 ∗ OW c order) -∗ run c (kont ⟨⟩) Q)
        -∗ run c (.op (.semWait s (2#32).toInt) kont) Q) := by
  subst hs
  rw [two_toInt]
  unfold OW
  iintro ⟨#Hctx, Hat, Hc, ⟨%W, HO⟩⟩ Hk
  iapply (Rounds.wp_wait_rest_token (defs := defs₀ (F := F)) 𝒱₀ ER (Rd m) (c : Thread nD τ) none (κ := K (c, none))
      (wpE_semWait_eq 𝒱₀ (c : Thread nD τ) none Set.univ) (Set.mem_univ _) () (O := owed c order) (W := W) (R := 0) (m := 0) (T := ∅)
      (by rw [Nat.zero_add, expect_bar])) $$ [Hc HO Hat]
  · isplitr; · iapply (inv_bar m K c); iexact Hctx
    isplitl [Hc]; · iexact Hc
    isplitl [HO]; · iexact HO
    isplitr
    · iapply (mayWait c (.reg barS) order 1 (le_refl _) (by decide))
      iapply (ctx_lev m K); iexact Hctx
    iexact Hat
  iintro ⟨HO, Hat, -, Hpay⟩
  ihave Hp := (Entails.of_eq (rest_bar m c)) $$ Hpay
  icases Hp with ⟨Hp1, Hp2⟩
  imod (Rounds.cell_close ER (Rd m) (Set.mem_univ (K (c, none))) (fun h => h) (R := 0 + 1) (duties_later m (barCell c))) $$ [Hat] with Hz
  · isplitr; · iapply (inv_bar m K c); iexact Hctx
    iexact Hat
  iapply Hk
  isplitl [Hp1]; · iexact Hp1
  isplitl [Hp2]; · iexact Hp2
  isplitl [Hz]; · iexact Hz
  iexists _; iexact HO

/-! ## Local copies -/

/-- Local semaphore `j` of device `c` at zero. -/
def lZ (c : Dev nD) (j : ℕ) : sProp 𝕄 := semVal ((c : Thread nD τ), .dma (dm (40 + j))) 0

abbrev xM : Memref sig .tc .hbm S4x1024x512 .f32 := Memref.whole main_arg0
abbrev voM : Memref sig .tc .hbm S4x1024x512 .bf16 := Memref.whole main_v1

/-- The credit of local copy `j`. -/
def lamt : ℕ → ℕ
  | 0 => (Memref.whole cc0_scratch6 : Memref sig .tc .vmem S4x512 .f32).view.dmaCredit
  | 1 => (Memref.whole cc0_scratch7 : Memref sig .tc .vmem S512x512 .f32).view.dmaCredit
  | 2 | 4 => (Memref.whole cc0_scratch4 : Memref sig .tc .vmem S1x1024x512 .f32).view.dmaCredit
  | 3 | 5 => (Memref.whole cc0_scratch5 : Memref sig .tc .vmem S1x1024x512 .f32).view.dmaCredit
  | _ => (voM.slice (Rect.unit (s := S4x1024x512) (k0_off18 0) S1x1024x512.size (k0_off18_inb 0)) (fun _ => rfl)).view.dmaCredit
theorem lamt_pos (j : ℕ) : 0 < lamt j := by
  unfold lamt; split <;> exact View.dmaCredit_pos _ (by decide)

/-- Local copy `j` of device `c` under way: it will hand over `D`. -/
def lFl (c : Dev nD) (j : ℕ) (D : sProp 𝕄) : sProp 𝕄 := Transfers.Flight (EC (F := F)) (c : Thread nD τ) (.dma (dm (40 + j))) () (lamt j) D

/-- One batch of the first argument, of the result; the taps and the weights; their copies on chip. -/
def xP (c : Dev nD) (b : ℕ) : sProp 𝕄 := ((c : Thread nD τ).loc main_arg0) ↦[blk b 1 0 1024]{fullShare} (argX m c : Buf (Elt F) ((c : Thread nD τ).loc main_arg0))
def kP (c : Dev nD) : sProp 𝕄 := ((c : Thread nD τ).loc main_arg1) ↦{fullShare} (argK m c : Buf (Elt F) ((c : Thread nD τ).loc main_arg1))
def wP (c : Dev nD) : sProp 𝕄 := ((c : Thread nD τ).loc main_arg2) ↦{fullShare} (argW m c : Buf (Elt F) ((c : Thread nD τ).loc main_arg2))
def voP (c : Dev nD) (b : ℕ) (f : S4x1024x512.Idx → F .bf16) : sProp 𝕄 := ((c : Thread nD τ).loc main_v1) ↦[blk b 1 0 1024]{fullShare} (f : Buf (Elt F) ((c : Thread nD τ).loc main_v1))
def kwP (c : Dev nD) (f : Vec F S4x512 .f32) : sProp 𝕄 := ((c : Thread nD τ).loc cc0_scratch6) ↦{fullShare} (f : Buf (Elt F) ((c : Thread nD τ).loc cc0_scratch6))
def wwP (c : Dev nD) (f : Vec F S512x512 .f32) : sProp 𝕄 := ((c : Thread nD τ).loc cc0_scratch7) ↦{fullShare} (f : Buf (Elt F) ((c : Thread nD τ).loc cc0_scratch7))
def xb0P (c : Dev nD) (f : Vec F S1x1024x512 .f32) : sProp 𝕄 := ((c : Thread nD τ).loc cc0_scratch4) ↦{fullShare} (f : Buf (Elt F) ((c : Thread nD τ).loc cc0_scratch4))
def xb1P (c : Dev nD) (f : Vec F S1x1024x512 .f32) : sProp 𝕄 := ((c : Thread nD τ).loc cc0_scratch5) ↦{fullShare} (f : Buf (Elt F) ((c : Thread nD τ).loc cc0_scratch5))

/-- Starting local copy `j`: the destination will hold what the source holds. -/
theorem copy_gen (c : Dev nD) (j : ℕ) {sp sp' : Space} {s : Shape} {e : EltTy} {src : Memref sig .tc sp s e} {dst : Memref sig .tc sp' s e}
    {hsrc : src.view.WordExact} {hdst : dst.view.WordExact} {hsem : DmaTarget.Typed (nD := nD) (τ := τ) (p := Proc.tc) sp (.dma (dm (40 + j))) (.here dst)}
    {α : Type} {Q : α → sProp 𝕄} {kont : PUnit → Prog (TpuEff nD τ sig (Elt F) Λ₀ .tc) α}
    {Src Dst' : sProp 𝕄} (q : PosShare TreeShare) (fs : Buf (Elt F) (src.view.loc (c : Thread nD τ))) (fd : Buf (Elt F) (dst.view.loc (c : Thread nD τ)))
    (hS : Src = iprop(src.view.loc (c : Thread nD τ) ↦[src.view.set]{q} fs))
    (hD : iprop(dst.view.loc (c : Thread nD τ) ↦[dst.view.set]{fullShare} (dst.view.write (Elt F) fd (src.view.read (Elt F) fs) Finset.univ)) = Dst')
    (hN : dst.view.dmaCredit = lamt j) :
    iprop(Src ∗ (dst.view.loc (c : Thread nD τ) ↦[dst.view.set]{fullShare} fd) ∗ lZ c j)
      ⊢ iprop((lFl c j iprop(Dst' ∗ Src) -∗ run c (kont ⟨⟩) Q)
        -∗ run c (.op (.enqueueDma src (.here dst) (.dma (dm (40 + j))) hsrc hdst hsem) kont) Q) := by
  subst hS hD
  exact Transfers.wp_dmaLocal (defs := defs₀ (F := F)) EC 𝒱₀ (c : Thread nD τ) none (via := .same) () (lamt j) hN (lamt_pos j) subset_rfl

/-- Waiting for local copy `j`. -/
theorem copy_wait (c : Dev nD) (j : ℕ) (ks : List ℕ) {D : sProp 𝕄} {sp sp' : Space} {s s' : Shape} {e e' : EltTy} {sem : DmaSem sig}
    {srcw : Memref sig .tc sp' s' e'} {dstw : Memref sig .tc sp s e} {hsrc hdst}
    {α : Type} {Q : α → sProp 𝕄} {kont : PUnit → Prog (TpuEff nD τ sig (Elt F) Λ₀ .tc) α}
    (hj : j < 10) (hsem : sem = dm (40 + j)) (hN : dstw.view.dmaCredit = lamt j) (hks : ∀ j ∈ ks, 0 < lvD ((20 + j) % 50)) :
    iprop(ctx m K ∗ lFl c j D ∗ OW c ks)
      ⊢ iprop(((D ∗ lZ c j ∗ OW c ks) -∗ run c (kont ⟨⟩) Q)
        -∗ run c (.op (.waitDma2 sem srcw dstw hsrc hdst) kont) Q) := by
  subst hsem
  unfold lFl lZ OW
  iintro ⟨#Hctx, Hf, ⟨%W, HO⟩⟩ Hk
  iapply (Transfers.wp_waitLocalO (defs := defs₀ (F := F)) EC 𝒱₀ (c : Thread nD τ) none () hN (O := owed c ks) (W := W)) $$ [Hf HO]
  · isplitl [Hf]; · iexact Hf
    isplitl [HO]; · iexact HO
    iapply (mayWait c (.dma (dm (40 + j))) ks 0 (by show lvD (dm (40 + j)).val ≤ _; rw [dm_val (by omega)]; interval_cases j <;> decide) hks)
    iapply (ctx_lev m K); iexact Hctx
  iintro ⟨HD, Hz, HO⟩
  iapply Hk
  isplitl [HD]; · iexact HD
  isplitl [Hz]; · iexact Hz
  iexists _; iexact HO

section Copies
variable (c : Dev nD)

theorem copy_k {sem : DmaSem sig} {hsrc hdst hsem} {α : Type} {Q : α → sProp 𝕄} {kont : PUnit → Prog (TpuEff nD τ sig (Elt F) Λ₀ .tc) α}
    (f : Vec F S4x512 .f32) (hs : sem = dm 40) :
    iprop(kP m c ∗ kwP c f ∗ lZ c 0)
      ⊢ iprop((lFl c 0 iprop(kwP c (argK m c) ∗ kP m c) -∗ run c (kont ⟨⟩) Q)
        -∗ run c (.op (.enqueueDma (Memref.whole main_arg1 : Memref sig .tc .hbm S4x512 .f32) (.here (Memref.whole cc0_scratch6 : Memref sig .tc .vmem S4x512 .f32)) (.dma sem) hsrc hdst hsem) kont) Q) := by
  subst hs
  have h := copy_gen c 0 (src := (Memref.whole main_arg1 : Memref sig .tc .hbm S4x512 .f32)) (dst := (Memref.whole cc0_scratch6 : Memref sig .tc .vmem S4x512 .f32))
    (hsrc := hsrc) (hdst := hdst) (hsem := hsem) (Q := Q) (kont := kont) (Src := kP m c) (Dst' := kwP c (argK m c)) fullShare (argK m c) f
    (by unfold kP; rw [View.set_whole]) (by unfold kwP; rw [View.set_whole]; refine congrArg _ ?_; funext i; exact View.write_emb_of_mem (Val := Elt F) (v := (Memref.whole cc0_scratch6 : Memref sig .tc .vmem S4x512 .f32).view) _ _ (Finset.mem_univ i)) rfl
  unfold kwP at h ⊢
  rw [View.set_whole] at h
  exact h

theorem copy_w {sem : DmaSem sig} {hsrc hdst hsem} {α : Type} {Q : α → sProp 𝕄} {kont : PUnit → Prog (TpuEff nD τ sig (Elt F) Λ₀ .tc) α}
    (f : Vec F S512x512 .f32) (hs : sem = dm 41) :
    iprop(wP m c ∗ wwP c f ∗ lZ c 1)
      ⊢ iprop((lFl c 1 iprop(wwP c (argW m c) ∗ wP m c) -∗ run c (kont ⟨⟩) Q)
        -∗ run c (.op (.enqueueDma (Memref.whole main_arg2 : Memref sig .tc .hbm S512x512 .f32) (.here (Memref.whole cc0_scratch7 : Memref sig .tc .vmem S512x512 .f32)) (.dma sem) hsrc hdst hsem) kont) Q) := by
  subst hs
  have h := copy_gen c 1 (src := (Memref.whole main_arg2 : Memref sig .tc .hbm S512x512 .f32)) (dst := (Memref.whole cc0_scratch7 : Memref sig .tc .vmem S512x512 .f32))
    (hsrc := hsrc) (hdst := hdst) (hsem := hsem) (Q := Q) (kont := kont) (Src := wP m c) (Dst' := wwP c (argW m c)) fullShare (argW m c) f
    (by unfold wP; rw [View.set_whole]) (by unfold wwP; rw [View.set_whole]; refine congrArg _ ?_; funext i; exact View.write_emb_of_mem (Val := Elt F) (v := (Memref.whole cc0_scratch7 : Memref sig .tc .vmem S512x512 .f32).view) _ _ (Finset.mem_univ i)) rfl
  unfold wwP at h ⊢
  rw [View.set_whole] at h
  exact h

theorem copy_x0 (j b : ℕ) {off : Fin 3 → ℕ} {inb} {sem : DmaSem sig} {hsrc hdst hsem} {α : Type} {Q : α → sProp 𝕄} {kont : PUnit → Prog (TpuEff nD τ sig (Elt F) Λ₀ .tc) α}
    (f : Vec F S1x1024x512 .f32) (hs : sem = dm (40 + j)) (ho : off = ![b, 0, 0]) (hN : (Memref.whole cc0_scratch4 : Memref sig .tc .vmem S1x1024x512 .f32).view.dmaCredit = lamt j) :
    iprop(xP m c b ∗ xb0P c f ∗ lZ c j)
      ⊢ iprop((lFl c j iprop(xb0P c (xblk m c b) ∗ xP m c b) -∗ run c (kont ⟨⟩) Q)
        -∗ run c (.op (.enqueueDma (xM.slice (Rect.unit (s := S4x1024x512) off S1x1024x512.size inb) (fun _ => rfl)) (.here (Memref.whole cc0_scratch4 : Memref sig .tc .vmem S1x1024x512 .f32)) (.dma sem) hsrc hdst hsem) kont) Q) := by
  subst hs
  have hset : (xM.slice (Rect.unit (s := S4x1024x512) off S1x1024x512.size inb) (fun _ => rfl)).view.set = blk b 1 0 1024 := (View.set_slice_whole _ _).trans (rectC_set ho rfl)
  have h := copy_gen c j (src := xM.slice (Rect.unit (s := S4x1024x512) off S1x1024x512.size inb) (fun _ => rfl)) (dst := (Memref.whole cc0_scratch4 : Memref sig .tc .vmem S1x1024x512 .f32))
    (hsrc := hsrc) (hdst := hdst) (hsem := hsem) (Q := Q) (kont := kont) (Src := xP m c b) (Dst' := xb0P c (xblk m c b)) fullShare (argX m c) f
    (by unfold xP; rw [hset])
    (by
      unfold xb0P; rw [View.set_whole]; refine congrArg _ ?_; funext i
      have h1 := View.write_emb_of_mem (Val := Elt F) (v := (Memref.whole cc0_scratch4 : Memref sig .tc .vmem S1x1024x512 .f32).view) f
        ((xM.slice (Rect.unit (s := S4x1024x512) off S1x1024x512.size inb) (fun _ => rfl)).view.read (Elt F) (argX m c)) (Finset.mem_univ i)
      refine h1.trans ?_
      have h2 := xblk_apply (m := m) c (b := b) (i := (Rect.unit (s := S4x1024x512) off S1x1024x512.size inb).emb i) (j := i)
        ((emb3_0 ho i).trans (by have : (i 0).val < 1 := (i 0).isLt; omega)) ((emb3_1 ho i).trans (Nat.zero_add _)) (emb3_2 ho i)
      exact h2) hN
  unfold xb0P at h ⊢
  rw [View.set_whole] at h
  exact h

theorem copy_x1 (j b : ℕ) {off : Fin 3 → ℕ} {inb} {sem : DmaSem sig} {hsrc hdst hsem} {α : Type} {Q : α → sProp 𝕄} {kont : PUnit → Prog (TpuEff nD τ sig (Elt F) Λ₀ .tc) α}
    (f : Vec F S1x1024x512 .f32) (hs : sem = dm (40 + j)) (ho : off = ![b, 0, 0]) (hN : (Memref.whole cc0_scratch5 : Memref sig .tc .vmem S1x1024x512 .f32).view.dmaCredit = lamt j) :
    iprop(xP m c b ∗ xb1P c f ∗ lZ c j)
      ⊢ iprop((lFl c j iprop(xb1P c (xblk m c b) ∗ xP m c b) -∗ run c (kont ⟨⟩) Q)
        -∗ run c (.op (.enqueueDma (xM.slice (Rect.unit (s := S4x1024x512) off S1x1024x512.size inb) (fun _ => rfl)) (.here (Memref.whole cc0_scratch5 : Memref sig .tc .vmem S1x1024x512 .f32)) (.dma sem) hsrc hdst hsem) kont) Q) := by
  subst hs
  have hset : (xM.slice (Rect.unit (s := S4x1024x512) off S1x1024x512.size inb) (fun _ => rfl)).view.set = blk b 1 0 1024 := (View.set_slice_whole _ _).trans (rectC_set ho rfl)
  have h := copy_gen c j (src := xM.slice (Rect.unit (s := S4x1024x512) off S1x1024x512.size inb) (fun _ => rfl)) (dst := (Memref.whole cc0_scratch5 : Memref sig .tc .vmem S1x1024x512 .f32))
    (hsrc := hsrc) (hdst := hdst) (hsem := hsem) (Q := Q) (kont := kont) (Src := xP m c b) (Dst' := xb1P c (xblk m c b)) fullShare (argX m c) f
    (by unfold xP; rw [hset])
    (by
      unfold xb1P; rw [View.set_whole]; refine congrArg _ ?_; funext i
      have h1 := View.write_emb_of_mem (Val := Elt F) (v := (Memref.whole cc0_scratch5 : Memref sig .tc .vmem S1x1024x512 .f32).view) f
        ((xM.slice (Rect.unit (s := S4x1024x512) off S1x1024x512.size inb) (fun _ => rfl)).view.read (Elt F) (argX m c)) (Finset.mem_univ i)
      refine h1.trans ?_
      have h2 := xblk_apply (m := m) c (b := b) (i := (Rect.unit (s := S4x1024x512) off S1x1024x512.size inb).emb i) (j := i)
        ((emb3_0 ho i).trans (by have : (i 0).val < 1 := (i 0).isLt; omega)) ((emb3_1 ho i).trans (Nat.zero_add _)) (emb3_2 ho i)
      exact h2) hN
  unfold xb1P at h ⊢
  rw [View.set_whole] at h
  exact h

/-- Copying one finished batch out to the result. -/
theorem copy_out (j b : ℕ) (q : PosShare TreeShare) {off : Fin 3 → ℕ} {inb inb'} {sem : DmaSem sig} {hsrc hdst hsem} {α : Type} {Q : α → sProp 𝕄} {kont : PUnit → Prog (TpuEff nD τ sig (Elt F) Λ₀ .tc) α}
    (f : S4x1024x512.Idx → F .bf16) (hs : sem = dm (40 + j)) (ho : off = ![b, 0, 0])
    (hN : (voM.slice (Rect.unit (s := S4x1024x512) off S1x1024x512.size inb') (fun _ => rfl)).view.dmaCredit = lamt j) :
    iprop(ouP c b 0 1024 q (OU m) ∗ voP c b f ∗ lZ c j)
      ⊢ iprop((lFl c j iprop(voP c b (OU m) ∗ ouP c b 0 1024 q (OU m)) -∗ run c (kont ⟨⟩) Q)
        -∗ run c (.op (.enqueueDma (ouM.slice (Rect.unit (s := S4x1024x512) off S1x1024x512.size inb) (fun _ => rfl))
          (.here (voM.slice (Rect.unit (s := S4x1024x512) off S1x1024x512.size inb') (fun _ => rfl))) (.dma sem) hsrc hdst hsem) kont) Q) := by
  subst hs
  have hset : (ouM.slice (Rect.unit (s := S4x1024x512) off S1x1024x512.size inb) (fun _ => rfl)).view.set = blk b 1 0 1024 := (View.set_slice_whole _ _).trans (rectC_set ho rfl)
  have hset' : (voM.slice (Rect.unit (s := S4x1024x512) off S1x1024x512.size inb') (fun _ => rfl)).view.set = blk b 1 0 1024 := (View.set_slice_whole _ _).trans (rectC_set ho rfl)
  have h := copy_gen c j (src := ouM.slice (Rect.unit (s := S4x1024x512) off S1x1024x512.size inb) (fun _ => rfl)) (dst := voM.slice (Rect.unit (s := S4x1024x512) off S1x1024x512.size inb') (fun _ => rfl))
    (hsrc := hsrc) (hdst := hdst) (hsem := hsem) (Q := Q) (kont := kont) (Src := ouP c b 0 1024 q (OU m)) (Dst' := voP c b (OU m)) q (OU m) f
    (by unfold ouP; rw [hset])
    (by
      unfold voP; rw [← hset']
      refine pointsTo_congr ?_
      intro i hi
      obtain ⟨j, -, rfl⟩ := Finset.mem_map.mp hi
      exact View.write_emb_of_mem (Val := Elt F) (v := (voM.slice (Rect.unit (s := S4x1024x512) off S1x1024x512.size inb') (fun _ => rfl)).view) f
        ((ouM.slice (Rect.unit (s := S4x1024x512) off S1x1024x512.size inb) (fun _ => rfl)).view.read (Elt F) (OU m)) (Finset.mem_univ j)) hN
  rw [hset'] at h
  exact h

/-! ## Loads of whole buffers -/

theorem hz2 : (![0, 0] : Fin 2 → ℕ) = fun _ => 0 := funext fun a => by fin_cases a <;> rfl
theorem hz3 : (![0, 0, 0] : Fin 3 → ℕ) = fun _ => 0 := funext fun a => by fin_cases a <;> rfl

theorem load_kw {inb} {hl} {α : Type} {Q : α → sProp 𝕄} {k : (S4x512.Idx → Elt F .f32) → Prog (TpuEff nD τ sig (Elt F) Λ₀ .tc) α} (f : Vec F S4x512 .f32) :
    kwP c f ⊢ iprop((kwP c f -∗ run c (k f) Q)
      -∗ run c (.op (.load (Memref.whole cc0_scratch6 : Memref sig .tc .vmem S4x512 .f32) (Rect.unit (s := S4x512) ![0, 0] S4x512.size inb).toLoadRect hl) k) Q) := by
  have h := wp_load (defs := defs₀ (F := F)) 𝒱₀ (c : Thread nD τ) none (Γ := []) Set.univ (m := (Memref.whole cc0_scratch6 : Memref sig .tc .vmem S4x512 .f32))
    (r := (Rect.unit (s := S4x512) ![0, 0] S4x512.size inb).toLoadRect) (hl := hl) (k := k) (Q := Q) (q := fullShare) (f := f) (S := Finset.univ) (Finset.subset_univ _)
  have e := Memref.readAt_unit_zero (Elt F) cc0_scratch6 hz2 inb f
  unfold kwP
  refine h.trans (wand_mono_left (wand_mono_right ?_))
  exact Entails.of_eq (congrArg (fun x => run c (k x) Q) e.symm)
theorem load_ww {inb} {hl} {α : Type} {Q : α → sProp 𝕄} {k : (S512x512.Idx → Elt F .f32) → Prog (TpuEff nD τ sig (Elt F) Λ₀ .tc) α} (f : Vec F S512x512 .f32) :
    wwP c f ⊢ iprop((wwP c f -∗ run c (k f) Q)
      -∗ run c (.op (.load (Memref.whole cc0_scratch7 : Memref sig .tc .vmem S512x512 .f32) (Rect.unit (s := S512x512) ![0, 0] S512x512.size inb).toLoadRect hl) k) Q) := by
  have h := wp_load (defs := defs₀ (F := F)) 𝒱₀ (c : Thread nD τ) none (Γ := []) Set.univ (m := (Memref.whole cc0_scratch7 : Memref sig .tc .vmem S512x512 .f32))
    (r := (Rect.unit (s := S512x512) ![0, 0] S512x512.size inb).toLoadRect) (hl := hl) (k := k) (Q := Q) (q := fullShare) (f := f) (S := Finset.univ) (Finset.subset_univ _)
  have e := Memref.readAt_unit_zero (Elt F) cc0_scratch7 hz2 inb f
  unfold wwP
  refine h.trans (wand_mono_left (wand_mono_right ?_))
  exact Entails.of_eq (congrArg (fun x => run c (k x) Q) e.symm)
theorem load_xb0 {inb} {hl} {α : Type} {Q : α → sProp 𝕄} {k : (S1x1024x512.Idx → Elt F .f32) → Prog (TpuEff nD τ sig (Elt F) Λ₀ .tc) α} (f : Vec F S1x1024x512 .f32) :
    xb0P c f ⊢ iprop((xb0P c f -∗ run c (k f) Q)
      -∗ run c (.op (.load (Memref.whole cc0_scratch4 : Memref sig .tc .vmem S1x1024x512 .f32) (Rect.unit (s := S1x1024x512) ![0, 0, 0] S1x1024x512.size inb).toLoadRect hl) k) Q) := by
  have h := wp_load (defs := defs₀ (F := F)) 𝒱₀ (c : Thread nD τ) none (Γ := []) Set.univ (m := (Memref.whole cc0_scratch4 : Memref sig .tc .vmem S1x1024x512 .f32))
    (r := (Rect.unit (s := S1x1024x512) ![0, 0, 0] S1x1024x512.size inb).toLoadRect) (hl := hl) (k := k) (Q := Q) (q := fullShare) (f := f) (S := Finset.univ) (Finset.subset_univ _)
  have e := Memref.readAt_unit_zero (Elt F) cc0_scratch4 hz3 inb f
  unfold xb0P
  refine h.trans (wand_mono_left (wand_mono_right ?_))
  exact Entails.of_eq (congrArg (fun x => run c (k x) Q) e.symm)
theorem load_xb1 {inb} {hl} {α : Type} {Q : α → sProp 𝕄} {k : (S1x1024x512.Idx → Elt F .f32) → Prog (TpuEff nD τ sig (Elt F) Λ₀ .tc) α} (f : Vec F S1x1024x512 .f32) :
    xb1P c f ⊢ iprop((xb1P c f -∗ run c (k f) Q)
      -∗ run c (.op (.load (Memref.whole cc0_scratch5 : Memref sig .tc .vmem S1x1024x512 .f32) (Rect.unit (s := S1x1024x512) ![0, 0, 0] S1x1024x512.size inb).toLoadRect hl) k) Q) := by
  have h := wp_load (defs := defs₀ (F := F)) 𝒱₀ (c : Thread nD τ) none (Γ := []) Set.univ (m := (Memref.whole cc0_scratch5 : Memref sig .tc .vmem S1x1024x512 .f32))
    (r := (Rect.unit (s := S1x1024x512) ![0, 0, 0] S1x1024x512.size inb).toLoadRect) (hl := hl) (k := k) (Q := Q) (q := fullShare) (f := f) (S := Finset.univ) (Finset.subset_univ _)
  have e := Memref.readAt_unit_zero (Elt F) cc0_scratch5 hz3 inb f
  unfold xb1P
  refine h.trans (wand_mono_left (wand_mono_right ?_))
  exact Entails.of_eq (congrArg (fun x => run c (k x) Q) e.symm)

end Copies

end Cert.Allreduce

end
-- ==== Proof.Vals.lean ====
/-
# What the stores write, and how the buffers divide

Every value the program stores is the value the model gives the place it is stored in; the pieces of the send
buffer, the receive buffer and the output buffer that the transfers read and write make up whole regions.
-/
module

public import proofs.«01_k».proof.Proof.Local

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Vals
variable (c : Dev nD)

/-! ## What the stores write -/

theorem val3 {inb} (j : S1024x512.Idx) :
    k0_pay4 (k0_pay2 (argW m c)) (k0_pay3 (k0_pay1 (argK m c)) (xblk m c (1 - yb c))) (constant S1024x512 .f32 0x00000000#32) j = SB m c ((Rect.unit (s := S4096x512) (k0_off3 c) S1024x512.size inb).emb j) := by
  have hx := xb_le c; have hy := yb_le c
  refine ((pay4_eq _ _ _ j).trans (congrArg tr (P_apply c _ j))).trans ?_
  have e0 := emb2_0 (R := 4096) (C := 512) (inb := inb) (off3_eq c) j
  exact (SB_sent c (b := 1 - yb c) (r := (j 0).val) (e0.trans (by omega)) (idx2_lt (size := S1024x512.size) rfl j) (emb2_1 (off3_eq c) j) (by omega)).symm

theorem val11 {inb} (j : S1024x512.Idx) :
    k0_pay7 (k0_pay2 (argW m c)) (k0_pay5 (k0_pay1 (argK m c)) (xblk m c (2 + (1 - xb c)))) (k0_pay6 (F := F)) j = SB m c ((Rect.unit (s := S4096x512) (k0_off11 c) S1024x512.size inb).emb j) := by
  have hx := xb_le c; have hy := yb_le c
  refine ((pay7_eq _ _ _ j).trans (congrArg tr (P_apply c _ j))).trans ?_
  have e0 := emb2_0 (R := 4096) (C := 512) (inb := inb) (off11_eq c) j
  exact (SB_sent c (b := 2 + (1 - xb c)) (r := (j 0).val) (e0.trans (by omega)) (idx2_lt (size := S1024x512.size) rfl j) (emb2_1 (off11_eq c) j) (by omega)).symm

theorem val19 {inb} (j : S1024x512.Idx) :
    k0_pay12 (k0_pay1 (argK m c)) (k0_pay2 (argW m c)) (k0_pay8 (xblk m c (yb c))) (k0_pay9 (k0_pay1 (argK m c)) (xblk m c (yb c))) (k0_pay10 (xblk m c (yb c))) (k0_pay11 (k0_pay1 (argK m c))) j = AC m c ((Rect.unit (s := S4096x512) (k0_off19 c) S1024x512.size inb).emb j) := by
  have hx := xb_le c; have hy := yb_le c
  refine ((pay12_eq _ _ _ j).trans (P_apply c _ j)).trans ?_
  have e0 := emb2_0 (R := 4096) (C := 512) (inb := inb) (off19_eq c) j
  exact (AC_at c (b := yb c) (r := (j 0).val) (e0.trans (by omega)) (idx2_lt (size := S1024x512.size) rfl j) (emb2_1 (off19_eq c) j)).symm

theorem val20 {inb} (j : S1024x512.Idx) :
    k0_pay16 (k0_pay1 (argK m c)) (k0_pay2 (argW m c)) (k0_pay13 (xblk m c (2 + xb c))) (k0_pay14 (k0_pay1 (argK m c)) (xblk m c (2 + xb c))) (k0_pay15 (k0_pay1 (argK m c)) (xblk m c (2 + xb c))) j = AC m c ((Rect.unit (s := S4096x512) (k0_off20 c) S1024x512.size inb).emb j) := by
  have hx := xb_le c; have hy := yb_le c
  refine ((pay16_eq _ _ _ j).trans (P_apply c _ j)).trans ?_
  have e0 := emb2_0 (R := 4096) (C := 512) (inb := inb) (off20_eq c) j
  exact (AC_at c (b := 2 + xb c) (r := (j 0).val) (e0.trans (by omega)) (idx2_lt (size := S1024x512.size) rfl j) (emb2_1 (off20_eq c) j)).symm

theorem val21 {inb inb' inb''} (j : S256x512.Idx) :
    k0_pay17 (fun j => AC m c ((Rect.unit (s := S4096x512) (k0_off21 c) S256x512.size inb).emb j)) (fun j => RB m c ((Rect.unit (s := S3072x512) (k0_off22 c) S256x512.size inb').emb j)) j
      = SB m c ((Rect.unit (s := S4096x512) (k0_off21 c) S256x512.size inb'').emb j) := by
  have hx := xb_le c; have hy := yb_le c
  have hj := idx2_lt (size := S256x512.size) rfl j
  refine (pay17_eq _ _ j).trans ?_
  have e0 := emb2_0 (R := 4096) (C := 512) (inb := inb) (off21_eq c) j
  have e1 := emb2_0 (R := 3072) (C := 512) (inb := inb') (off22_eq c) j
  have e2 := emb2_0 (R := 4096) (C := 512) (inb := inb'') (off21_eq c) j
  have h0 := AC_at (m := m) c (b := yb c) (r := (1 - xb c) * 512 + (j 0).val) (e0.trans (by omega)) (by omega) (emb2_1 (off21_eq c) j)
  have h1 := RB_1 (m := m) c (r := (1 - xb c) * 512 + (j 0).val) (e1.trans (by omega)) (by omega) (emb2_1 (off22_eq c) j)
  have h2 := SB_kept (m := m) c (b := yb c) (r := (1 - xb c) * 512 + (j 0).val) (e2.trans (by omega)) (by omega) (emb2_1 (off21_eq c) j) (Or.inl rfl)
  refine Eq.trans ?_ h2.symm
  unfold S2 fstP
  rw [if_pos (show yb c < 2 by omega)]
  exact congrArg tr (congrArg₂ ad h0 (congrArg ex h1))

theorem val24 {inb inb' inb''} (j : S256x512.Idx) :
    k0_pay18 (fun j => AC m c ((Rect.unit (s := S4096x512) (k0_off24 c) S256x512.size inb).emb j)) (fun j => RB m c ((Rect.unit (s := S3072x512) (k0_off25 c) S256x512.size inb').emb j)) j
      = SB m c ((Rect.unit (s := S4096x512) (k0_off24 c) S256x512.size inb'').emb j) := by
  have hx := xb_le c; have hy := yb_le c
  have hj := idx2_lt (size := S256x512.size) rfl j
  refine (pay18_eq _ _ j).trans ?_
  have e0 := emb2_0 (R := 4096) (C := 512) (inb := inb) (off24_eq c) j
  have e1 := emb2_0 (R := 3072) (C := 512) (inb := inb') (off25_eq c) j
  have e2 := emb2_0 (R := 4096) (C := 512) (inb := inb'') (off24_eq c) j
  have h0 := AC_at (m := m) c (b := 2 + xb c) (r := (1 - yb c) * 512 + (j 0).val) (e0.trans (by omega)) (by omega) (emb2_1 (off24_eq c) j)
  have h1 := RB_2 (m := m) c (r := (1 - yb c) * 512 + (j 0).val) (e1.trans (by omega)) (by omega) (emb2_1 (off25_eq c) j)
  have h2 := SB_kept (m := m) c (b := 2 + xb c) (r := (1 - yb c) * 512 + (j 0).val) (e2.trans (by omega)) (by omega) (emb2_1 (off24_eq c) j) (Or.inr rfl)
  refine Eq.trans ?_ h2.symm
  unfold S2 fstP
  rw [if_neg (show ¬ 2 + xb c < 2 by omega)]
  exact congrArg tr (congrArg₂ ad h0 (congrArg ex h1))

theorem val27 {inb inb' inb''} (j : S256x512.Idx) :
    k0_pay19 (fun j => AC m c ((Rect.unit (s := S4096x512) (k0_off27 c) S256x512.size inb).emb j)) (fun j => RB m c ((Rect.unit (s := S3072x512) (k0_off28 c) S256x512.size inb').emb j)) j
      = SB m c ((Rect.unit (s := S4096x512) (k0_off27 c) S256x512.size inb'').emb j) := by
  have hx := xb_le c; have hy := yb_le c
  have hj := idx2_lt (size := S256x512.size) rfl j
  refine (pay19_eq _ _ j).trans ?_
  have e0 := emb2_0 (R := 4096) (C := 512) (inb := inb) (off27_eq c) j
  have e1 := emb2_0 (R := 3072) (C := 512) (inb := inb') (off28_eq c) j
  have e2 := emb2_0 (R := 4096) (C := 512) (inb := inb'') (off27_eq c) j
  have h0 := AC_at (m := m) c (b := yb c) (r := (1 - xb c) * 512 + 256 + (j 0).val) (e0.trans (by omega)) (by omega) (emb2_1 (off27_eq c) j)
  have h1 := RB_1 (m := m) c (r := (1 - xb c) * 512 + 256 + (j 0).val) (e1.trans (by omega)) (by omega) (emb2_1 (off28_eq c) j)
  have h2 := SB_kept (m := m) c (b := yb c) (r := (1 - xb c) * 512 + 256 + (j 0).val) (e2.trans (by omega)) (by omega) (emb2_1 (off27_eq c) j) (Or.inl rfl)
  refine Eq.trans ?_ h2.symm
  unfold S2 fstP
  rw [if_pos (show yb c < 2 by omega)]
  exact congrArg tr (congrArg₂ ad h0 (congrArg ex h1))

theorem val30 {inb inb' inb''} (j : S256x512.Idx) :
    k0_pay20 (fun j => AC m c ((Rect.unit (s := S4096x512) (k0_off30 c) S256x512.size inb).emb j)) (fun j => RB m c ((Rect.unit (s := S3072x512) (k0_off31 c) S256x512.size inb').emb j)) j
      = SB m c ((Rect.unit (s := S4096x512) (k0_off30 c) S256x512.size inb'').emb j) := by
  have hx := xb_le c; have hy := yb_le c
  have hj := idx2_lt (size := S256x512.size) rfl j
  refine (pay20_eq _ _ j).trans ?_
  have e0 := emb2_0 (R := 4096) (C := 512) (inb := inb) (off30_eq c) j
  have e1 := emb2_0 (R := 3072) (C := 512) (inb := inb') (off31_eq c) j
  have e2 := emb2_0 (R := 4096) (C := 512) (inb := inb'') (off30_eq c) j
  have h0 := AC_at (m := m) c (b := 2 + xb c) (r := (1 - yb c) * 512 + 256 + (j 0).val) (e0.trans (by omega)) (by omega) (emb2_1 (off30_eq c) j)
  have h1 := RB_2 (m := m) c (r := (1 - yb c) * 512 + 256 + (j 0).val) (e1.trans (by omega)) (by omega) (emb2_1 (off31_eq c) j)
  have h2 := SB_kept (m := m) c (b := 2 + xb c) (r := (1 - yb c) * 512 + 256 + (j 0).val) (e2.trans (by omega)) (by omega) (emb2_1 (off30_eq c) j) (Or.inr rfl)
  refine Eq.trans ?_ h2.symm
  unfold S2 fstP
  rw [if_neg (show ¬ 2 + xb c < 2 by omega)]
  exact congrArg tr (congrArg₂ ad h0 (congrArg ex h1))

theorem val35 {inb inb1 inb2 inb3} (j : S1x256x512.Idx) :
    k0_pay22 (k0_pay21 (fun j => AC m c ((Rect.unit (s := S4096x512) (k0_off33 c) S256x512.size inb).emb j)) (fun j => RB m c ((Rect.unit (s := S3072x512) (k0_off34 c) S256x512.size inb1).emb j)) (fun j => RB m c ((Rect.unit (s := S3072x512) ![2560, 0] S256x512.size inb2).emb j))) j
      = OU m ((Rect.unit (s := S4x1024x512) (k0_off35 c) S1x256x512.size inb3).emb j) := by
  have hx := xb_le c; have hy := yb_le c
  have hj := idx2_lt (size := S256x512.size) rfl (tl j)
  have hj0 : (j 0).val < 1 := (j 0).isLt
  have t0 : (tl j 0).val = (j 1).val := rfl
  have t1 : (tl j 1).val = (j 2).val := rfl
  refine (pay22_eq _ _ _ j).trans ?_
  have e0 := emb2_0 (R := 4096) (C := 512) (inb := inb) (off33_eq c) (tl j)
  have e1 := emb2_0 (R := 3072) (C := 512) (inb := inb1) (off34_eq c) (tl j)
  have e2 := emb2_0 (R := 3072) (C := 512) (inb := inb2) rfl (tl j)
  have e3 := emb3_0 (B := 4) (R := 1024) (C := 512) (inb := inb3) (off35_eq c) j
  have e4 := emb3_1 (B := 4) (R := 1024) (C := 512) (inb := inb3) (off35_eq c) j
  have h0 := AC_at (m := m) c (b := 2 + xb c) (r := yb c * 512 + (0 + (tl j 0).val)) (e0.trans (by omega)) (by omega) (emb2_1 (off33_eq c) (tl j))
  have h1 := RB_2 (m := m) c (r := yb c * 512 + (0 + (tl j 0).val)) (e1.trans (by omega)) (by omega) (emb2_1 (off34_eq c) (tl j))
  have h2 := RB_4 (m := m) c (r := 0 + (tl j 0).val) (e2.trans (by omega)) (by omega) (emb2_1 rfl (tl j))
  have h3 := OU_2 (m := m) c (r := 0 + (tl j 0).val) (e3.trans (by omega)) (e4.trans (by omega)) (by omega) (emb3_2 (off35_eq c) j)
  refine Eq.trans ?_ h3.symm
  unfold S4 fstP sndP
  rw [if_neg (show ¬ 2 + xb c < 2 by omega), if_neg (show ¬ 2 + xb c < 2 by omega)]
  exact congrArg tr (congrArg₂ ad (congrArg₂ ad h0 (congrArg ex h1)) (congrArg ex h2))

theorem val39 {inb inb1 inb2 inb3} (j : S1x256x512.Idx) :
    k0_pay24 (k0_pay23 (fun j => AC m c ((Rect.unit (s := S4096x512) (k0_off37 c) S256x512.size inb).emb j)) (fun j => RB m c ((Rect.unit (s := S3072x512) (k0_off38 c) S256x512.size inb1).emb j)) (fun j => RB m c ((Rect.unit (s := S3072x512) ![2048, 0] S256x512.size inb2).emb j))) j
      = OU m ((Rect.unit (s := S4x1024x512) (k0_off39 c) S1x256x512.size inb3).emb j) := by
  have hx := xb_le c; have hy := yb_le c
  have hj := idx2_lt (size := S256x512.size) rfl (tl j)
  have hj0 : (j 0).val < 1 := (j 0).isLt
  have t0 : (tl j 0).val = (j 1).val := rfl
  have t1 : (tl j 1).val = (j 2).val := rfl
  refine (pay24_eq _ _ _ j).trans ?_
  have e0 := emb2_0 (R := 4096) (C := 512) (inb := inb) (off37_eq c) (tl j)
  have e1 := emb2_0 (R := 3072) (C := 512) (inb := inb1) (off38_eq c) (tl j)
  have e2 := emb2_0 (R := 3072) (C := 512) (inb := inb2) rfl (tl j)
  have e3 := emb3_0 (B := 4) (R := 1024) (C := 512) (inb := inb3) (off39_eq c) j
  have e4 := emb3_1 (B := 4) (R := 1024) (C := 512) (inb := inb3) (off39_eq c) j
  have h0 := AC_at (m := m) c (b := yb c) (r := xb c * 512 + (0 + (tl j 0).val)) (e0.trans (by omega)) (by omega) (emb2_1 (off37_eq c) (tl j))
  have h1 := RB_1 (m := m) c (r := xb c * 512 + (0 + (tl j 0).val)) (e1.trans (by omega)) (by omega) (emb2_1 (off38_eq c) (tl j))
  have h2 := RB_3 (m := m) c (r := 0 + (tl j 0).val) (e2.trans (by omega)) (by omega) (emb2_1 rfl (tl j))
  have h3 := OU_1 (m := m) c (r := 0 + (tl j 0).val) (e3.trans (by omega)) (e4.trans (by omega)) (by omega) (emb3_2 (off39_eq c) j)
  refine Eq.trans ?_ h3.symm
  unfold S4 fstP sndP
  rw [if_pos (show yb c < 2 by omega), if_pos (show yb c < 2 by omega)]
  exact congrArg tr (congrArg₂ ad (congrArg₂ ad h0 (congrArg ex h1)) (congrArg ex h2))

theorem val43 {inb inb1 inb2 inb3} (j : S1x256x512.Idx) :
    k0_pay26 (k0_pay25 (fun j => AC m c ((Rect.unit (s := S4096x512) (k0_off41 c) S256x512.size inb).emb j)) (fun j => RB m c ((Rect.unit (s := S3072x512) (k0_off42 c) S256x512.size inb1).emb j)) (fun j => RB m c ((Rect.unit (s := S3072x512) ![2816, 0] S256x512.size inb2).emb j))) j
      = OU m ((Rect.unit (s := S4x1024x512) (k0_off43 c) S1x256x512.size inb3).emb j) := by
  have hx := xb_le c; have hy := yb_le c
  have hj := idx2_lt (size := S256x512.size) rfl (tl j)
  have hj0 : (j 0).val < 1 := (j 0).isLt
  have t0 : (tl j 0).val = (j 1).val := rfl
  have t1 : (tl j 1).val = (j 2).val := rfl
  refine (pay26_eq _ _ _ j).trans ?_
  have e0 := emb2_0 (R := 4096) (C := 512) (inb := inb) (off41_eq c) (tl j)
  have e1 := emb2_0 (R := 3072) (C := 512) (inb := inb1) (off42_eq c) (tl j)
  have e2 := emb2_0 (R := 3072) (C := 512) (inb := inb2) rfl (tl j)
  have e3 := emb3_0 (B := 4) (R := 1024) (C := 512) (inb := inb3) (off43_eq c) j
  have e4 := emb3_1 (B := 4) (R := 1024) (C := 512) (inb := inb3) (off43_eq c) j
  have h0 := AC_at (m := m) c (b := 2 + xb c) (r := yb c * 512 + (256 + (tl j 0).val)) (e0.trans (by omega)) (by omega) (emb2_1 (off41_eq c) (tl j))
  have h1 := RB_2 (m := m) c (r := yb c * 512 + (256 + (tl j 0).val)) (e1.trans (by omega)) (by omega) (emb2_1 (off42_eq c) (tl j))
  have h2 := RB_4 (m := m) c (r := 256 + (tl j 0).val) (e2.trans (by omega)) (by omega) (emb2_1 rfl (tl j))
  have h3 := OU_2 (m := m) c (r := 256 + (tl j 0).val) (e3.trans (by omega)) (e4.trans (by omega)) (by omega) (emb3_2 (off43_eq c) j)
  refine Eq.trans ?_ h3.symm
  unfold S4 fstP sndP
  rw [if_neg (show ¬ 2 + xb c < 2 by omega), if_neg (show ¬ 2 + xb c < 2 by omega)]
  exact congrArg tr (congrArg₂ ad (congrArg₂ ad h0 (congrArg ex h1)) (congrArg ex h2))

theorem val47 {inb inb1 inb2 inb3} (j : S1x256x512.Idx) :
    k0_pay28 (k0_pay27 (fun j => AC m c ((Rect.unit (s := S4096x512) (k0_off45 c) S256x512.size inb).emb j)) (fun j => RB m c ((Rect.unit (s := S3072x512) (k0_off46 c) S256x512.size inb1).emb j))) (fun j => RB m c ((Rect.unit (s := S3072x512) ![2304, 0] S256x512.size inb2).emb j)) j
      = OU m ((Rect.unit (s := S4x1024x512) (k0_off47 c) S1x256x512.size inb3).emb j) := by
  have hx := xb_le c; have hy := yb_le c
  have hj := idx2_lt (size := S256x512.size) rfl (tl j)
  have hj0 : (j 0).val < 1 := (j 0).isLt
  have t0 : (tl j 0).val = (j 1).val := rfl
  have t1 : (tl j 1).val = (j 2).val := rfl
  refine (pay28_eq _ _ _ j).trans ?_
  have e0 := emb2_0 (R := 4096) (C := 512) (inb := inb) (off45_eq c) (tl j)
  have e1 := emb2_0 (R := 3072) (C := 512) (inb := inb1) (off46_eq c) (tl j)
  have e2 := emb2_0 (R := 3072) (C := 512) (inb := inb2) rfl (tl j)
  have e3 := emb3_0 (B := 4) (R := 1024) (C := 512) (inb := inb3) (off47_eq c) j
  have e4 := emb3_1 (B := 4) (R := 1024) (C := 512) (inb := inb3) (off47_eq c) j
  have h0 := AC_at (m := m) c (b := yb c) (r := xb c * 512 + (256 + (tl j 0).val)) (e0.trans (by omega)) (by omega) (emb2_1 (off45_eq c) (tl j))
  have h1 := RB_1 (m := m) c (r := xb c * 512 + (256 + (tl j 0).val)) (e1.trans (by omega)) (by omega) (emb2_1 (off46_eq c) (tl j))
  have h2 := RB_3 (m := m) c (r := 256 + (tl j 0).val) (e2.trans (by omega)) (by omega) (emb2_1 rfl (tl j))
  have h3 := OU_1 (m := m) c (r := 256 + (tl j 0).val) (e3.trans (by omega)) (e4.trans (by omega)) (by omega) (emb3_2 (off47_eq c) j)
  refine Eq.trans ?_ h3.symm
  unfold S4 fstP sndP
  rw [if_pos (show yb c < 2 by omega), if_pos (show yb c < 2 by omega)]
  exact congrArg tr (congrArg₂ ad (congrArg₂ ad h0 (congrArg ex h1)) (congrArg ex h2))

end Vals

end Cert.Allreduce

end
-- ==== Proof.Glue.lean ====
/-
# How the buffers divide

The pieces of the accumulator, the send buffer, the receive buffer and the output buffer that the program reads,
writes, sends and receives make up the whole buffers.
-/
module

public import proofs.«01_k».proof.Proof.Vals

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Glue
variable (c : Dev nD)

theorem smono {A A' B B' : sProp 𝕄} (h : A ⊢ A') (h' : B ⊢ B') : iprop(A ∗ B) ⊢ iprop(A' ∗ B') := BI.sep_mono h h'
theorem rfl_ent {A : sProp 𝕄} : A ⊢ A := BI.Entails.refl A
theorem sassoc {A B C : sProp 𝕄} : iprop((A ∗ B) ∗ C) ⊢ iprop(A ∗ B ∗ C) := by
  iintro ⟨⟨H1, H2⟩, H3⟩; iframe H1 H2 H3
theorem ent_trans {A B C : sProp 𝕄} (h : A ⊢ B) (h' : B ⊢ C) : A ⊢ C := BI.Entails.trans h h'

/-! ## Splitting one piece in two -/

theorem acc_split (f : S4096x512.Idx → F .f32) {lo n lo1 n1 lo2 n2 : ℕ} (h : (lo1 = lo ∧ lo2 = lo + n1 ∨ lo2 = lo ∧ lo1 = lo + n2) ∧ n = n1 + n2) :
    accP c lo n f ⊣⊢ iprop(accP c lo1 n1 f ∗ accP c lo2 n2 f) := by
  unfold accP; rw [rowsA_split h]; exact pointsTo_union (rowsA_disj h.1)
theorem sb_split (f : S4096x512.Idx → F .bf16) {lo n lo1 n1 lo2 n2 : ℕ} (h : (lo1 = lo ∧ lo2 = lo + n1 ∨ lo2 = lo ∧ lo1 = lo + n2) ∧ n = n1 + n2) :
    sbP c lo n f ⊣⊢ iprop(sbP c lo1 n1 f ∗ sbP c lo2 n2 f) := by
  unfold sbP; rw [rowsA_split h]; exact pointsTo_union (rowsA_disj h.1)
theorem rb_split (f : S3072x512.Idx → F .bf16) {lo n lo1 n1 lo2 n2 : ℕ} (h : (lo1 = lo ∧ lo2 = lo + n1 ∨ lo2 = lo ∧ lo1 = lo + n2) ∧ n = n1 + n2) :
    rbP c lo n f ⊣⊢ iprop(rbP c lo1 n1 f ∗ rbP c lo2 n2 f) := by
  unfold rbP; rw [rowsB_split h]; exact pointsTo_union (rowsB_disj h.1)
theorem ou_split (f : S4x1024x512.Idx → F .bf16) (b : ℕ) (q : PosShare TreeShare) {lo n lo1 n1 lo2 n2 : ℕ}
    (h : (lo1 = lo ∧ lo2 = lo + n1 ∨ lo2 = lo ∧ lo1 = lo + n2) ∧ n = n1 + n2) :
    ouP c b lo n q f ⊣⊢ iprop(ouP c b lo1 n1 q f ∗ ouP c b lo2 n2 q f) := by
  unfold ouP; rw [blk_split h]; exact pointsTo_union (blk_disj h.1)
theorem ou_share (f : S4x1024x512.Idx → F .bf16) (b lo n : ℕ) (q : PosShare TreeShare) :
    ouP c b lo n q f ⊣⊢ iprop(ouP c b lo n q.left f ∗ ouP c b lo n q.right f) := by
  unfold ouP; exact pointsTo_share (PosShare.mem_left_op_right q)

/-- Joining two pieces held at different contents. -/
theorem acc_join {lo n lo1 n1 lo2 n2 : ℕ} (h : (lo1 = lo ∧ lo2 = lo + n1 ∨ lo2 = lo ∧ lo1 = lo + n2) ∧ n = n1 + n2) :
    iprop((∃ f, accP c lo1 n1 f) ∗ (∃ f, accP c lo2 n2 f)) ⊢ (iprop(∃ f, accP c lo n f) : sProp 𝕄) := by
  iintro ⟨⟨%f, H1⟩, ⟨%g, H2⟩⟩
  iexists ((rowsA lo2 n2).piecewise g f)
  have hj : iprop(accP c lo1 n1 f ∗ accP c lo2 n2 g) ⊢ accP c lo n ((rowsA lo2 n2).piecewise g f) := by
    unfold accP; rw [rowsA_split h]; exact pointsTo_join (rowsA_disj h.1)
  iapply hj
  isplitl [H1]; · iexact H1
  iexact H2
theorem sb_join {lo n lo1 n1 lo2 n2 : ℕ} (h : (lo1 = lo ∧ lo2 = lo + n1 ∨ lo2 = lo ∧ lo1 = lo + n2) ∧ n = n1 + n2) :
    iprop((∃ f, sbP c lo1 n1 f) ∗ (∃ f, sbP c lo2 n2 f)) ⊢ (iprop(∃ f, sbP c lo n f) : sProp 𝕄) := by
  iintro ⟨⟨%f, H1⟩, ⟨%g, H2⟩⟩
  iexists ((rowsA lo2 n2).piecewise g f)
  have hj : iprop(sbP c lo1 n1 f ∗ sbP c lo2 n2 g) ⊢ sbP c lo n ((rowsA lo2 n2).piecewise g f) := by
    unfold sbP; rw [rowsA_split h]; exact pointsTo_join (rowsA_disj h.1)
  iapply hj
  isplitl [H1]; · iexact H1
  iexact H2

/-! ## What a transfer reads and writes, as pieces -/

theorem src_sb {k : ℕ} (hk : k < 10) : source m c k = sbP c (sR c k) (len k) (SB m c) := by unfold source; rw [if_pos hk]; rfl
theorem src_ou {k : ℕ} (hk : ¬ k < 10) : source m c k = ouP c (sb c k) (so c k) (len k) (shr k) (OU m) := by unfold source; rw [if_neg hk]; rfl
theorem lnd_rb {k : ℕ} (hk : k < 10) : landed m c k = rbP c (dR c k) (len k) (RB m c) := by unfold landed; rw [if_pos hk]; rfl
theorem lnd_ou {k : ℕ} (hk : ¬ k < 10) : landed m c k = ouP c (db c k) (dO c k) (len k) fullShare (OU m) := by unfold landed; rw [if_neg hk]; rfl
theorem landing_rb (f : S3072x512.Idx → F .bf16) {k : ℕ} (hk : k < 10) : rbP c (dR c k) (len k) f ⊢ landing c k := by
  unfold landing rbP; rw [if_pos hk]; iintro H; iexists f; iexact H
theorem landing_ou (f : S4x1024x512.Idx → F .bf16) {k : ℕ} (hk : ¬ k < 10) : ouP c (db c k) (dO c k) (len k) fullShare f ⊢ landing c k := by
  unfold landing ouP; rw [if_neg hk]; iintro H; iexists f; iexact H

/-- The two narrowed batches a device sends are the sources of its first six transfers. -/
theorem srcs_y : sbP c ((1 - yb c) * 1024) 1024 (SB m c) ⊢ iprop(source m c 0 ∗ source m c 2 ∗ source m c 4) := by
  have hx := xb_le c; have hy := yb_le c
  rw [src_sb m c (k := 0) (by decide), src_sb m c (k := 2) (by decide), src_sb m c (k := 4) (by decide)]
  have h1 := (sb_split c (SB m c) (lo := (1 - yb c) * 1024) (n := 1024) (lo1 := (1 - yb c) * 1024 + (1 - xb c) * 512) (n1 := 512) (lo2 := (1 - yb c) * 1024 + xb c * 512) (n2 := 512)
    (by omega)).1
  have h2 := (sb_split c (SB m c) (lo := (1 - yb c) * 1024 + (1 - xb c) * 512) (n := 512) (lo1 := (1 - yb c) * 1024 + (1 - xb c) * 512) (n1 := 256) (lo2 := (1 - yb c) * 1024 + (1 - xb c) * 512 + 256) (n2 := 256)
    (by omega)).1
  exact ent_trans h1 (ent_trans (smono h2 rfl_ent) sassoc)
theorem srcs_x : sbP c (2048 + (1 - xb c) * 1024) 1024 (SB m c) ⊢ iprop(source m c 1 ∗ source m c 3 ∗ source m c 5) := by
  have hx := xb_le c; have hy := yb_le c
  rw [src_sb m c (k := 1) (by decide), src_sb m c (k := 3) (by decide), src_sb m c (k := 5) (by decide)]
  have h1 := (sb_split c (SB m c) (lo := 2048 + (1 - xb c) * 1024) (n := 1024) (lo1 := 2048 + (1 - xb c) * 1024 + (1 - yb c) * 512) (n1 := 512) (lo2 := 2048 + (1 - xb c) * 1024 + yb c * 512) (n2 := 512)
    (by omega)).1
  have h2 := (sb_split c (SB m c) (lo := 2048 + (1 - xb c) * 1024 + (1 - yb c) * 512) (n := 512) (lo1 := 2048 + (1 - xb c) * 1024 + (1 - yb c) * 512) (n1 := 256) (lo2 := 2048 + (1 - xb c) * 1024 + (1 - yb c) * 512 + 256) (n2 := 256)
    (by omega)).1
  exact ent_trans h1 (ent_trans (smono h2 rfl_ent) sassoc)

/-- A finished piece in three shares: one kept, two for transfers. -/
theorem ou3 (f : S4x1024x512.Idx → F .bf16) (b lo n : ℕ) : ouP c b lo n fullShare f
    ⊢ iprop(ouP c b lo n fullShare.left f ∗ ouP c b lo n fullShare.right.left f ∗ ouP c b lo n fullShare.right.right f) :=
  (ou_share c f b lo n fullShare).1.trans (smono (rfl_ent) (ou_share c f b lo n fullShare.right).1)

/-- A received piece that is passed on: a share kept, the other the source of a transfer. -/
theorem pass_on {k k' : ℕ} (hk : ¬ k < 10) (hk' : ¬ k' < 10) (hb : sb c k' = db c k) (ho : so c k' = dO c k) (hl : len k' = len k) (hq : shr k' = fullShare.right) :
    landed m c k ⊢ iprop(ouP c (db c k) (dO c k) (len k) fullShare.left (OU m) ∗ source m c k') := by
  rw [lnd_ou m c hk, src_ou m c hk', hb, ho, hl, hq]
  exact (ou_share c (OU m) _ _ _ fullShare).1

theorem src14 : iprop(ouP c (yb c) (xb c * 512) 256 fullShare.right.right (OU m) ∗ ouP c (yb c) (xb c * 512 + 256) 256 fullShare.right.right (OU m)) ⊢ source m c 14 := by
  rw [src_ou m c (k := 14) (by decide)]
  exact (ou_split c (OU m) (yb c) fullShare.right.right (lo := xb c * 512) (n := 512) (by omega)).2
theorem src15 : iprop(ouP c (2 + xb c) (yb c * 512) 256 fullShare.right.right (OU m) ∗ ouP c (2 + xb c) (yb c * 512 + 256) 256 fullShare.right.right (OU m)) ⊢ source m c 15 := by
  rw [src_ou m c (k := 15) (by decide)]
  exact (ou_split c (OU m) (2 + xb c) fullShare.right.right (lo := yb c * 512) (n := 512) (by omega)).2

/-- A batch made of four quarters or of a half and two quarters. -/
theorem ou_quarters (f : S4x1024x512.Idx → F .bf16) (b z : ℕ) (hz : z ≤ 1) (q : PosShare TreeShare) :
    ouP c b 0 1024 q f ⊣⊢ iprop(ouP c b (z * 512) 512 q f ∗ ouP c b ((1 - z) * 512) 256 q f ∗ ouP c b ((1 - z) * 512 + 256) 256 q f) :=
  have h := ou_split c f b q (lo := 0) (n := 1024) (lo1 := z * 512) (n1 := 512) (lo2 := (1 - z) * 512) (n2 := 512) (by omega)
  have h' := ou_split c f b q (lo := (1 - z) * 512) (n := 512) (lo1 := (1 - z) * 512) (n1 := 256) (lo2 := (1 - z) * 512 + 256) (n2 := 256) (by omega)
  ⟨h.1.trans (smono (rfl_ent) h'.1), (smono (rfl_ent) h'.2).trans h.2⟩
theorem ou_half (f : S4x1024x512.Idx → F .bf16) (b z : ℕ) (q : PosShare TreeShare) :
    ouP c b (z * 512) 512 q f ⊣⊢ iprop(ouP c b (z * 512) 256 q f ∗ ouP c b (z * 512 + 256) 256 q f) :=
  ou_split c f b q (by omega)

theorem batch_yl : iprop(ouP c (yb c) (xb c * 512) 256 fullShare.left (OU m) ∗ ouP c (yb c) (xb c * 512 + 256) 256 fullShare.left (OU m)
      ∗ ouP c (db c 10) (dO c 10) (len 10) fullShare.left (OU m) ∗ ouP c (db c 12) (dO c 12) (len 12) fullShare.left (OU m))
    ⊢ ouP c (yb c) 0 1024 fullShare.left (OU m) := by
  iintro ⟨H1, H2, H3, H4⟩
  iapply (ou_quarters c (OU m) (yb c) (xb c) (xb_le c) fullShare.left).2
  isplitl [H1 H2]
  · iapply (ou_half c (OU m) (yb c) (xb c) fullShare.left).2
    isplitl [H1]; · iexact H1
    iexact H2
  isplitl [H3]; · iexact H3
  iexact H4
theorem batch_xl : iprop(ouP c (2 + xb c) (yb c * 512) 256 fullShare.left (OU m) ∗ ouP c (2 + xb c) (yb c * 512 + 256) 256 fullShare.left (OU m)
      ∗ ouP c (db c 11) (dO c 11) (len 11) fullShare.left (OU m) ∗ ouP c (db c 13) (dO c 13) (len 13) fullShare.left (OU m))
    ⊢ ouP c (2 + xb c) 0 1024 fullShare.left (OU m) := by
  iintro ⟨H1, H2, H3, H4⟩
  iapply (ou_quarters c (OU m) (2 + xb c) (yb c) (yb_le c) fullShare.left).2
  isplitl [H1 H2]
  · iapply (ou_half c (OU m) (2 + xb c) (yb c) fullShare.left).2
    isplitl [H1]; · iexact H1
    iexact H2
  isplitl [H3]; · iexact H3
  iexact H4
theorem batch_yr : iprop(landed m c 14 ∗ landed m c 16 ∗ landed m c 18) ⊢ ouP c (1 - yb c) 0 1024 fullShare (OU m) := by
  rw [lnd_ou m c (k := 14) (by decide), lnd_ou m c (k := 16) (by decide), lnd_ou m c (k := 18) (by decide)]
  exact (ou_quarters c (OU m) (1 - yb c) (xb c) (xb_le c) fullShare).2
theorem batch_xr : iprop(landed m c 15 ∗ landed m c 17 ∗ landed m c 19) ⊢ ouP c (2 + (1 - xb c)) 0 1024 fullShare (OU m) := by
  rw [lnd_ou m c (k := 15) (by decide), lnd_ou m c (k := 17) (by decide), lnd_ou m c (k := 19) (by decide)]
  exact (ou_quarters c (OU m) (2 + (1 - xb c)) (yb c) (yb_le c) fullShare).2

/-! ## Whole buffers -/

/-- Four batches. -/
theorem ou_all (f : S4x1024x512.Idx → F .bf16) :
    (((c : Thread nD τ).loc cc0_scratch3) ↦{fullShare} (f : Buf (Elt F) ((c : Thread nD τ).loc cc0_scratch3)) : sProp 𝕄)
      ⊣⊢ iprop((ouP c (yb c) 0 1024 fullShare f ∗ ouP c (1 - yb c) 0 1024 fullShare f) ∗ ouP c (2 + xb c) 0 1024 fullShare f ∗ ouP c (2 + (1 - xb c)) 0 1024 fullShare f) := by
  have hx := xb_le c; have hy := yb_le c
  have e : (Finset.univ : Finset (Idx ((c : Thread nD τ).loc cc0_scratch3))) = (blk (yb c) 1 0 1024 ∪ blk (1 - yb c) 1 0 1024) ∪ (blk (2 + xb c) 1 0 1024 ∪ blk (2 + (1 - xb c)) 1 0 1024) := by
    refine blk_all.trans ?_
    rw [blk_splitB (b := 0) (k := 4) (b1 := 0) (k1 := 2) (b2 := 2) (k2 := 2) (by omega), blk_splitB (b := 0) (k := 2) (b1 := yb c) (k1 := 1) (b2 := 1 - yb c) (k2 := 1) (by omega),
      blk_splitB (b := 2) (k := 2) (b1 := 2 + xb c) (k1 := 1) (b2 := 2 + (1 - xb c)) (k2 := 1) (by omega)]
  have d1 : Disjoint (blk (yb c) 1 0 1024) (blk (1 - yb c) 1 0 1024) := blk_disjB (b := 0) (by omega)
  have d2 : Disjoint (blk (2 + xb c) 1 0 1024) (blk (2 + (1 - xb c)) 1 0 1024) := blk_disjB (b := 2) (by omega)
  have d3 : Disjoint (blk (yb c) 1 0 1024 ∪ blk (1 - yb c) 1 0 1024) (blk (2 + xb c) 1 0 1024 ∪ blk (2 + (1 - xb c)) 1 0 1024) := by
    rw [← blk_splitB (b := 0) (k := 2) (by omega), ← blk_splitB (b := 2) (k := 2) (by omega)]; exact blk_disjB (b := 0) (by omega)
  rw [e]
  unfold ouP
  exact ⟨(pointsTo_union d3).1.trans (smono (pointsTo_union d1).1 (pointsTo_union d2).1), (smono (pointsTo_union d1).2 (pointsTo_union d2).2).trans (pointsTo_union d3).2⟩
theorem vo_all (f : S4x1024x512.Idx → F .bf16) :
    (((c : Thread nD τ).loc main_v1) ↦{fullShare} (f : Buf (Elt F) ((c : Thread nD τ).loc main_v1)) : sProp 𝕄)
      ⊣⊢ iprop((voP c (yb c) f ∗ voP c (1 - yb c) f) ∗ voP c (2 + xb c) f ∗ voP c (2 + (1 - xb c)) f) := by
  have hx := xb_le c; have hy := yb_le c
  have e : (Finset.univ : Finset (Idx ((c : Thread nD τ).loc main_v1))) = (blk (yb c) 1 0 1024 ∪ blk (1 - yb c) 1 0 1024) ∪ (blk (2 + xb c) 1 0 1024 ∪ blk (2 + (1 - xb c)) 1 0 1024) := by
    refine blk_all.trans ?_
    rw [blk_splitB (b := 0) (k := 4) (b1 := 0) (k1 := 2) (b2 := 2) (k2 := 2) (by omega), blk_splitB (b := 0) (k := 2) (b1 := yb c) (k1 := 1) (b2 := 1 - yb c) (k2 := 1) (by omega),
      blk_splitB (b := 2) (k := 2) (b1 := 2 + xb c) (k1 := 1) (b2 := 2 + (1 - xb c)) (k2 := 1) (by omega)]
  have d1 : Disjoint (blk (yb c) 1 0 1024) (blk (1 - yb c) 1 0 1024) := blk_disjB (b := 0) (by omega)
  have d2 : Disjoint (blk (2 + xb c) 1 0 1024) (blk (2 + (1 - xb c)) 1 0 1024) := blk_disjB (b := 2) (by omega)
  have d3 : Disjoint (blk (yb c) 1 0 1024 ∪ blk (1 - yb c) 1 0 1024) (blk (2 + xb c) 1 0 1024 ∪ blk (2 + (1 - xb c)) 1 0 1024) := by
    rw [← blk_splitB (b := 0) (k := 2) (by omega), ← blk_splitB (b := 2) (k := 2) (by omega)]; exact blk_disjB (b := 0) (by omega)
  rw [e]
  unfold voP
  exact ⟨(pointsTo_union d3).1.trans (smono (pointsTo_union d1).1 (pointsTo_union d2).1), (smono (pointsTo_union d1).2 (pointsTo_union d2).2).trans (pointsTo_union d3).2⟩
theorem x_all :
    (((c : Thread nD τ).loc main_arg0) ↦{fullShare} (argX m c : Buf (Elt F) ((c : Thread nD τ).loc main_arg0)) : sProp 𝕄)
      ⊣⊢ iprop((xP m c (yb c) ∗ xP m c (1 - yb c)) ∗ xP m c (2 + xb c) ∗ xP m c (2 + (1 - xb c))) := by
  have hx := xb_le c; have hy := yb_le c
  have e : (Finset.univ : Finset (Idx ((c : Thread nD τ).loc main_arg0))) = (blk (yb c) 1 0 1024 ∪ blk (1 - yb c) 1 0 1024) ∪ (blk (2 + xb c) 1 0 1024 ∪ blk (2 + (1 - xb c)) 1 0 1024) := by
    refine blk_all.trans ?_
    rw [blk_splitB (b := 0) (k := 4) (b1 := 0) (k1 := 2) (b2 := 2) (k2 := 2) (by omega), blk_splitB (b := 0) (k := 2) (b1 := yb c) (k1 := 1) (b2 := 1 - yb c) (k2 := 1) (by omega),
      blk_splitB (b := 2) (k := 2) (b1 := 2 + xb c) (k1 := 1) (b2 := 2 + (1 - xb c)) (k2 := 1) (by omega)]
  have d1 : Disjoint (blk (yb c) 1 0 1024) (blk (1 - yb c) 1 0 1024) := blk_disjB (b := 0) (by omega)
  have d2 : Disjoint (blk (2 + xb c) 1 0 1024) (blk (2 + (1 - xb c)) 1 0 1024) := blk_disjB (b := 2) (by omega)
  have d3 : Disjoint (blk (yb c) 1 0 1024 ∪ blk (1 - yb c) 1 0 1024) (blk (2 + xb c) 1 0 1024 ∪ blk (2 + (1 - xb c)) 1 0 1024) := by
    rw [← blk_splitB (b := 0) (k := 2) (by omega), ← blk_splitB (b := 2) (k := 2) (by omega)]; exact blk_disjB (b := 0) (by omega)
  rw [e]
  unfold xP
  exact ⟨(pointsTo_union d3).1.trans (smono (pointsTo_union d1).1 (pointsTo_union d2).1), (smono (pointsTo_union d1).2 (pointsTo_union d2).2).trans (pointsTo_union d3).2⟩

set_option maxHeartbeats 400000 in
/-- The output buffer at the start: the four quarters the device fills itself, and what its partners write. -/
theorem ou_start (f : S4x1024x512.Idx → F .bf16) :
    (((c : Thread nD τ).loc cc0_scratch3) ↦{fullShare} (f : Buf (Elt F) ((c : Thread nD τ).loc cc0_scratch3)) : sProp 𝕄)
      ⊢ iprop((ouP c (yb c) (xb c * 512) 256 fullShare f ∗ ouP c (yb c) (xb c * 512 + 256) 256 fullShare f
          ∗ ouP c (2 + xb c) (yb c * 512) 256 fullShare f ∗ ouP c (2 + xb c) (yb c * 512 + 256) 256 fullShare f)
        ∗ landing c 10 ∗ landing c 11 ∗ landing c 12 ∗ landing c 13 ∗ landing c 14 ∗ landing c 15 ∗ landing c 16 ∗ landing c 17 ∗ landing c 18 ∗ landing c 19) := by
  iintro H
  ihave H := (ou_all c f).1 $$ H
  icases H with ⟨⟨H1, H2⟩, H3, H4⟩
  ihave H1 := (ou_quarters c f (yb c) (xb c) (xb_le c) fullShare).1 $$ H1
  ihave H2 := (ou_quarters c f (1 - yb c) (xb c) (xb_le c) fullShare).1 $$ H2
  ihave H3 := (ou_quarters c f (2 + xb c) (yb c) (yb_le c) fullShare).1 $$ H3
  ihave H4 := (ou_quarters c f (2 + (1 - xb c)) (yb c) (yb_le c) fullShare).1 $$ H4
  icases H1 with ⟨H1, H10, H12⟩
  icases H2 with ⟨H14, H16, H18⟩
  icases H3 with ⟨H3, H11, H13⟩
  icases H4 with ⟨H15, H17, H19⟩
  ihave H1 := (ou_half c f (yb c) (xb c) fullShare).1 $$ H1
  ihave H3 := (ou_half c f (2 + xb c) (yb c) fullShare).1 $$ H3
  icases H1 with ⟨H1, H2⟩
  icases H3 with ⟨H3, H4⟩
  isplitl [H1 H2 H3 H4]
  · iframe H1 H2 H3 H4
  isplitl [H10]; · iapply (show ouP c (yb c) ((1 - xb c) * 512) 256 fullShare f ⊢ landing c 10 from landing_ou c f (k := 10) (by decide)) $$ H10
  isplitl [H11]; · iapply (show ouP c (2 + xb c) ((1 - yb c) * 512) 256 fullShare f ⊢ landing c 11 from landing_ou c f (k := 11) (by decide)) $$ H11
  isplitl [H12]; · iapply (show ouP c (yb c) ((1 - xb c) * 512 + 256) 256 fullShare f ⊢ landing c 12 from landing_ou c f (k := 12) (by decide)) $$ H12
  isplitl [H13]; · iapply (show ouP c (2 + xb c) ((1 - yb c) * 512 + 256) 256 fullShare f ⊢ landing c 13 from landing_ou c f (k := 13) (by decide)) $$ H13
  isplitl [H14]; · iapply (show ouP c (1 - yb c) (xb c * 512) 512 fullShare f ⊢ landing c 14 from landing_ou c f (k := 14) (by decide)) $$ H14
  isplitl [H15]; · iapply (show ouP c (2 + (1 - xb c)) (yb c * 512) 512 fullShare f ⊢ landing c 15 from landing_ou c f (k := 15) (by decide)) $$ H15
  isplitl [H16]; · iapply (show ouP c (1 - yb c) ((1 - xb c) * 512) 256 fullShare f ⊢ landing c 16 from landing_ou c f (k := 16) (by decide)) $$ H16
  isplitl [H17]; · iapply (show ouP c (2 + (1 - xb c)) ((1 - yb c) * 512) 256 fullShare f ⊢ landing c 17 from landing_ou c f (k := 17) (by decide)) $$ H17
  isplitl [H18]; · iapply (show ouP c (1 - yb c) ((1 - xb c) * 512 + 256) 256 fullShare f ⊢ landing c 18 from landing_ou c f (k := 18) (by decide)) $$ H18
  iapply (show ouP c (2 + (1 - xb c)) ((1 - yb c) * 512 + 256) 256 fullShare f ⊢ landing c 19 from landing_ou c f (k := 19) (by decide)) $$ H19

/-- The receive buffer's ten pieces. -/
theorem rb_all (f : S3072x512.Idx → F .bf16) :
    (((c : Thread nD τ).loc cc0_scratch2) ↦{fullShare} (f : Buf (Elt F) ((c : Thread nD τ).loc cc0_scratch2)) : sProp 𝕄)
      ⊣⊢ iprop(((rbP c (dR c 0) (len 0) f ∗ rbP c (dR c 2) (len 2) f) ∗ rbP c (dR c 4) (len 4) f) ∗ ((rbP c (dR c 1) (len 1) f ∗ rbP c (dR c 3) (len 3) f) ∗ rbP c (dR c 5) (len 5) f)
        ∗ (rbP c (dR c 6) (len 6) f ∗ rbP c (dR c 8) (len 8) f) ∗ rbP c (dR c 7) (len 7) f ∗ rbP c (dR c 9) (len 9) f) := by
  have hx := xb_le c; have hy := yb_le c
  have e : (((c : Thread nD τ).loc cc0_scratch2) ↦{fullShare} (f : Buf (Elt F) ((c : Thread nD τ).loc cc0_scratch2)) : sProp 𝕄) = rbP c 0 3072 f := by
    unfold rbP; rw [← rowsB_all]
  rw [e]
  have h1 := rb_split c f (lo := 0) (n := 3072) (lo1 := 0) (n1 := 1024) (lo2 := 1024) (n2 := 2048) (by omega)
  have h2 := rb_split c f (lo := 1024) (n := 2048) (lo1 := 1024) (n1 := 1024) (lo2 := 2048) (n2 := 1024) (by omega)
  have h3 := rb_split c f (lo := 2048) (n := 1024) (lo1 := 2048) (n1 := 512) (lo2 := 2560) (n2 := 512) (by omega)
  have h4 := rb_split c f (lo := 0) (n := 1024) (lo1 := (1 - xb c) * 512) (n1 := 512) (lo2 := xb c * 512) (n2 := 512) (by omega)
  have h5 := rb_split c f (lo := 1024) (n := 1024) (lo1 := 1024 + (1 - yb c) * 512) (n1 := 512) (lo2 := 1024 + yb c * 512) (n2 := 512) (by omega)
  have h6 := rb_split c f (lo := (1 - xb c) * 512) (n := 512) (lo1 := (1 - xb c) * 512) (n1 := 256) (lo2 := (1 - xb c) * 512 + 256) (n2 := 256) (by omega)
  have h7 := rb_split c f (lo := 1024 + (1 - yb c) * 512) (n := 512) (lo1 := 1024 + (1 - yb c) * 512) (n1 := 256) (lo2 := 1024 + (1 - yb c) * 512 + 256) (n2 := 256) (by omega)
  have h8 := rb_split c f (lo := 2048) (n := 512) (lo1 := 2048) (n1 := 256) (lo2 := 2304) (n2 := 256) (by omega)
  have h9 := rb_split c f (lo := 2560) (n := 512) (lo1 := 2560) (n1 := 256) (lo2 := 2816) (n2 := 256) (by omega)
  constructor
  · exact h1.1.trans (smono (h4.1.trans (smono h6.1 (rfl_ent))) (h2.1.trans (smono (h5.1.trans (smono h7.1 (rfl_ent))) (h3.1.trans (smono h8.1 h9.1)))))
  · exact (smono ((smono h6.2 (rfl_ent)).trans h4.2) ((smono ((smono h7.2 (rfl_ent)).trans h5.2) ((smono h8.2 h9.2).trans h3.2)).trans h2.2)).trans h1.2

theorem rb_start (f : S3072x512.Idx → F .bf16) :
    (((c : Thread nD τ).loc cc0_scratch2) ↦{fullShare} (f : Buf (Elt F) ((c : Thread nD τ).loc cc0_scratch2)) : sProp 𝕄)
      ⊢ iprop(landing c 0 ∗ landing c 1 ∗ landing c 2 ∗ landing c 3 ∗ landing c 4 ∗ landing c 5 ∗ landing c 6 ∗ landing c 7 ∗ landing c 8 ∗ landing c 9) := by
  iintro H
  ihave H := (rb_all c f).1 $$ H
  icases H with ⟨⟨⟨H0, H2⟩, H4⟩, ⟨⟨H1, H3⟩, H5⟩, ⟨H6, H8⟩, H7, H9⟩
  isplitl [H0]; · iapply (landing_rb c f (k := 0) (by decide)) $$ H0
  isplitl [H1]; · iapply (landing_rb c f (k := 1) (by decide)) $$ H1
  isplitl [H2]; · iapply (landing_rb c f (k := 2) (by decide)) $$ H2
  isplitl [H3]; · iapply (landing_rb c f (k := 3) (by decide)) $$ H3
  isplitl [H4]; · iapply (landing_rb c f (k := 4) (by decide)) $$ H4
  isplitl [H5]; · iapply (landing_rb c f (k := 5) (by decide)) $$ H5
  isplitl [H6]; · iapply (landing_rb c f (k := 6) (by decide)) $$ H6
  isplitl [H7]; · iapply (landing_rb c f (k := 7) (by decide)) $$ H7
  isplitl [H8]; · iapply (landing_rb c f (k := 8) (by decide)) $$ H8
  iapply (landing_rb c f (k := 9) (by decide)) $$ H9

/-- The accumulator's four blocks. -/
theorem acc_all (f : S4096x512.Idx → F .f32) :
    (((c : Thread nD τ).loc cc0_scratch0) ↦{fullShare} (f : Buf (Elt F) ((c : Thread nD τ).loc cc0_scratch0)) : sProp 𝕄)
      ⊢ iprop((accP c (yb c * 1024) 1024 f ∗ accP c ((1 - yb c) * 1024) 1024 f) ∗ accP c (2048 + xb c * 1024) 1024 f ∗ accP c (2048 + (1 - xb c) * 1024) 1024 f) := by
  have hx := xb_le c; have hy := yb_le c
  have e : (((c : Thread nD τ).loc cc0_scratch0) ↦{fullShare} (f : Buf (Elt F) ((c : Thread nD τ).loc cc0_scratch0)) : sProp 𝕄) = accP c 0 4096 f := by
    unfold accP; rw [← rowsA_all]
  rw [e]
  have h1 := acc_split c f (lo := 0) (n := 4096) (lo1 := 0) (n1 := 2048) (lo2 := 2048) (n2 := 2048) (by omega)
  have h2 := acc_split c f (lo := 0) (n := 2048) (lo1 := yb c * 1024) (n1 := 1024) (lo2 := (1 - yb c) * 1024) (n2 := 1024) (by omega)
  have h3 := acc_split c f (lo := 2048) (n := 2048) (lo1 := 2048 + xb c * 1024) (n1 := 1024) (lo2 := 2048 + (1 - xb c) * 1024) (n2 := 1024) (by omega)
  exact h1.1.trans (smono h2.1 h3.1)
theorem acc_end :
    iprop(((∃ f, accP c (yb c * 1024) 1024 f) ∗ (∃ f, accP c ((1 - yb c) * 1024) 1024 f)) ∗ (∃ f, accP c (2048 + xb c * 1024) 1024 f) ∗ (∃ f, accP c (2048 + (1 - xb c) * 1024) 1024 f))
      ⊢ (iprop(∃ f : Buf (Elt F) ((c : Thread nD τ).loc cc0_scratch0), ((c : Thread nD τ).loc cc0_scratch0) ↦{fullShare} f) : sProp 𝕄) := by
  have hx := xb_le c; have hy := yb_le c
  have e : iprop(∃ f, accP c 0 4096 f) ⊢ (iprop(∃ f : Buf (Elt F) ((c : Thread nD τ).loc cc0_scratch0), ((c : Thread nD τ).loc cc0_scratch0) ↦{fullShare} f) : sProp 𝕄) := by
    unfold accP; rw [← rowsA_all]; iintro H; iexact H
  refine ent_trans ?_ e
  have h1 := acc_join (F := F) c (lo := 0) (n := 4096) (lo1 := 0) (n1 := 2048) (lo2 := 2048) (n2 := 2048) (by omega)
  have h2 := acc_join (F := F) c (lo := 0) (n := 2048) (lo1 := yb c * 1024) (n1 := 1024) (lo2 := (1 - yb c) * 1024) (n2 := 1024) (by omega)
  have h3 := acc_join (F := F) c (lo := 2048) (n := 2048) (lo1 := 2048 + xb c * 1024) (n1 := 1024) (lo2 := 2048 + (1 - xb c) * 1024) (n2 := 1024) (by omega)
  exact (smono h2 h3).trans h1

/-- The send buffer: two batches sent whole, and of the two others the two quarters sent and the half not used. -/
theorem sb_start (f : S4096x512.Idx → F .bf16) :
    (((c : Thread nD τ).loc cc0_scratch1) ↦{fullShare} (f : Buf (Elt F) ((c : Thread nD τ).loc cc0_scratch1)) : sProp 𝕄)
      ⊢ iprop(((sbP c (yb c * 1024 + xb c * 512) 512 f ∗ sbP c (sR c 6) (len 6) f ∗ sbP c (sR c 8) (len 8) f) ∗ sbP c ((1 - yb c) * 1024) 1024 f)
        ∗ (sbP c (2048 + xb c * 1024 + yb c * 512) 512 f ∗ sbP c (sR c 7) (len 7) f ∗ sbP c (sR c 9) (len 9) f) ∗ sbP c (2048 + (1 - xb c) * 1024) 1024 f) := by
  have hx := xb_le c; have hy := yb_le c
  have e : (((c : Thread nD τ).loc cc0_scratch1) ↦{fullShare} (f : Buf (Elt F) ((c : Thread nD τ).loc cc0_scratch1)) : sProp 𝕄) = sbP c 0 4096 f := by
    unfold sbP; rw [← rowsA_all]
  rw [e]
  have h1 := sb_split c f (lo := 0) (n := 4096) (lo1 := 0) (n1 := 2048) (lo2 := 2048) (n2 := 2048) (by omega)
  have h2 := sb_split c f (lo := 0) (n := 2048) (lo1 := yb c * 1024) (n1 := 1024) (lo2 := (1 - yb c) * 1024) (n2 := 1024) (by omega)
  have h3 := sb_split c f (lo := 2048) (n := 2048) (lo1 := 2048 + xb c * 1024) (n1 := 1024) (lo2 := 2048 + (1 - xb c) * 1024) (n2 := 1024) (by omega)
  have h4 := sb_split c f (lo := yb c * 1024) (n := 1024) (lo1 := yb c * 1024 + xb c * 512) (n1 := 512) (lo2 := yb c * 1024 + (1 - xb c) * 512) (n2 := 512) (by omega)
  have h5 := sb_split c f (lo := 2048 + xb c * 1024) (n := 1024) (lo1 := 2048 + xb c * 1024 + yb c * 512) (n1 := 512) (lo2 := 2048 + xb c * 1024 + (1 - yb c) * 512) (n2 := 512) (by omega)
  have h6 := sb_split c f (lo := yb c * 1024 + (1 - xb c) * 512) (n := 512) (lo1 := yb c * 1024 + (1 - xb c) * 512) (n1 := 256) (lo2 := yb c * 1024 + (1 - xb c) * 512 + 256) (n2 := 256) (by omega)
  have h7 := sb_split c f (lo := 2048 + xb c * 1024 + (1 - yb c) * 512) (n := 512) (lo1 := 2048 + xb c * 1024 + (1 - yb c) * 512) (n1 := 256) (lo2 := 2048 + xb c * 1024 + (1 - yb c) * 512 + 256) (n2 := 256) (by omega)
  exact h1.1.trans (smono (h2.1.trans (smono (h4.1.trans (smono (rfl_ent) h6.1)) (rfl_ent)))
    (h3.1.trans (smono (h5.1.trans (smono (rfl_ent) h7.1)) (rfl_ent))))
theorem src_some (k : ℕ) (hk : k < 10) : source m c k ⊢ iprop(∃ f, sbP c (sR c k) (len k) f) := by
  rw [src_sb m c hk]; iintro H; iexists (SB m c); iexact H
theorem sb_end :
    iprop((((∃ f, sbP c (yb c * 1024 + xb c * 512) 512 f) ∗ source m c 6 ∗ source m c 8) ∗ (source m c 0 ∗ source m c 2) ∗ source m c 4)
        ∗ ((∃ f, sbP c (2048 + xb c * 1024 + yb c * 512) 512 f) ∗ source m c 7 ∗ source m c 9) ∗ (source m c 1 ∗ source m c 3) ∗ source m c 5)
      ⊢ (iprop(∃ f : Buf (Elt F) ((c : Thread nD τ).loc cc0_scratch1), ((c : Thread nD τ).loc cc0_scratch1) ↦{fullShare} f) : sProp 𝕄) := by
  have hx := xb_le c; have hy := yb_le c
  have e : iprop(∃ f, sbP c 0 4096 f) ⊢ (iprop(∃ f : Buf (Elt F) ((c : Thread nD τ).loc cc0_scratch1), ((c : Thread nD τ).loc cc0_scratch1) ↦{fullShare} f) : sProp 𝕄) := by
    unfold sbP; rw [← rowsA_all]; iintro H; iexact H
  refine ent_trans ?_ e
  have h1 := sb_join (F := F) c (lo := 0) (n := 4096) (lo1 := 0) (n1 := 2048) (lo2 := 2048) (n2 := 2048) (by omega)
  have h2 := sb_join (F := F) c (lo := 0) (n := 2048) (lo1 := yb c * 1024) (n1 := 1024) (lo2 := (1 - yb c) * 1024) (n2 := 1024) (by omega)
  have h3 := sb_join (F := F) c (lo := 2048) (n := 2048) (lo1 := 2048 + xb c * 1024) (n1 := 1024) (lo2 := 2048 + (1 - xb c) * 1024) (n2 := 1024) (by omega)
  have h4 := sb_join (F := F) c (lo := yb c * 1024) (n := 1024) (lo1 := yb c * 1024 + xb c * 512) (n1 := 512) (lo2 := yb c * 1024 + (1 - xb c) * 512) (n2 := 512) (by omega)
  have h5 := sb_join (F := F) c (lo := 2048 + xb c * 1024) (n := 1024) (lo1 := 2048 + xb c * 1024 + yb c * 512) (n1 := 512) (lo2 := 2048 + xb c * 1024 + (1 - yb c) * 512) (n2 := 512) (by omega)
  have h6 := sb_join (F := F) c (lo := yb c * 1024 + (1 - xb c) * 512) (n := 512) (lo1 := yb c * 1024 + (1 - xb c) * 512) (n1 := 256) (lo2 := yb c * 1024 + (1 - xb c) * 512 + 256) (n2 := 256) (by omega)
  have h7 := sb_join (F := F) c (lo := 2048 + xb c * 1024 + (1 - yb c) * 512) (n := 512) (lo1 := 2048 + xb c * 1024 + (1 - yb c) * 512) (n1 := 256) (lo2 := 2048 + xb c * 1024 + (1 - yb c) * 512 + 256) (n2 := 256) (by omega)
  have h8 := sb_join (F := F) c (lo := (1 - yb c) * 1024) (n := 1024) (lo1 := (1 - yb c) * 1024 + (1 - xb c) * 512) (n1 := 512) (lo2 := (1 - yb c) * 1024 + xb c * 512) (n2 := 512) (by omega)
  have h9 := sb_join (F := F) c (lo := (1 - yb c) * 1024 + (1 - xb c) * 512) (n := 512) (lo1 := (1 - yb c) * 1024 + (1 - xb c) * 512) (n1 := 256) (lo2 := (1 - yb c) * 1024 + (1 - xb c) * 512 + 256) (n2 := 256) (by omega)
  have h10 := sb_join (F := F) c (lo := 2048 + (1 - xb c) * 1024) (n := 1024) (lo1 := 2048 + (1 - xb c) * 1024 + (1 - yb c) * 512) (n1 := 512) (lo2 := 2048 + (1 - xb c) * 1024 + yb c * 512) (n2 := 512) (by omega)
  have h11 := sb_join (F := F) c (lo := 2048 + (1 - xb c) * 1024 + (1 - yb c) * 512) (n := 512) (lo1 := 2048 + (1 - xb c) * 1024 + (1 - yb c) * 512) (n1 := 256) (lo2 := 2048 + (1 - xb c) * 1024 + (1 - yb c) * 512 + 256) (n2 := 256) (by omega)
  have s (k : ℕ) (hk : k < 10) := src_some m c k hk
  refine ent_trans (smono (smono (smono (rfl_ent) (smono (s 6 (by decide)) (s 8 (by decide)))) (smono (smono (s 0 (by decide)) (s 2 (by decide))) (s 4 (by decide))))
    (smono (smono (rfl_ent) (smono (s 7 (by decide)) (s 9 (by decide)))) (smono (smono (s 1 (by decide)) (s 3 (by decide))) (s 5 (by decide))))) ?_
  exact (smono ((smono ((smono (rfl_ent) h6).trans h4) ((smono h9 (rfl_ent)).trans h8)).trans h2)
    ((smono ((smono (rfl_ent) h7).trans h5) ((smono h11 (rfl_ent)).trans h10)).trans h3)).trans h1

/-- The receive buffer, once everything has arrived. -/
theorem rb_end :
    iprop(((landed m c 0 ∗ landed m c 2) ∗ landed m c 4) ∗ ((landed m c 1 ∗ landed m c 3) ∗ landed m c 5) ∗ (landed m c 6 ∗ landed m c 8) ∗ landed m c 7 ∗ landed m c 9)
      ⊢ (iprop(∃ f : Buf (Elt F) ((c : Thread nD τ).loc cc0_scratch2), ((c : Thread nD τ).loc cc0_scratch2) ↦{fullShare} f) : sProp 𝕄) := by
  rw [lnd_rb m c (k := 0) (by decide), lnd_rb m c (k := 1) (by decide), lnd_rb m c (k := 2) (by decide), lnd_rb m c (k := 3) (by decide), lnd_rb m c (k := 4) (by decide),
    lnd_rb m c (k := 5) (by decide), lnd_rb m c (k := 6) (by decide), lnd_rb m c (k := 7) (by decide), lnd_rb m c (k := 8) (by decide), lnd_rb m c (k := 9) (by decide)]
  refine (rb_all c (RB m c)).2.trans ?_
  iintro H; iexists (RB m c); iexact H

/-- The output buffer at the end. -/
theorem ou_end :
    iprop((ouP c (yb c) 0 1024 fullShare.left (OU m) ∗ (source m c 10 ∗ source m c 12) ∗ source m c 14 ∗ source m c 16 ∗ source m c 18)
        ∗ (ouP c (2 + xb c) 0 1024 fullShare.left (OU m) ∗ (source m c 11 ∗ source m c 13) ∗ source m c 15 ∗ source m c 17 ∗ source m c 19)
        ∗ ouP c (1 - yb c) 0 1024 fullShare (OU m) ∗ ouP c (2 + (1 - xb c)) 0 1024 fullShare (OU m))
      ⊢ (iprop(∃ f : Buf (Elt F) ((c : Thread nD τ).loc cc0_scratch3), ((c : Thread nD τ).loc cc0_scratch3) ↦{fullShare} f) : sProp 𝕄) := by
  rw [src_ou m c (k := 10) (by decide), src_ou m c (k := 11) (by decide), src_ou m c (k := 12) (by decide), src_ou m c (k := 13) (by decide), src_ou m c (k := 14) (by decide),
    src_ou m c (k := 15) (by decide), src_ou m c (k := 16) (by decide), src_ou m c (k := 17) (by decide), src_ou m c (k := 18) (by decide), src_ou m c (k := 19) (by decide)]
  have join (b z : ℕ) (hz : z ≤ 1) : iprop(ouP c b 0 1024 fullShare.left (OU m) ∗ (ouP c b (z * 512) 256 fullShare.right.left (OU m) ∗ ouP c b (z * 512 + 256) 256 fullShare.right.left (OU m))
      ∗ ouP c b (z * 512) 512 fullShare.right.right (OU m) ∗ ouP c b ((1 - z) * 512) 256 fullShare.right (OU m) ∗ ouP c b ((1 - z) * 512 + 256) 256 fullShare.right (OU m))
      ⊢ ouP c b 0 1024 fullShare (OU m) := by
    iintro ⟨Hl, Ha, Hb, Hc, Hd⟩
    ihave Ha := (ou_half c (OU m) b z fullShare.right.left).2 $$ Ha
    iapply (ou_share c (OU m) b 0 1024 fullShare).2
    isplitl [Hl]; · iexact Hl
    iapply (ou_quarters c (OU m) b z hz fullShare.right).2
    isplitl [Ha Hb]
    · iapply (ou_share c (OU m) b (z * 512) 512 fullShare.right).2
      isplitl [Ha]; · iexact Ha
      iexact Hb
    isplitl [Hc]; · iexact Hc
    iexact Hd
  refine ent_trans (smono (join (yb c) (xb c) (xb_le c)) (smono (join (2 + xb c) (yb c) (yb_le c)) rfl_ent)) ?_
  iintro ⟨H1, H2, H3, H4⟩
  iexists (OU m)
  iapply (ou_all c (OU m)).2
  isplitl [H1 H3]
  · isplitl [H1]; · iexact H1
    iexact H3
  isplitl [H2]; · iexact H2
  iexact H4

end Glue

end Cert.Allreduce

end
-- ==== Proof.Pieces.lean ====
/-
# Credits, and pieces in the form the steps need

The credit each transfer moves, and the few rearrangements of pieces that happen between two steps.
-/
module

public import proofs.«01_k».proof.Proof.Glue
public import proofs.«01_k».proof.Proof.Gen.KernelIdeal.Skeleton

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 40) → ℕ)

/-! ## Credits -/

/-- The credit of a transfer depends only on the buffer and the shape moved. -/
theorem credit_buf {sp : Space} {s : Shape} {e : EltTy} (v w : View sig .tc sp s e) (h : v.buf = w.buf) : v.dmaCredit = w.dmaCredit := by
  unfold View.dmaCredit; rw [h]
theorem amt_B1 {k : ℕ} (h : k ∈ [0, 1, 2, 3, 6, 7, 8, 9]) : NB1 = amt k := by
  simp only [List.mem_cons, List.mem_nil_iff, or_false] at h
  rcases h with rfl | rfl | rfl | rfl | rfl | rfl | rfl | rfl <;> (unfold amt; rfl)
theorem amt_B2 {k : ℕ} (h : k ∈ [4, 5]) : NB2 = amt k := by
  simp only [List.mem_cons, List.mem_nil_iff, or_false] at h
  rcases h with rfl | rfl <;> (unfold amt; rfl)
theorem amt_C1 {k : ℕ} (h : k ∈ [10, 11, 12, 13, 16, 17, 18, 19]) : NC1 = amt k := by
  simp only [List.mem_cons, List.mem_nil_iff, or_false] at h
  rcases h with rfl | rfl | rfl | rfl | rfl | rfl | rfl | rfl <;> (unfold amt; rfl)
theorem amt_C2 {k : ℕ} (h : k ∈ [14, 15]) : NC2 = amt k := by
  simp only [List.mem_cons, List.mem_nil_iff, or_false] at h
  rcases h with rfl | rfl <;> (unfold amt; rfl)
theorem lamt_V {k : ℕ} (h : k ∈ [6, 7, 8, 9]) :
    (voM.slice (Rect.unit (s := S4x1024x512) (k0_off18 0) S1x1024x512.size (k0_off18_inb 0)) (fun _ => rfl)).view.dmaCredit = lamt k := by
  simp only [List.mem_cons, List.mem_nil_iff, or_false] at h
  rcases h with rfl | rfl | rfl | rfl <;> (unfold lamt; rfl)

theorem cr_B1 {off : Fin 2 → ℕ} {inb} {k : ℕ} (h : k ∈ [0, 1, 2, 3, 6, 7, 8, 9]) :
    (rbM.slice (Rect.unit (s := S3072x512) off S256x512.size inb) (fun _ => rfl)).view.dmaCredit = amt k := (credit_buf (sp := .vmem) _ _ rfl).trans (amt_B1 h)
theorem cr_B2 {off : Fin 2 → ℕ} {inb} {k : ℕ} (h : k ∈ [4, 5]) :
    (rbM.slice (Rect.unit (s := S3072x512) off S512x512.size inb) (fun _ => rfl)).view.dmaCredit = amt k := (credit_buf (sp := .vmem) _ _ rfl).trans (amt_B2 h)
theorem cr_S1 {off : Fin 2 → ℕ} {inb} {k : ℕ} (h : k ∈ [0, 1, 2, 3, 6, 7, 8, 9]) :
    (sbM.slice (Rect.unit (s := S4096x512) off S256x512.size inb) (fun _ => rfl)).view.dmaCredit = amt k := by
  rw [← amt_B1 h]; unfold NB1 View.dmaCredit; rfl
theorem cr_S2 {off : Fin 2 → ℕ} {inb} {k : ℕ} (h : k ∈ [4, 5]) :
    (sbM.slice (Rect.unit (s := S4096x512) off S512x512.size inb) (fun _ => rfl)).view.dmaCredit = amt k := by
  rw [← amt_B2 h]; unfold NB2 View.dmaCredit; rfl
theorem cr_C1 {off : Fin 3 → ℕ} {inb} {k : ℕ} (h : k ∈ [10, 11, 12, 13, 16, 17, 18, 19]) :
    (ouM.slice (Rect.unit (s := S4x1024x512) off S1x256x512.size inb) (fun _ => rfl)).view.dmaCredit = amt k := (credit_buf (sp := .vmem) _ _ rfl).trans (amt_C1 h)
theorem cr_C2 {off : Fin 3 → ℕ} {inb} {k : ℕ} (h : k ∈ [14, 15]) :
    (ouM.slice (Rect.unit (s := S4x1024x512) off S1x512x512.size inb) (fun _ => rfl)).view.dmaCredit = amt k := (credit_buf (sp := .vmem) _ _ rfl).trans (amt_C2 h)
theorem cr_k : (Memref.whole cc0_scratch6 : Memref sig .tc .vmem S4x512 .f32).view.dmaCredit = lamt 0 := by unfold lamt; rfl
theorem cr_w : (Memref.whole cc0_scratch7 : Memref sig .tc .vmem S512x512 .f32).view.dmaCredit = lamt 1 := by unfold lamt; rfl
theorem cr_x0 {k : ℕ} (h : k = 2 ∨ k = 4) : (Memref.whole cc0_scratch4 : Memref sig .tc .vmem S1x1024x512 .f32).view.dmaCredit = lamt k := by
  rcases h with rfl | rfl <;> (unfold lamt; rfl)
theorem cr_x1 {k : ℕ} (h : k = 3 ∨ k = 5) : (Memref.whole cc0_scratch5 : Memref sig .tc .vmem S1x1024x512 .f32).view.dmaCredit = lamt k := by
  rcases h with rfl | rfl <;> (unfold lamt; rfl)
theorem cr_V {off : Fin 3 → ℕ} {inb} {k : ℕ} (h : k ∈ [6, 7, 8, 9]) :
    (voM.slice (Rect.unit (s := S4x1024x512) off S1x1024x512.size inb) (fun _ => rfl)).view.dmaCredit = lamt k := (credit_buf (sp := .hbm) _ _ rfl).trans (lamt_V h)

/-! ## Pieces -/

section Pieces
variable (c : Dev nD)

/-- What the partners let the device write, by transfer. -/
theorem bar_y : barPay (F := F) c false ⊢ iprop(landing (peer 0 c) 0 ∗ landing (peer 2 c) 2 ∗ landing (peer 4 c) 4 ∗ landing (peer 7 c) 7 ∗ landing (peer 9 c) 9
    ∗ landing (peer 11 c) 11 ∗ landing (peer 13 c) 13 ∗ landing (peer 14 c) 14 ∗ landing (peer 16 c) 16 ∗ landing (peer 18 c) 18) := by
  unfold barPay; rw [if_neg Bool.false_ne_true]; exact rfl_ent
theorem bar_x : barPay (F := F) c true ⊢ iprop(landing (peer 1 c) 1 ∗ landing (peer 3 c) 3 ∗ landing (peer 5 c) 5 ∗ landing (peer 6 c) 6 ∗ landing (peer 8 c) 8
    ∗ landing (peer 10 c) 10 ∗ landing (peer 12 c) 12 ∗ landing (peer 15 c) 15 ∗ landing (peer 17 c) 17 ∗ landing (peer 19 c) 19) := by
  unfold barPay; rw [if_pos rfl]; exact rfl_ent

/-- Reading rows of the receive buffer that a transfer has written. -/
theorem load_landed (k : ℕ) (hk : k < 10) {off size : Fin 2 → ℕ} {inb} {lo n : ℕ} {hl} {α : Type} {Q : α → sProp 𝕄}
    {kont : ((Rect.unit (s := S3072x512) off size inb).shape.Idx → Elt F .bf16) → Prog (TpuEff nD τ sig (Elt F) Λ₀ .tc) α}
    (ho : off = ![lo, 0]) (hs : size = ![n, 512]) (hi : dR c k ≤ lo ∧ lo + n ≤ dR c k + len k) :
    landed m c k ⊢ iprop((landed m c k -∗ run c (kont fun j => RB m c ((Rect.unit (s := S3072x512) off size inb).emb j)) Q)
      -∗ run c (.op (.load rbM (Rect.unit (s := S3072x512) off size inb).toLoadRect hl) kont) Q) := by
  rw [lnd_rb m c hk]; exact load_rb (RB m c) ho hs hi

/-- Filling the rows of the send buffer that a transfer will read. -/
theorem store_src (k : ℕ) (hk : k < 10) {off size : Fin 2 → ℕ} {inb} {w : (Rect.unit (s := S4096x512) off size inb).shape.Idx → Elt F .bf16} {hx hm} {α : Type} {Q : α → sProp 𝕄}
    {kont : PUnit → Prog (TpuEff nD τ sig (Elt F) Λ₀ .tc) α} (f : S4096x512.Idx → F .bf16) (ho : off = ![sR c k, 0]) (hs : size = ![len k, 512])
    (hw : ∀ j, w j = SB m c ((Rect.unit (s := S4096x512) off size inb).emb j)) :
    sbP c (sR c k) (len k) f ⊢ iprop((source m c k -∗ run c (kont ⟨⟩) Q)
      -∗ run c (.op (.store sbM (Rect.unit (s := S4096x512) off size inb) w Finset.univ hx hm) kont) Q) := by
  rw [src_sb m c hk]; exact store_sb f (SB m c) ho hs hw

/-- Filling a quarter of the output buffer: one share is kept, two are for transfers. -/
theorem store_own (k : ℕ) (hk : ¬ k < 10) (hq : shr k = fullShare.right.left) {off size : Fin 3 → ℕ} {inb} {w : (Rect.unit (s := S4x1024x512) off size inb).shape.Idx → Elt F .bf16} {hx hm}
    {α : Type} {Q : α → sProp 𝕄} {kont : PUnit → Prog (TpuEff nD τ sig (Elt F) Λ₀ .tc) α} (f : S4x1024x512.Idx → F .bf16)
    (ho : off = ![sb c k, so c k, 0]) (hs : size = ![1, len k, 512]) (hw : ∀ j, w j = OU m ((Rect.unit (s := S4x1024x512) off size inb).emb j)) :
    ouP c (sb c k) (so c k) (len k) fullShare f
      ⊢ iprop(((ouP c (sb c k) (so c k) (len k) fullShare.left (OU m) ∗ source m c k ∗ ouP c (sb c k) (so c k) (len k) fullShare.right.right (OU m)) -∗ run c (kont ⟨⟩) Q)
      -∗ run c (.op (.store ouM (Rect.unit (s := S4x1024x512) off size inb) w Finset.univ hx hm) kont) Q) := by
  rw [src_ou m c hk, hq]
  have h := store_ou (c := c) (Q := Q) (k := kont) (hx := hx) (hm := hm) f (OU m) ho hs hw
  iintro H Hk
  iapply h $$ H
  iintro H
  iapply Hk
  iapply (ou3 c (OU m) (sb c k) (so c k) (len k)) $$ H

theorem own14 : iprop(ouP c (sb c 10) (so c 10) (len 10) fullShare.right.right (OU m) ∗ ouP c (sb c 12) (so c 12) (len 12) fullShare.right.right (OU m)) ⊢ source m c 14 := src14 m c
theorem own15 : iprop(ouP c (sb c 11) (so c 11) (len 11) fullShare.right.right (OU m) ∗ ouP c (sb c 13) (so c 13) (len 13) fullShare.right.right (OU m)) ⊢ source m c 15 := src15 m c
theorem own_y : iprop(ouP c (sb c 10) (so c 10) (len 10) fullShare.left (OU m) ∗ ouP c (sb c 12) (so c 12) (len 12) fullShare.left (OU m)
      ∗ ouP c (db c 10) (dO c 10) (len 10) fullShare.left (OU m) ∗ ouP c (db c 12) (dO c 12) (len 12) fullShare.left (OU m)) ⊢ ouP c (yb c) 0 1024 fullShare.left (OU m) := batch_yl m c
theorem own_x : iprop(ouP c (sb c 11) (so c 11) (len 11) fullShare.left (OU m) ∗ ouP c (sb c 13) (so c 13) (len 13) fullShare.left (OU m)
      ∗ ouP c (db c 11) (dO c 11) (len 11) fullShare.left (OU m) ∗ ouP c (db c 13) (dO c 13) (len 13) fullShare.left (OU m)) ⊢ ouP c (2 + xb c) 0 1024 fullShare.left (OU m) := batch_xl m c

end Pieces

end Cert.Allreduce

end
-- ==== Proof.PartsA.lean ====
/-
# The parts of the program, up to the products

Each theorem runs one printed part of the kernel on any device: what it needs, and what it leaves.
-/
module

public import proofs.«01_k».proof.Proof.Pieces
public import proofs.«01_k».proof.Proof.Gen.KernelIdeal.Skeleton

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 40) → ℕ)

variable (c : Dev nD)

set_option maxRecDepth 65536 in
/-- The device reads its own number. -/
theorem part1 {α : Type} {Q : α → sProp 𝕄} {k : (Σ' (d0 : Dev nD) (v2 : BitVec 32) (v19 : BitVec 32) (v36 : BitVec 32) (v38 : BitVec 32), BitVec 32) → Prog (TpuEff nD τ sig (Elt F) Λ₀ .tc) α} :
    iprop(∀ (v2 v19 v36 v38 v39 : BitVec 32), run c (k ⟨c, v2, v19, v36, v38, v39⟩) Q) ⊢ run c (k0_part1 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10  >>= k) Q := by
  simp only [k0_part1_eq_skeleton]; unfold k0_part1_skel
  simp only [semSignalWord, semWaitWord, Prog.lift, Prog.bind_op, Prog.bind_ret, Prog.pure_eq_ret, wp_deviceId]
  iintro Hk
  iapply Hk

set_option maxRecDepth 65536 in
/-- The first four local copies start and both partners are signalled. -/
theorem part2 (fk : Vec F S4x512 .f32) (fw : Vec F S512x512 .f32) (f0 : Vec F S1x1024x512 .f32) (f1 : Vec F S1x1024x512 .f32) (W : Waits sig Unit) (v2 v19 v36 v38 v39 : BitVec 32) {α : Type} {Q : α → sProp 𝕄} {k : (Σ' (v47 : BitVec 32) (v48 : BitVec 32) (v49 : BitVec 32), Sems sig S_) → Prog (TpuEff nD τ sig (Elt F) Λ₀ .tc) α} :
    iprop(ctx m K ∗ kP m c ∗ kwP c fk ∗ lZ c 0 ∗ wP m c ∗ wwP c fw ∗ lZ c 1 ∗ xP m c (1 - yb c) ∗ xb0P c f0 ∗ lZ c 2 ∗ xP m c (2 + (1 - xb c)) ∗ xb1P c f1 ∗ lZ c 3 ∗ giveY c
      ∗ dutyTok ER (barCell (py c)) 0 false ∗ owes (c : Thread nD τ) (O₀ c) W ∗ giveX c ∗ dutyTok ER (barCell (px c)) 0 true)
      ⊢ iprop((∀ (v47 v48 v49 : BitVec 32), (lFl c 0 iprop(kwP c (argK m c) ∗ kP m c) ∗ lFl c 1 iprop(wwP c (argW m c) ∗ wP m c) ∗ lFl c 2 iprop(xb0P c (xblk m c (1 - yb c)) ∗ xP m c (1 - yb c))
        ∗ lFl c 3 iprop(xb1P c (xblk m c (2 + (1 - xb c))) ∗ xP m c (2 + (1 - xb c))) ∗ OW c order) -∗ run c (k ⟨v47, v48, v49, (SemArray.scalar (sig.barrier 0 rfl))⟩) Q)
        -∗ run c (k0_part2 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v2 v19 v36 v38 v39 >>= k) Q) := by
  simp only [k0_part2_eq_skeleton]; unfold k0_part2_skel
  simp only [semSignalWord, semWaitWord, Prog.lift, Prog.bind_op, Prog.bind_ret, Prog.pure_eq_ret, wp_deviceId]
  iintro ⟨#Hctx, Hk0, Hkw, Z0, Hw0, Hww, Z1, Xny, Hb0, Z2, Xnx, Hb1, Z3, GY, DY, HO, GX, DX⟩ Hk
  iapply (copy_k m c fk rfl) $$ [Hk0 Hkw Z0]
  · iframe Hk0 Hkw Z0
  iintro J0
  iapply (copy_w m c fw rfl) $$ [Hw0 Hww Z1]
  · iframe Hw0 Hww Z1
  iintro J1
  iapply (copy_x0 m c 2 _ f0 rfl (off1_eq c) (cr_x0 (by decide))) $$ [Xny Hb0 Z2]
  · iframe Xny Hb0 Z2
  iintro J2
  iapply (copy_x1 m c 3 _ f1 rfl (off2_eq c) (cr_x1 (by decide))) $$ [Xnx Hb1 Z3]
  · iframe Xnx Hb1 Z3
  iintro J3
  iapply (signal_py m K c _ (dev1_eq c) W rfl) $$ [GY DY HO]
  · iframe Hctx GY DY HO
  iintro HO
  iapply (signal_px m K c _ (dev2_eq c) W rfl) $$ [GX DX HO]
  · iframe Hctx GX DX HO
  iintro HO
  iapply Hk $$ %_ %_ %_ [J0 J1 J2 J3 HO]
  iframe J0 J1 J2 J3 HO

set_option maxRecDepth 65536 in
/-- The taps and the weights have arrived and are read. -/
theorem part3 (v19 v47 : BitVec 32) {α : Type} {Q : α → sProp 𝕄} {k : (Σ' (v74 : FVec F S4x512 .bf16) (v76 : FVec F S512x512 .bf16) (v77 : BitVec 32) (v79 : BitVec 32) (v81 : BitVec 32) (v84 : BitVec 32) (v87 : BitVec 32) (v90 : BitVec 32) (v92 : BitVec 32) (v94 : BitVec 32) (v96 : BitVec 32) (v97 : BitVec 32) (v99 : BitVec 32), BitVec 32) → Prog (TpuEff nD τ sig (Elt F) Λ₀ .tc) α} :
    iprop(ctx m K ∗ lFl c 0 iprop(kwP c (argK m c) ∗ kP m c) ∗ OW c order ∗ lFl c 1 iprop(wwP c (argW m c) ∗ wP m c))
      ⊢ iprop((∀ (v77 v79 v81 v84 v87 v90 v92 v94 v96 v97 v99 v100 : BitVec 32), (kP m c ∗ lZ c 0 ∗ wP m c ∗ lZ c 1 ∗ OW c order ∗ kwP c (argK m c) ∗ wwP c (argW m c)) -∗ run c (k ⟨(k0_pay1 (argK m c)), (k0_pay2 (argW m c)), v77, v79, v81, v84, v87, v90, v92, v94, v96, v97, v99, v100⟩) Q)
        -∗ run c (k0_part3 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v19 v47 >>= k) Q) := by
  simp only [k0_part3_eq_skeleton]; unfold k0_part3_skel
  simp only [semSignalWord, semWaitWord, Prog.lift, Prog.bind_op, Prog.bind_ret, Prog.pure_eq_ret, wp_deviceId]
  iintro ⟨#Hctx, J0, HO, J1⟩ Hk
  iapply (copy_wait m K c 0 [0, 2, 4, 1, 3, 5, 6, 7, 8, 9, 11, 10, 13, 12, 14, 15, 17, 16, 19, 18] (by decide) rfl (cr_k) (by decide)) $$ [J0 HO]
  · iframe Hctx J0 HO
  iintro ⟨⟨Hkw, Hk0⟩, Z0, HO⟩
  iapply (copy_wait m K c 1 [0, 2, 4, 1, 3, 5, 6, 7, 8, 9, 11, 10, 13, 12, 14, 15, 17, 16, 19, 18] (by decide) rfl (cr_w) (by decide)) $$ [J1 HO]
  · iframe Hctx J1 HO
  iintro ⟨⟨Hww, Hw0⟩, Z1, HO⟩
  iapply (load_kw c (argK m c)) $$ Hkw; iintro Hkw
  iapply (load_ww c (argW m c)) $$ Hww; iintro Hww
  iapply Hk $$ %_ %_ %_ %_ %_ %_ %_ %_ %_ %_ %_ %_ [Hk0 Z0 Hw0 Z1 HO Hkw Hww]
  iframe Hk0 Z0 Hw0 Z1 HO Hkw Hww

set_option maxRecDepth 65536 in
/-- The first batch of the argument has arrived and is read. -/
theorem part4 {α : Type} {Q : α → sProp 𝕄} {k : (Σ' (v148 : FVec F S1024x512 .bf16), FVec F S1024x512 .f32) → Prog (TpuEff nD τ sig (Elt F) Λ₀ .tc) α} :
    iprop(ctx m K ∗ lFl c 2 iprop(xb0P c (xblk m c (1 - yb c)) ∗ xP m c (1 - yb c)) ∗ OW c order)
      ⊢ iprop(((xP m c (1 - yb c) ∗ lZ c 2 ∗ OW c order ∗ xb0P c (xblk m c (1 - yb c))) -∗ run c (k ⟨(k0_pay3 (k0_pay1 (argK m c)) (xblk m c (1 - yb c))), (constant S1024x512 .f32 0x00000000#32)⟩) Q)
        -∗ run c (k0_part4 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c (k0_pay1 (argK m c)) >>= k) Q) := by
  simp only [k0_part4_eq_skeleton]; unfold k0_part4_skel
  simp only [semSignalWord, semWaitWord, Prog.lift, Prog.bind_op, Prog.bind_ret, Prog.pure_eq_ret, wp_deviceId]
  iintro ⟨#Hctx, J2, HO⟩ Hk
  iapply (copy_wait m K c 2 [0, 2, 4, 1, 3, 5, 6, 7, 8, 9, 11, 10, 13, 12, 14, 15, 17, 16, 19, 18] (by decide) rfl (cr_x0 (by decide)) (by decide)) $$ [J2 HO]
  · iframe Hctx J2 HO
  iintro ⟨⟨Hb0, Xny⟩, Z2, HO⟩
  iapply (load_xb0 c (xblk m c (1 - yb c))) $$ Hb0; iintro Hb0
  iapply Hk $$ [Xny Z2 HO Hb0]
  iframe Xny Z2 HO Hb0

set_option maxRecDepth 65536 in
/-- The first narrowed product is stored; the barrier is passed; its first two parts are sent. -/
theorem part5 (fS : S4096x512.Idx → F .bf16) (v48 v81 v96 v97 : BitVec 32) {α : Type} {Q : α → sProp 𝕄} {k : (PUnit) → Prog (TpuEff nD τ sig (Elt F) Λ₀ .tc) α} :
    iprop(ctx m K ∗ sbP c ((1 - yb c) * 1024) 1024 fS ∗ atPos ER (barCell c) 0 ∅ 0 ∗ cred (tallyAt (barCell c) () 2) ∗ OW c order ∗ sTok c 0 ∗ sTok c 2)
      ⊢ iprop(((semVal (barCell c) 0 ∗ landing (peer 4 c) 4 ∗ landing (peer 7 c) 7 ∗ landing (peer 9 c) 9 ∗ landing (peer 11 c) 11 ∗ landing (peer 13 c) 13 ∗ landing (peer 14 c) 14 ∗ landing (peer 16 c) 16
        ∗ landing (peer 18 c) 18 ∗ landing (peer 1 c) 1 ∗ landing (peer 3 c) 3 ∗ landing (peer 5 c) 5 ∗ landing (peer 6 c) 6 ∗ landing (peer 8 c) 8 ∗ landing (peer 10 c) 10 ∗ landing (peer 12 c) 12
        ∗ landing (peer 15 c) 15 ∗ landing (peer 17 c) 17 ∗ landing (peer 19 c) 19 ∗ source m c 4 ∗ sFly c 0 ∗ sFly c 2 ∗ OW c [4, 1, 3, 5, 6, 7, 8, 9, 11, 10, 13, 12, 14, 15, 17, 16, 19, 18]) -∗ run c (k ⟨⟩) Q)
        -∗ run c (k0_part5 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v48 (SemArray.scalar (sig.barrier 0 rfl)) (k0_pay2 (argW m c)) v81 v96 v97 (k0_pay3 (k0_pay1 (argK m c)) (xblk m c (1 - yb c))) (constant S1024x512 .f32 0x00000000#32) >>= k) Q) := by
  simp only [k0_part5_eq_skeleton]; unfold k0_part5_skel
  simp only [semSignalWord, semWaitWord, Prog.lift, Prog.bind_op, Prog.bind_ret, Prog.pure_eq_ret, wp_deviceId]
  iintro ⟨#Hctx, SY, BA, BC, HO, T0, T2⟩ Hk
  iapply (load_sb fS (off3_eq c) rfl) $$ SY; iintro SY
  iapply (store_sb fS (SB m c) (off3_eq c) rfl (val3 m c)) $$ SY; iintro SY
  iapply (wait_bar m K c rfl) $$ [BA BC HO]
  · iframe Hctx BA BC HO
  iintro ⟨PY, PX, BZ, HO⟩
  ihave HT := (bar_y c) $$ PY
  icases HT with ⟨L0, L2, L4, L7, L9, L11, L13, L14, L16, L18⟩
  ihave HT := (bar_x c) $$ PX
  icases HT with ⟨L1, L3, L5, L6, L8, L10, L12, L15, L17, L19⟩
  ihave HT := (srcs_y m c) $$ SY
  icases HT with ⟨Q0, Q2, Q4⟩
  iapply (send_rs m K c _ 0 [2, 4, 1, 3, 5, 6, 7, 8, 9, 11, 10, 13, 12, 14, 15, 17, 16, 19, 18] (by decide) (dev3_eq c) rfl (off5_eq c) (off4_eq c) rfl rfl (cr_B1 (by decide))) $$ [Q0 L0 T0 HO]
  · iframe Hctx Q0 L0 T0 HO
  iintro ⟨F0, HO⟩
  iapply (send_rs m K c _ 2 [4, 1, 3, 5, 6, 7, 8, 9, 11, 10, 13, 12, 14, 15, 17, 16, 19, 18] (by decide) (dev4_eq c) rfl (off7_eq c) (off6_eq c) rfl rfl (cr_B1 (by decide))) $$ [Q2 L2 T2 HO]
  · iframe Hctx Q2 L2 T2 HO
  iintro ⟨F2, HO⟩
  iapply Hk $$ [BZ L4 L7 L9 L11 L13 L14 L16 L18 L1 L3 L5 L6 L8 L10 L12 L15 L17 L19 Q4 F0 F2 HO]
  iframe BZ L4 L7 L9 L11 L13 L14 L16 L18 L1 L3 L5 L6 L8 L10 L12 L15 L17 L19 Q4 F0 F2 HO

set_option maxRecDepth 65536 in
/-- The rest of the first product is sent; the second batch is read while the third is copied. -/
theorem part6 {α : Type} {Q : α → sProp 𝕄} {k : (Σ' (v224 : FVec F S1x1024x512 .f32), FVec F S1x1024x512 .f32) → Prog (TpuEff nD τ sig (Elt F) Λ₀ .tc) α} :
    iprop(ctx m K ∗ source m c 4 ∗ landing (peer 4 c) 4 ∗ sTok c 4 ∗ OW c [4, 1, 3, 5, 6, 7, 8, 9, 11, 10, 13, 12, 14, 15, 17, 16, 19, 18] ∗ lFl c 3 iprop(xb1P c (xblk m c (2 + (1 - xb c)))
      ∗ xP m c (2 + (1 - xb c))) ∗ xP m c (yb c) ∗ xb0P c (xblk m c (1 - yb c)) ∗ lZ c 4)
      ⊢ iprop(((sFly c 4 ∗ xP m c (2 + (1 - xb c)) ∗ lZ c 3 ∗ OW c [1, 3, 5, 6, 7, 8, 9, 11, 10, 13, 12, 14, 15, 17, 16, 19, 18] ∗ lFl c 4 iprop(xb0P c (xblk m c (yb c)) ∗ xP m c (yb c))
        ∗ xb1P c (xblk m c (2 + (1 - xb c)))) -∗ run c (k ⟨(k0_pay5 (k0_pay1 (argK m c)) (xblk m c (2 + (1 - xb c)))), (k0_pay6 (F := F))⟩) Q)
        -∗ run c (k0_part6 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c (k0_pay1 (argK m c)) >>= k) Q) := by
  simp only [k0_part6_eq_skeleton]; unfold k0_part6_skel
  simp only [semSignalWord, semWaitWord, Prog.lift, Prog.bind_op, Prog.bind_ret, Prog.pure_eq_ret, wp_deviceId]
  iintro ⟨#Hctx, Q4, L4, T4, HO, J3, Xy, Hb0, Z4⟩ Hk
  iapply (send_rs m K c _ 4 [1, 3, 5, 6, 7, 8, 9, 11, 10, 13, 12, 14, 15, 17, 16, 19, 18] (by decide) (dev5_eq c) rfl (off9_eq c) (off8_eq c) rfl rfl (cr_B2 (by decide))) $$ [Q4 L4 T4 HO]
  · iframe Hctx Q4 L4 T4 HO
  iintro ⟨F4, HO⟩
  iapply (copy_wait m K c 3 [1, 3, 5, 6, 7, 8, 9, 11, 10, 13, 12, 14, 15, 17, 16, 19, 18] (by decide) rfl (cr_x1 (by decide)) (by decide)) $$ [J3 HO]
  · iframe Hctx J3 HO
  iintro ⟨⟨Hb1, Xnx⟩, Z3, HO⟩
  iapply (copy_x0 m c 4 _ (xblk m c (1 - yb c)) rfl (off10_eq c) (cr_x0 (by decide))) $$ [Xy Hb0 Z4]
  · iframe Xy Hb0 Z4
  iintro J4
  iapply (load_xb1 c (xblk m c (2 + (1 - xb c)))) $$ Hb1; iintro Hb1
  iapply Hk $$ [F4 Xnx Z3 HO J4 Hb1]
  iframe F4 Xnx Z3 HO J4 Hb1

set_option maxRecDepth 65536 in
/-- The second narrowed product is stored and its first two parts are sent. -/
theorem part7 (fS : S4096x512.Idx → F .bf16) (v49 v84 v99 : BitVec 32) {α : Type} {Q : α → sProp 𝕄} {k : (PUnit) → Prog (TpuEff nD τ sig (Elt F) Λ₀ .tc) α} :
    iprop(ctx m K ∗ sbP c (2048 + (1 - xb c) * 1024) 1024 fS ∗ landing (peer 1 c) 1 ∗ sTok c 1 ∗ OW c [1, 3, 5, 6, 7, 8, 9, 11, 10, 13, 12, 14, 15, 17, 16, 19, 18] ∗ landing (peer 3 c) 3 ∗ sTok c 3)
      ⊢ iprop(((source m c 5 ∗ sFly c 1 ∗ sFly c 3 ∗ OW c [5, 6, 7, 8, 9, 11, 10, 13, 12, 14, 15, 17, 16, 19, 18]) -∗ run c (k ⟨⟩) Q)
        -∗ run c (k0_part7 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v49 (k0_pay2 (argW m c)) v84 v99 (k0_pay5 (k0_pay1 (argK m c)) (xblk m c (2 + (1 - xb c)))) (k0_pay6 (F := F)) >>= k) Q) := by
  simp only [k0_part7_eq_skeleton]; unfold k0_part7_skel
  simp only [semSignalWord, semWaitWord, Prog.lift, Prog.bind_op, Prog.bind_ret, Prog.pure_eq_ret, wp_deviceId]
  iintro ⟨#Hctx, SX, L1, T1, HO, L3, T3⟩ Hk
  iapply (load_sb fS (off11_eq c) rfl) $$ SX; iintro SX
  iapply (store_sb fS (SB m c) (off11_eq c) rfl (val11 m c)) $$ SX; iintro SX
  ihave HT := (srcs_x m c) $$ SX
  icases HT with ⟨Q1, Q3, Q5⟩
  iapply (send_rs m K c _ 1 [3, 5, 6, 7, 8, 9, 11, 10, 13, 12, 14, 15, 17, 16, 19, 18] (by decide) (dev6_eq c) rfl (off13_eq c) (off12_eq c) rfl rfl (cr_B1 (by decide))) $$ [Q1 L1 T1 HO]
  · iframe Hctx Q1 L1 T1 HO
  iintro ⟨F1, HO⟩
  iapply (send_rs m K c _ 3 [5, 6, 7, 8, 9, 11, 10, 13, 12, 14, 15, 17, 16, 19, 18] (by decide) (dev7_eq c) rfl (off15_eq c) (off14_eq c) rfl rfl (cr_B1 (by decide))) $$ [Q3 L3 T3 HO]
  · iframe Hctx Q3 L3 T3 HO
  iintro ⟨F3, HO⟩
  iapply Hk $$ [Q5 F1 F3 HO]
  iframe Q5 F1 F3 HO

set_option maxRecDepth 65536 in
/-- The rest of the second product is sent; the third batch is read while the fourth is copied. -/
theorem part8 (v49 v84 v100 : BitVec 32) {α : Type} {Q : α → sProp 𝕄} {k : (Σ' (v280 : FVec F S1x1024x512 .bf16) (v294 : FVec F S1x1024x512 .bf16) (v297 : FVec F S1x1024x512 .bf16), FVec F S1x1024x512 .bf16) → Prog (TpuEff nD τ sig (Elt F) Λ₀ .tc) α} :
    iprop(ctx m K ∗ source m c 5 ∗ landing (peer 5 c) 5 ∗ sTok c 5 ∗ OW c [5, 6, 7, 8, 9, 11, 10, 13, 12, 14, 15, 17, 16, 19, 18] ∗ lFl c 4 iprop(xb0P c (xblk m c (yb c)) ∗ xP m c (yb c))
      ∗ xP m c (2 + xb c) ∗ xb1P c (xblk m c (2 + (1 - xb c))) ∗ lZ c 5)
      ⊢ iprop(((sFly c 5 ∗ xP m c (yb c) ∗ lZ c 4 ∗ OW c [6, 7, 8, 9, 11, 10, 13, 12, 14, 15, 17, 16, 19, 18] ∗ lFl c 5 iprop(xb1P c (xblk m c (2 + xb c)) ∗ xP m c (2 + xb c)) ∗ xb0P c (xblk m c (yb c))) -∗ run c (k ⟨(k0_pay8 (xblk m c (yb c))), (k0_pay9 (k0_pay1 (argK m c)) (xblk m c (yb c))), (k0_pay10 (xblk m c (yb c))), (k0_pay11 (k0_pay1 (argK m c)))⟩) Q)
        -∗ run c (k0_part8 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v49 (k0_pay1 (argK m c)) v84 v100 >>= k) Q) := by
  simp only [k0_part8_eq_skeleton]; unfold k0_part8_skel
  simp only [semSignalWord, semWaitWord, Prog.lift, Prog.bind_op, Prog.bind_ret, Prog.pure_eq_ret, wp_deviceId]
  iintro ⟨#Hctx, Q5, L5, T5, HO, J4, Xx, Hb1, Z5⟩ Hk
  iapply (send_rs m K c _ 5 [6, 7, 8, 9, 11, 10, 13, 12, 14, 15, 17, 16, 19, 18] (by decide) (dev8_eq c) rfl (off17_eq c) (off16_eq c) rfl rfl (cr_B2 (by decide))) $$ [Q5 L5 T5 HO]
  · iframe Hctx Q5 L5 T5 HO
  iintro ⟨F5, HO⟩
  iapply (copy_wait m K c 4 [6, 7, 8, 9, 11, 10, 13, 12, 14, 15, 17, 16, 19, 18] (by decide) rfl (cr_x0 (by decide)) (by decide)) $$ [J4 HO]
  · iframe Hctx J4 HO
  iintro ⟨⟨Hb0, Xy⟩, Z4, HO⟩
  iapply (copy_x1 m c 5 _ (xblk m c (2 + (1 - xb c))) rfl (off18_eq c) (cr_x1 (by decide))) $$ [Xx Hb1 Z5]
  · iframe Xx Hb1 Z5
  iintro J5
  iapply (load_xb0 c (xblk m c (yb c))) $$ Hb0; iintro Hb0
  iapply Hk $$ [F5 Xy Z4 HO J5 Hb0]
  iframe F5 Xy Z4 HO J5 Hb0

set_option maxRecDepth 65536 in
/-- The third product is kept in the accumulator; the fourth batch is read. -/
theorem part9 (fA : S4096x512.Idx → F .f32) (v77 : BitVec 32) {α : Type} {Q : α → sProp 𝕄} {k : (Σ' (v333 : FVec F S1x1024x512 .bf16) (v338 : FVec F S1x1024x512 .bf16), FVec F S1x1024x512 .bf16) → Prog (TpuEff nD τ sig (Elt F) Λ₀ .tc) α} :
    iprop(ctx m K ∗ accP c (yb c * 1024) 1024 fA ∗ lFl c 5 iprop(xb1P c (xblk m c (2 + xb c)) ∗ xP m c (2 + xb c)) ∗ OW c [6, 7, 8, 9, 11, 10, 13, 12, 14, 15, 17, 16, 19, 18])
      ⊢ iprop(((accP c (yb c * 1024) 1024 (AC m c) ∗ xP m c (2 + xb c) ∗ lZ c 5 ∗ OW c [6, 7, 8, 9, 11, 10, 13, 12, 14, 15, 17, 16, 19, 18] ∗ xb1P c (xblk m c (2 + xb c))) -∗ run c (k ⟨(k0_pay13 (xblk m c (2 + xb c))), (k0_pay14 (k0_pay1 (argK m c)) (xblk m c (2 + xb c))), (k0_pay15 (k0_pay1 (argK m c)) (xblk m c (2 + xb c)))⟩) Q)
        -∗ run c (k0_part9 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c (k0_pay1 (argK m c)) (k0_pay2 (argW m c)) v77 (k0_pay8 (xblk m c (yb c))) (k0_pay9 (k0_pay1 (argK m c)) (xblk m c (yb c))) (k0_pay10 (xblk m c (yb c))) (k0_pay11 (k0_pay1 (argK m c))) >>= k) Q) := by
  simp only [k0_part9_eq_skeleton]; unfold k0_part9_skel
  simp only [semSignalWord, semWaitWord, Prog.lift, Prog.bind_op, Prog.bind_ret, Prog.pure_eq_ret, wp_deviceId]
  iintro ⟨#Hctx, AY, J5, HO⟩ Hk
  iapply (load_acc fA (off19_eq c) rfl ⟨le_refl _, le_refl _⟩) $$ AY; iintro AY
  iapply (store_acc fA (AC m c) (off19_eq c) rfl (val19 m c)) $$ AY; iintro AY
  iapply (copy_wait m K c 5 [6, 7, 8, 9, 11, 10, 13, 12, 14, 15, 17, 16, 19, 18] (by decide) rfl (cr_x1 (by decide)) (by decide)) $$ [J5 HO]
  · iframe Hctx J5 HO
  iintro ⟨⟨Hb1, Xx⟩, Z5, HO⟩
  iapply (load_xb1 c (xblk m c (2 + xb c))) $$ Hb1; iintro Hb1
  iapply Hk $$ [AY Xx Z5 HO Hb1]
  iframe AY Xx Z5 HO Hb1

end Cert.Allreduce

end
-- ==== Proof.PartsB.lean ====
/-
# The parts of the program, up to the first own quarter
-/
module

public import proofs.«01_k».proof.Proof.Pieces
public import proofs.«01_k».proof.Proof.Gen.KernelIdeal.Skeleton

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 40) → ℕ)

variable (c : Dev nD)

set_option maxRecDepth 65536 in
/-- The fourth product is kept in the accumulator; the first received part is in. -/
theorem part10 (fA : S4096x512.Idx → F .f32) (v48 v79 v87 v96 : BitVec 32) {α : Type} {Q : α → sProp 𝕄} {k : (Vec F S256x512 .f32) → Prog (TpuEff nD τ sig (Elt F) Λ₀ .tc) α} :
    iprop(ctx m K ∗ accP c (2048 + xb c * 1024) 1024 fA ∗ rTok c 0 ∗ OW c [6, 7, 8, 9, 11, 10, 13, 12, 14, 15, 17, 16, 19, 18] ∗ accP c (yb c * 1024) 1024 (AC m c))
      ⊢ iprop(((accP c (2048 + xb c * 1024) 1024 (AC m c) ∗ landed m c 0 ∗ semVal (recvCell c 0) 0 ∗ OW c [6, 7, 8, 9, 11, 10, 13, 12, 14, 15, 17, 16, 19, 18] ∗ accP c (yb c * 1024) 1024 (AC m c)) -∗ run c (k (fun j => AC m c ((Rect.unit (s := S4096x512) (k0_off21 c) S256x512.size (k0_off21_inb c)).emb j))) Q)
        -∗ run c (k0_part10 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v48 (k0_pay1 (argK m c)) (k0_pay2 (argW m c)) v79 v87 v96 (k0_pay13 (xblk m c (2 + xb c))) (k0_pay14 (k0_pay1 (argK m c)) (xblk m c (2 + xb c))) (k0_pay15 (k0_pay1 (argK m c)) (xblk m c (2 + xb c))) >>= k) Q) := by
  simp only [k0_part10_eq_skeleton]; unfold k0_part10_skel
  simp only [semSignalWord, semWaitWord, Prog.lift, Prog.bind_op, Prog.bind_ret, Prog.pure_eq_ret, wp_deviceId]
  iintro ⟨#Hctx, AX, R0, HO, AY⟩ Hk
  iapply (load_acc fA (off20_eq c) rfl ⟨le_refl _, le_refl _⟩) $$ AX; iintro AX
  iapply (store_acc fA (AC m c) (off20_eq c) rfl (val20 m c)) $$ AX; iintro AX
  iapply (wait_recv m K c 0 [6, 7, 8, 9, 11, 10, 13, 12, 14, 15, 17, 16, 19, 18] (by decide) rfl (cr_B1 (by decide)) (by decide)) $$ [R0 HO]
  · iframe Hctx R0 HO
  iintro ⟨D0, RZ0, HO⟩
  iapply (load_acc (AC m c) (off21_eq c) rfl (by have := xb_le c; have := yb_le c; omega)) $$ AY; iintro AY
  iapply Hk $$ [AX D0 RZ0 HO AY]
  iframe AX D0 RZ0 HO AY

set_option maxRecDepth 65536 in
/-- The first sum is stored and sent on; the next received part is added. -/
theorem part11 (fS : S4096x512.Idx → F .bf16) (v49 v87 v90 v99 : BitVec 32) {α : Type} {Q : α → sProp 𝕄} {k : (BitVec 32) → Prog (TpuEff nD τ sig (Elt F) Λ₀ .tc) α} :
    iprop(ctx m K ∗ landed m c 0 ∗ sbP c (sR c 6) (len 6) fS ∗ landing (peer 6 c) 6 ∗ sTok c 6 ∗ OW c [6, 7, 8, 9, 11, 10, 13, 12, 14, 15, 17, 16, 19, 18] ∗ rTok c 1
      ∗ accP c (2048 + xb c * 1024) 1024 (AC m c) ∗ sbP c (sR c 7) (len 7) fS)
      ⊢ iprop((∀ (w : BitVec 32), (landed m c 0 ∗ sFly c 6 ∗ semVal (recvCell c 1) 0 ∗ OW c [7, 8, 9, 11, 10, 13, 12, 14, 15, 17, 16, 19, 18] ∗ accP c (2048 + xb c * 1024) 1024 (AC m c) ∗ landed m c 1 ∗ source m c 7) -∗ run c (k w) Q)
        -∗ run c (k0_part11 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v49 v87 v90 v99 (fun j => AC m c ((Rect.unit (s := S4096x512) (k0_off21 c) S256x512.size (k0_off21_inb c)).emb j)) >>= k) Q) := by
  simp only [k0_part11_eq_skeleton]; unfold k0_part11_skel
  simp only [semSignalWord, semWaitWord, Prog.lift, Prog.bind_op, Prog.bind_ret, Prog.pure_eq_ret, wp_deviceId]
  iintro ⟨#Hctx, D0, S6, L6, T6, HO, R1, AX, S7⟩ Hk
  iapply (load_landed m c 0 (by decide) (lo := dR c 0) (n := len 0) (off22_eq c) rfl ⟨le_refl _, le_refl _⟩) $$ D0; iintro D0
  iapply (load_sb (lo := sR c 6) (n := len 6) fS (off21_eq c) rfl) $$ S6; iintro S6
  iapply (store_src m c 6 (by decide) fS (off21_eq c) rfl (val21 m c)) $$ S6; iintro Q6
  iapply (send_rs m K c _ 6 [7, 8, 9, 11, 10, 13, 12, 14, 15, 17, 16, 19, 18] (by decide) (dev9_eq c) rfl (off23_eq c) (rfl) rfl rfl (cr_B1 (by decide))) $$ [Q6 L6 T6 HO]
  · iframe Hctx Q6 L6 T6 HO
  iintro ⟨F6, HO⟩
  iapply (wait_recv m K c 1 [7, 8, 9, 11, 10, 13, 12, 14, 15, 17, 16, 19, 18] (by decide) rfl (cr_B1 (by decide)) (by decide)) $$ [R1 HO]
  · iframe Hctx R1 HO
  iintro ⟨D1, RZ1, HO⟩
  iapply (load_acc (AC m c) (off24_eq c) rfl (by have := xb_le c; have := yb_le c; omega)) $$ AX; iintro AX
  iapply (load_landed m c 1 (by decide) (lo := dR c 1) (n := len 1) (off25_eq c) rfl ⟨le_refl _, le_refl _⟩) $$ D1; iintro D1
  iapply (load_sb (lo := sR c 7) (n := len 7) fS (off24_eq c) rfl) $$ S7; iintro S7
  iapply (store_src m c 7 (by decide) fS (off24_eq c) rfl (val24 m c)) $$ S7; iintro Q7
  iapply Hk $$ %_ [D0 F6 RZ1 HO AX D1 Q7]
  iframe D0 F6 RZ1 HO AX D1 Q7

set_option maxRecDepth 65536 in
/-- The second sum is sent on; the third is stored. -/
theorem part12 (fS : S4096x512.Idx → F .bf16) (v48 v49 v87 v96 w : BitVec 32) {α : Type} {Q : α → sProp 𝕄} {k : (PUnit) → Prog (TpuEff nD τ sig (Elt F) Λ₀ .tc) α} :
    iprop(ctx m K ∗ source m c 7 ∗ landing (peer 7 c) 7 ∗ sTok c 7 ∗ OW c [7, 8, 9, 11, 10, 13, 12, 14, 15, 17, 16, 19, 18] ∗ rTok c 2 ∗ accP c (yb c * 1024) 1024 (AC m c) ∗ sbP c (sR c 8) (len 8) fS)
      ⊢ iprop(((sFly c 7 ∗ semVal (recvCell c 2) 0 ∗ OW c [8, 9, 11, 10, 13, 12, 14, 15, 17, 16, 19, 18] ∗ accP c (yb c * 1024) 1024 (AC m c) ∗ landed m c 2 ∗ source m c 8) -∗ run c (k ⟨⟩) Q)
        -∗ run c (k0_part12 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v48 v49 v87 v96 w >>= k) Q) := by
  simp only [k0_part12_eq_skeleton]; unfold k0_part12_skel
  simp only [semSignalWord, semWaitWord, Prog.lift, Prog.bind_op, Prog.bind_ret, Prog.pure_eq_ret, wp_deviceId]
  iintro ⟨#Hctx, Q7, L7, T7, HO, R2, AY, S8⟩ Hk
  iapply (send_rs m K c _ 7 [8, 9, 11, 10, 13, 12, 14, 15, 17, 16, 19, 18] (by decide) (dev10_eq c) rfl (off26_eq c) (rfl) rfl rfl (cr_B1 (by decide))) $$ [Q7 L7 T7 HO]
  · iframe Hctx Q7 L7 T7 HO
  iintro ⟨F7, HO⟩
  iapply (wait_recv m K c 2 [8, 9, 11, 10, 13, 12, 14, 15, 17, 16, 19, 18] (by decide) rfl (cr_B1 (by decide)) (by decide)) $$ [R2 HO]
  · iframe Hctx R2 HO
  iintro ⟨D2, RZ2, HO⟩
  iapply (load_acc (AC m c) (off27_eq c) rfl (by have := xb_le c; have := yb_le c; omega)) $$ AY; iintro AY
  iapply (load_landed m c 2 (by decide) (lo := dR c 2) (n := len 2) (off28_eq c) rfl ⟨le_refl _, le_refl _⟩) $$ D2; iintro D2
  iapply (load_sb (lo := sR c 8) (n := len 8) fS (off27_eq c) rfl) $$ S8; iintro S8
  iapply (store_src m c 8 (by decide) fS (off27_eq c) rfl (val27 m c)) $$ S8; iintro Q8
  iapply Hk $$ [F7 RZ2 HO AY D2 Q8]
  iframe F7 RZ2 HO AY D2 Q8

set_option maxRecDepth 65536 in
/-- The third sum is sent on; the fourth is stored and sent on. -/
theorem part13 (fS : S4096x512.Idx → F .bf16) (v48 v49 v90 v99 : BitVec 32) {α : Type} {Q : α → sProp 𝕄} {k : (PUnit) → Prog (TpuEff nD τ sig (Elt F) Λ₀ .tc) α} :
    iprop(ctx m K ∗ source m c 8 ∗ landing (peer 8 c) 8 ∗ sTok c 8 ∗ OW c [8, 9, 11, 10, 13, 12, 14, 15, 17, 16, 19, 18] ∗ rTok c 3 ∗ accP c (2048 + xb c * 1024) 1024 (AC m c) ∗ sbP c (sR c 9) (len 9) fS
      ∗ landing (peer 9 c) 9 ∗ sTok c 9)
      ⊢ iprop(((sFly c 8 ∗ semVal (recvCell c 3) 0 ∗ accP c (2048 + xb c * 1024) 1024 (AC m c) ∗ landed m c 3 ∗ sFly c 9 ∗ OW c [11, 10, 13, 12, 14, 15, 17, 16, 19, 18]) -∗ run c (k ⟨⟩) Q)
        -∗ run c (k0_part13 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v48 v49 v90 v99 >>= k) Q) := by
  simp only [k0_part13_eq_skeleton]; unfold k0_part13_skel
  simp only [semSignalWord, semWaitWord, Prog.lift, Prog.bind_op, Prog.bind_ret, Prog.pure_eq_ret, wp_deviceId]
  iintro ⟨#Hctx, Q8, L8, T8, HO, R3, AX, S9, L9, T9⟩ Hk
  iapply (send_rs m K c _ 8 [9, 11, 10, 13, 12, 14, 15, 17, 16, 19, 18] (by decide) (dev11_eq c) rfl (off29_eq c) (rfl) rfl rfl (cr_B1 (by decide))) $$ [Q8 L8 T8 HO]
  · iframe Hctx Q8 L8 T8 HO
  iintro ⟨F8, HO⟩
  iapply (wait_recv m K c 3 [9, 11, 10, 13, 12, 14, 15, 17, 16, 19, 18] (by decide) rfl (cr_B1 (by decide)) (by decide)) $$ [R3 HO]
  · iframe Hctx R3 HO
  iintro ⟨D3, RZ3, HO⟩
  iapply (load_acc (AC m c) (off30_eq c) rfl (by have := xb_le c; have := yb_le c; omega)) $$ AX; iintro AX
  iapply (load_landed m c 3 (by decide) (lo := dR c 3) (n := len 3) (off31_eq c) rfl ⟨le_refl _, le_refl _⟩) $$ D3; iintro D3
  iapply (load_sb (lo := sR c 9) (n := len 9) fS (off30_eq c) rfl) $$ S9; iintro S9
  iapply (store_src m c 9 (by decide) fS (off30_eq c) rfl (val30 m c)) $$ S9; iintro Q9
  iapply (send_rs m K c _ 9 [11, 10, 13, 12, 14, 15, 17, 16, 19, 18] (by decide) (dev12_eq c) rfl (off32_eq c) (rfl) rfl rfl (cr_B1 (by decide))) $$ [Q9 L9 T9 HO]
  · iframe Hctx Q9 L9 T9 HO
  iintro ⟨F9, HO⟩
  iapply Hk $$ [F8 RZ3 AX D3 F9 HO]
  iframe F8 RZ3 AX D3 F9 HO

set_option maxRecDepth 65536 in
/-- What the first own quarter needs has arrived and is read. -/
theorem part14 (v19 v47 v48 v49 v94 v100 : BitVec 32) {α : Type} {Q : α → sProp 𝕄} {k : (Σ' (v510 : BitVec 32) (v511 : BitVec 32), FVec F S1x256x512 .bf16) → Prog (TpuEff nD τ sig (Elt F) Λ₀ .tc) α} :
    iprop(ctx m K ∗ rTok c 4 ∗ OW c [11, 10, 13, 12, 14, 15, 17, 16, 19, 18] ∗ rTok c 5 ∗ rTok c 7 ∗ accP c (2048 + xb c * 1024) 1024 (AC m c))
      ⊢ iprop((∀ (v510 v511 : BitVec 32), (landed m c 4 ∗ semVal (recvCell c 4) 0 ∗ semVal (recvCell c 5) 0 ∗ semVal (recvCell c 7) 0 ∗ OW c [11, 10, 13, 12, 14, 15, 17, 16, 19, 18] ∗ accP c (2048 + xb c * 1024) 1024 (AC m c)
        ∗ landed m c 5 ∗ landed m c 7) -∗ run c (k ⟨v510, v511, (k0_pay21 (fun j => AC m c ((Rect.unit (s := S4096x512) (k0_off33 c) S256x512.size (k0_off33_inb c)).emb j)) (fun j => RB m c ((Rect.unit (s := S3072x512) (k0_off34 c) S256x512.size (k0_off34_inb c)).emb j)) (fun j => RB m c ((Rect.unit (s := S3072x512) ![2560, 0] S256x512.size inb_S3072x512_S256x512_2560_0).emb j)))⟩) Q)
        -∗ run c (k0_part14 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v47 v48 v49 v94 v100 >>= k) Q) := by
  simp only [k0_part14_eq_skeleton]; unfold k0_part14_skel
  simp only [semSignalWord, semWaitWord, Prog.lift, Prog.bind_op, Prog.bind_ret, Prog.pure_eq_ret, wp_deviceId]
  iintro ⟨#Hctx, R4, HO, R5, R7, AX⟩ Hk
  iapply (wait_recv m K c 4 [11, 10, 13, 12, 14, 15, 17, 16, 19, 18] (by decide) rfl (cr_B2 (by decide)) (by decide)) $$ [R4 HO]
  · iframe Hctx R4 HO
  iintro ⟨D4, RZ4, HO⟩
  iapply (wait_recv m K c 5 [11, 10, 13, 12, 14, 15, 17, 16, 19, 18] (by decide) rfl (cr_B2 (by decide)) (by decide)) $$ [R5 HO]
  · iframe Hctx R5 HO
  iintro ⟨D5, RZ5, HO⟩
  iapply (wait_recv m K c 7 [11, 10, 13, 12, 14, 15, 17, 16, 19, 18] (by decide) rfl (cr_B1 (by decide)) (by decide)) $$ [R7 HO]
  · iframe Hctx R7 HO
  iintro ⟨D7, RZ7, HO⟩
  iapply (load_acc (AC m c) (off33_eq c) rfl (by have := xb_le c; have := yb_le c; omega)) $$ AX; iintro AX
  iapply (load_landed m c 5 (by decide) (lo := 1024 + yb c * 512) (n := 256) (off34_eq c) rfl (by show 1024 + yb c * 512 ≤ 1024 + yb c * 512 ∧ 1024 + yb c * 512 + 256 ≤ 1024 + yb c * 512 + 512; omega)) $$ D5; iintro D5
  iapply (load_landed m c 7 (by decide) (lo := dR c 7) (n := len 7) (rfl) rfl ⟨le_refl _, le_refl _⟩) $$ D7; iintro D7
  iapply Hk $$ %_ %_ [D4 RZ4 RZ5 RZ7 HO AX D5 D7]
  iframe D4 RZ4 RZ5 RZ7 HO AX D5 D7

set_option maxRecDepth 65536 in
/-- The first own quarter is stored and sent. -/
theorem part15 (fO : S4x1024x512.Idx → F .bf16) (v19 v47 v48 v49 v92 v97 v510 v511 : BitVec 32) {α : Type} {Q : α → sProp 𝕄} {k : (FVec F S1x256x512 .bf16) → Prog (TpuEff nD τ sig (Elt F) Λ₀ .tc) α} :
    iprop(ctx m K ∗ ouP c (sb c 11) (so c 11) (len 11) fullShare fO ∗ landing (peer 11 c) 11 ∗ sTok c 11 ∗ OW c [11, 10, 13, 12, 14, 15, 17, 16, 19, 18] ∗ rTok c 6 ∗ accP c (yb c * 1024) 1024 (AC m c)
      ∗ landed m c 4)
      ⊢ iprop(((ouP c (sb c 11) (so c 11) (len 11) fullShare.left (OU m) ∗ ouP c (sb c 11) (so c 11) (len 11) fullShare.right.right (OU m) ∗ sFly c 11 ∗ semVal (recvCell c 6) 0
        ∗ OW c [10, 13, 12, 14, 15, 17, 16, 19, 18] ∗ accP c (yb c * 1024) 1024 (AC m c) ∗ landed m c 4 ∗ landed m c 6) -∗ run c (k (k0_pay23 (fun j => AC m c ((Rect.unit (s := S4096x512) (k0_off37 c) S256x512.size (k0_off37_inb c)).emb j)) (fun j => RB m c ((Rect.unit (s := S3072x512) (k0_off38 c) S256x512.size (k0_off38_inb c)).emb j)) (fun j => RB m c ((Rect.unit (s := S3072x512) ![2048, 0] S256x512.size inb_S3072x512_S256x512_2048_0).emb j)))) Q)
        -∗ run c (k0_part15 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v47 v48 v49 v92 v97 v510 v511 (k0_pay21 (fun j => AC m c ((Rect.unit (s := S4096x512) (k0_off33 c) S256x512.size (k0_off33_inb c)).emb j)) (fun j => RB m c ((Rect.unit (s := S3072x512) (k0_off34 c) S256x512.size (k0_off34_inb c)).emb j)) (fun j => RB m c ((Rect.unit (s := S3072x512) ![2560, 0] S256x512.size inb_S3072x512_S256x512_2560_0).emb j))) >>= k) Q) := by
  simp only [k0_part15_eq_skeleton]; unfold k0_part15_skel
  simp only [semSignalWord, semWaitWord, Prog.lift, Prog.bind_op, Prog.bind_ret, Prog.pure_eq_ret, wp_deviceId]
  iintro ⟨#Hctx, O11, L11, T11, HO, R6, AY, D4⟩ Hk
  iapply (load_ou (b := sb c 11) (lo := so c 11) (n := len 11) fO (off35_eq c) rfl) $$ O11; iintro O11
  iapply (store_own m c 11 (by decide) rfl fO (off35_eq c) rfl (val35 m c)) $$ O11; iintro ⟨OL11, Q11, OR11⟩
  iapply (send_ag m K c _ 11 [10, 13, 12, 14, 15, 17, 16, 19, 18] (by decide) (by decide) (dev13_eq c) rfl (off36_eq c) rfl rfl (cr_C1 (by decide))) $$ [Q11 L11 T11 HO]
  · iframe Hctx Q11 L11 T11 HO
  iintro ⟨F11, HO⟩
  iapply (wait_recv m K c 6 [10, 13, 12, 14, 15, 17, 16, 19, 18] (by decide) rfl (cr_B1 (by decide)) (by decide)) $$ [R6 HO]
  · iframe Hctx R6 HO
  iintro ⟨D6, RZ6, HO⟩
  iapply (load_acc (AC m c) (off37_eq c) rfl (by have := xb_le c; have := yb_le c; omega)) $$ AY; iintro AY
  iapply (load_landed m c 4 (by decide) (lo := xb c * 512) (n := 256) (off38_eq c) rfl (by show xb c * 512 ≤ xb c * 512 ∧ xb c * 512 + 256 ≤ xb c * 512 + 512; omega)) $$ D4; iintro D4
  iapply (load_landed m c 6 (by decide) (lo := dR c 6) (n := len 6) (rfl) rfl ⟨le_refl _, le_refl _⟩) $$ D6; iintro D6
  iapply Hk $$ [OL11 OR11 F11 RZ6 HO AY D4 D6]
  iframe OL11 OR11 F11 RZ6 HO AY D4 D6

end Cert.Allreduce

end
-- ==== Proof.PartsC.lean ====
/-
# The parts of the program that fill and pass on the output
-/
module

public import proofs.«01_k».proof.Proof.Pieces
public import proofs.«01_k».proof.Proof.Gen.KernelIdeal.Skeleton

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 40) → ℕ)

variable (c : Dev nD)

set_option maxRecDepth 65536 in
/-- The second own quarter is stored and sent. -/
theorem part16 (fO : S4x1024x512.Idx → F .bf16) (v19 v47 v48 v49 v94 v100 : BitVec 32) {α : Type} {Q : α → sProp 𝕄} {k : (Σ' (v577 : BitVec 32) (v579 : BitVec 32), FVec F S256x512 .f32) → Prog (TpuEff nD τ sig (Elt F) Λ₀ .tc) α} :
    iprop(ctx m K ∗ ouP c (sb c 10) (so c 10) (len 10) fullShare fO ∗ landing (peer 10 c) 10 ∗ sTok c 10 ∗ OW c [10, 13, 12, 14, 15, 17, 16, 19, 18] ∗ rTok c 9 ∗ accP c (2048 + xb c * 1024) 1024 (AC m c)
      ∗ landed m c 5)
      ⊢ iprop((∀ (v577 v579 : BitVec 32), (ouP c (sb c 10) (so c 10) (len 10) fullShare.left (OU m) ∗ ouP c (sb c 10) (so c 10) (len 10) fullShare.right.right (OU m) ∗ sFly c 10 ∗ semVal (recvCell c 9) 0
        ∗ OW c [13, 12, 14, 15, 17, 16, 19, 18] ∗ accP c (2048 + xb c * 1024) 1024 (AC m c) ∗ landed m c 5 ∗ landed m c 9) -∗ run c (k ⟨v577, v579, (k0_pay25 (fun j => AC m c ((Rect.unit (s := S4096x512) (k0_off41 c) S256x512.size (k0_off41_inb c)).emb j)) (fun j => RB m c ((Rect.unit (s := S3072x512) (k0_off42 c) S256x512.size (k0_off42_inb c)).emb j)) (fun j => RB m c ((Rect.unit (s := S3072x512) ![2816, 0] S256x512.size inb_S3072x512_S256x512_2816_0).emb j)))⟩) Q)
        -∗ run c (k0_part16 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v47 v48 v49 v94 v100 (k0_pay23 (fun j => AC m c ((Rect.unit (s := S4096x512) (k0_off37 c) S256x512.size (k0_off37_inb c)).emb j)) (fun j => RB m c ((Rect.unit (s := S3072x512) (k0_off38 c) S256x512.size (k0_off38_inb c)).emb j)) (fun j => RB m c ((Rect.unit (s := S3072x512) ![2048, 0] S256x512.size inb_S3072x512_S256x512_2048_0).emb j))) >>= k) Q) := by
  simp only [k0_part16_eq_skeleton]; unfold k0_part16_skel
  simp only [semSignalWord, semWaitWord, Prog.lift, Prog.bind_op, Prog.bind_ret, Prog.pure_eq_ret, wp_deviceId]
  iintro ⟨#Hctx, O10, L10, T10, HO, R9, AX, D5⟩ Hk
  iapply (load_ou (b := sb c 10) (lo := so c 10) (n := len 10) fO (off39_eq c) rfl) $$ O10; iintro O10
  iapply (store_own m c 10 (by decide) rfl fO (off39_eq c) rfl (val39 m c)) $$ O10; iintro ⟨OL10, Q10, OR10⟩
  iapply (send_ag m K c _ 10 [13, 12, 14, 15, 17, 16, 19, 18] (by decide) (by decide) (dev14_eq c) rfl (off40_eq c) rfl rfl (cr_C1 (by decide))) $$ [Q10 L10 T10 HO]
  · iframe Hctx Q10 L10 T10 HO
  iintro ⟨F10, HO⟩
  iapply (wait_recv m K c 9 [13, 12, 14, 15, 17, 16, 19, 18] (by decide) rfl (cr_B1 (by decide)) (by decide)) $$ [R9 HO]
  · iframe Hctx R9 HO
  iintro ⟨D9, RZ9, HO⟩
  iapply (load_acc (AC m c) (off41_eq c) rfl (by have := xb_le c; have := yb_le c; omega)) $$ AX; iintro AX
  iapply (load_landed m c 5 (by decide) (lo := 1024 + yb c * 512 + 256) (n := 256) (off42_eq c) rfl (by show 1024 + yb c * 512 ≤ 1024 + yb c * 512 + 256 ∧ 1024 + yb c * 512 + 256 + 256 ≤ 1024 + yb c * 512 + 512; omega)) $$ D5; iintro D5
  iapply (load_landed m c 9 (by decide) (lo := dR c 9) (n := len 9) (rfl) rfl ⟨le_refl _, le_refl _⟩) $$ D9; iintro D9
  iapply Hk $$ %_ %_ [OL10 OR10 F10 RZ9 HO AX D5 D9]
  iframe OL10 OR10 F10 RZ9 HO AX D5 D9

set_option maxRecDepth 65536 in
/-- The third own quarter is stored and sent. -/
theorem part17 (fO : S4x1024x512.Idx → F .bf16) (v19 v47 v48 v49 v92 v97 v577 v579 : BitVec 32) {α : Type} {Q : α → sProp 𝕄} {k : (Σ' (v617 : BitVec 32), FVec F S256x512 .f32) → Prog (TpuEff nD τ sig (Elt F) Λ₀ .tc) α} :
    iprop(ctx m K ∗ ouP c (sb c 13) (so c 13) (len 13) fullShare fO ∗ landing (peer 13 c) 13 ∗ sTok c 13 ∗ OW c [13, 12, 14, 15, 17, 16, 19, 18] ∗ rTok c 8 ∗ accP c (yb c * 1024) 1024 (AC m c)
      ∗ landed m c 4)
      ⊢ iprop((∀ (v617 : BitVec 32), (ouP c (sb c 13) (so c 13) (len 13) fullShare.left (OU m) ∗ ouP c (sb c 13) (so c 13) (len 13) fullShare.right.right (OU m) ∗ sFly c 13 ∗ landed m c 8 ∗ semVal (recvCell c 8) 0
        ∗ OW c [12, 14, 15, 17, 16, 19, 18] ∗ accP c (yb c * 1024) 1024 (AC m c) ∗ landed m c 4) -∗ run c (k ⟨v617, (k0_pay27 (fun j => AC m c ((Rect.unit (s := S4096x512) (k0_off45 c) S256x512.size (k0_off45_inb c)).emb j)) (fun j => RB m c ((Rect.unit (s := S3072x512) (k0_off46 c) S256x512.size (k0_off46_inb c)).emb j)))⟩) Q)
        -∗ run c (k0_part17 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v47 v48 v49 v92 v97 v577 v579 (k0_pay25 (fun j => AC m c ((Rect.unit (s := S4096x512) (k0_off41 c) S256x512.size (k0_off41_inb c)).emb j)) (fun j => RB m c ((Rect.unit (s := S3072x512) (k0_off42 c) S256x512.size (k0_off42_inb c)).emb j)) (fun j => RB m c ((Rect.unit (s := S3072x512) ![2816, 0] S256x512.size inb_S3072x512_S256x512_2816_0).emb j))) >>= k) Q) := by
  simp only [k0_part17_eq_skeleton]; unfold k0_part17_skel
  simp only [semSignalWord, semWaitWord, Prog.lift, Prog.bind_op, Prog.bind_ret, Prog.pure_eq_ret, wp_deviceId]
  iintro ⟨#Hctx, O13, L13, T13, HO, R8, AY, D4⟩ Hk
  iapply (load_ou (b := sb c 13) (lo := so c 13) (n := len 13) fO (off43_eq c) rfl) $$ O13; iintro O13
  iapply (store_own m c 13 (by decide) rfl fO (off43_eq c) rfl (val43 m c)) $$ O13; iintro ⟨OL13, Q13, OR13⟩
  iapply (send_ag m K c _ 13 [12, 14, 15, 17, 16, 19, 18] (by decide) (by decide) (dev15_eq c) rfl (off44_eq c) rfl rfl (cr_C1 (by decide))) $$ [Q13 L13 T13 HO]
  · iframe Hctx Q13 L13 T13 HO
  iintro ⟨F13, HO⟩
  iapply (wait_recv m K c 8 [12, 14, 15, 17, 16, 19, 18] (by decide) rfl (cr_B1 (by decide)) (by decide)) $$ [R8 HO]
  · iframe Hctx R8 HO
  iintro ⟨D8, RZ8, HO⟩
  iapply (load_acc (AC m c) (off45_eq c) rfl (by have := xb_le c; have := yb_le c; omega)) $$ AY; iintro AY
  iapply (load_landed m c 4 (by decide) (lo := xb c * 512 + 256) (n := 256) (off46_eq c) rfl (by show xb c * 512 ≤ xb c * 512 + 256 ∧ xb c * 512 + 256 + 256 ≤ xb c * 512 + 512; omega)) $$ D4; iintro D4
  iapply Hk $$ %_ [OL13 OR13 F13 D8 RZ8 HO AY D4]
  iframe OL13 OR13 F13 D8 RZ8 HO AY D4

set_option maxRecDepth 65536 in
/-- The fourth own quarter is stored and sent, and a half goes to the other partner. -/
theorem part18 (fO : S4x1024x512.Idx → F .bf16) (v19 v47 v48 v49 v617 : BitVec 32) {α : Type} {Q : α → sProp 𝕄} {k : (PUnit) → Prog (TpuEff nD τ sig (Elt F) Λ₀ .tc) α} :
    iprop(ctx m K ∗ landed m c 8 ∗ ouP c (sb c 12) (so c 12) (len 12) fullShare fO ∗ landing (peer 12 c) 12 ∗ sTok c 12 ∗ OW c [12, 14, 15, 17, 16, 19, 18]
      ∗ ouP c (sb c 10) (so c 10) (len 10) fullShare.right.right (OU m) ∗ landing (peer 14 c) 14 ∗ sTok c 14)
      ⊢ iprop(((landed m c 8 ∗ ouP c (sb c 12) (so c 12) (len 12) fullShare.left (OU m) ∗ sFly c 12 ∗ sFly c 14 ∗ OW c [15, 17, 16, 19, 18]) -∗ run c (k ⟨⟩) Q)
        -∗ run c (k0_part18 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v47 v48 v49 v617 (k0_pay27 (fun j => AC m c ((Rect.unit (s := S4096x512) (k0_off45 c) S256x512.size (k0_off45_inb c)).emb j)) (fun j => RB m c ((Rect.unit (s := S3072x512) (k0_off46 c) S256x512.size (k0_off46_inb c)).emb j))) >>= k) Q) := by
  simp only [k0_part18_eq_skeleton]; unfold k0_part18_skel
  simp only [semSignalWord, semWaitWord, Prog.lift, Prog.bind_op, Prog.bind_ret, Prog.pure_eq_ret, wp_deviceId]
  iintro ⟨#Hctx, D8, O12, L12, T12, HO, OR10, L14, T14⟩ Hk
  iapply (load_landed m c 8 (by decide) (lo := dR c 8) (n := len 8) (rfl) rfl ⟨le_refl _, le_refl _⟩) $$ D8; iintro D8
  iapply (load_ou (b := sb c 12) (lo := so c 12) (n := len 12) fO (off47_eq c) rfl) $$ O12; iintro O12
  iapply (store_own m c 12 (by decide) rfl fO (off47_eq c) rfl (val47 m c)) $$ O12; iintro ⟨OL12, Q12, OR12⟩
  iapply (send_ag m K c _ 12 [14, 15, 17, 16, 19, 18] (by decide) (by decide) (dev16_eq c) rfl (off48_eq c) rfl rfl (cr_C1 (by decide))) $$ [Q12 L12 T12 HO]
  · iframe Hctx Q12 L12 T12 HO
  iintro ⟨F12, HO⟩
  ihave Q14 := (own14 m c) $$ [OR10 OR12]
  · iframe OR10 OR12
  iapply (send_ag m K c _ 14 [15, 17, 16, 19, 18] (by decide) (by decide) (dev17_eq c) rfl (off49_eq c) rfl rfl (cr_C2 (by decide))) $$ [Q14 L14 T14 HO]
  · iframe Hctx Q14 L14 T14 HO
  iintro ⟨F14, HO⟩
  iapply Hk $$ [D8 OL12 F12 F14 HO]
  iframe D8 OL12 F12 F14 HO

set_option maxRecDepth 65536 in
/-- The other half goes out; received quarters are passed on. -/
theorem part19 (v19 v47 v48 v49 : BitVec 32) {α : Type} {Q : α → sProp 𝕄} {k : (PUnit) → Prog (TpuEff nD τ sig (Elt F) Λ₀ .tc) α} :
    iprop(ctx m K ∗ ouP c (sb c 11) (so c 11) (len 11) fullShare.right.right (OU m) ∗ ouP c (sb c 13) (so c 13) (len 13) fullShare.right.right (OU m) ∗ landing (peer 15 c) 15 ∗ sTok c 15
      ∗ OW c [15, 17, 16, 19, 18] ∗ rTok c 11 ∗ landing (peer 17 c) 17 ∗ sTok c 17 ∗ rTok c 10)
      ⊢ iprop(((sFly c 15 ∗ semVal (recvCell c 11) 0 ∗ ouP c (db c 11) (dO c 11) (len 11) fullShare.left (OU m) ∗ sFly c 17 ∗ landed m c 10 ∗ semVal (recvCell c 10) 0 ∗ OW c [16, 19, 18]) -∗ run c (k ⟨⟩) Q)
        -∗ run c (k0_part19 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v47 v48 v49 >>= k) Q) := by
  simp only [k0_part19_eq_skeleton]; unfold k0_part19_skel
  simp only [semSignalWord, semWaitWord, Prog.lift, Prog.bind_op, Prog.bind_ret, Prog.pure_eq_ret, wp_deviceId]
  iintro ⟨#Hctx, OR11, OR13, L15, T15, HO, R11, L17, T17, R10⟩ Hk
  ihave Q15 := (own15 m c) $$ [OR11 OR13]
  · iframe OR11 OR13
  iapply (send_ag m K c _ 15 [17, 16, 19, 18] (by decide) (by decide) (dev18_eq c) rfl (off50_eq c) rfl rfl (cr_C2 (by decide))) $$ [Q15 L15 T15 HO]
  · iframe Hctx Q15 L15 T15 HO
  iintro ⟨F15, HO⟩
  iapply (wait_recv m K c 11 [17, 16, 19, 18] (by decide) rfl (cr_C1 (by decide)) (by decide)) $$ [R11 HO]
  · iframe Hctx R11 HO
  iintro ⟨D11, RZ11, HO⟩
  ihave HT := (pass_on m c (k := 11) (k' := 17) (by decide) (by decide) rfl rfl rfl rfl) $$ D11
  icases HT with ⟨DL11, Q17⟩
  iapply (send_ag m K c _ 17 [16, 19, 18] (by decide) (by decide) (dev19_eq c) rfl (off51_eq c) rfl rfl (cr_C1 (by decide))) $$ [Q17 L17 T17 HO]
  · iframe Hctx Q17 L17 T17 HO
  iintro ⟨F17, HO⟩
  iapply (wait_recv m K c 10 [16, 19, 18] (by decide) rfl (cr_C1 (by decide)) (by decide)) $$ [R10 HO]
  · iframe Hctx R10 HO
  iintro ⟨D10, RZ10, HO⟩
  iapply Hk $$ [F15 RZ11 DL11 F17 D10 RZ10 HO]
  iframe F15 RZ11 DL11 F17 D10 RZ10 HO

set_option maxRecDepth 65536 in
/-- Two more received quarters are passed on. -/
theorem part20 (v19 v47 v48 v49 : BitVec 32) {α : Type} {Q : α → sProp 𝕄} {k : (PUnit) → Prog (TpuEff nD τ sig (Elt F) Λ₀ .tc) α} :
    iprop(ctx m K ∗ landed m c 10 ∗ landing (peer 16 c) 16 ∗ sTok c 16 ∗ OW c [16, 19, 18] ∗ rTok c 13 ∗ landing (peer 19 c) 19 ∗ sTok c 19)
      ⊢ iprop(((ouP c (db c 10) (dO c 10) (len 10) fullShare.left (OU m) ∗ sFly c 16 ∗ semVal (recvCell c 13) 0 ∗ ouP c (db c 13) (dO c 13) (len 13) fullShare.left (OU m) ∗ sFly c 19 ∗ OW c [18]) -∗ run c (k ⟨⟩) Q)
        -∗ run c (k0_part20 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v47 v48 v49 >>= k) Q) := by
  simp only [k0_part20_eq_skeleton]; unfold k0_part20_skel
  simp only [semSignalWord, semWaitWord, Prog.lift, Prog.bind_op, Prog.bind_ret, Prog.pure_eq_ret, wp_deviceId]
  iintro ⟨#Hctx, D10, L16, T16, HO, R13, L19, T19⟩ Hk
  ihave HT := (pass_on m c (k := 10) (k' := 16) (by decide) (by decide) rfl rfl rfl rfl) $$ D10
  icases HT with ⟨DL10, Q16⟩
  iapply (send_ag m K c _ 16 [19, 18] (by decide) (by decide) (dev20_eq c) rfl (off52_eq c) rfl rfl (cr_C1 (by decide))) $$ [Q16 L16 T16 HO]
  · iframe Hctx Q16 L16 T16 HO
  iintro ⟨F16, HO⟩
  iapply (wait_recv m K c 13 [19, 18] (by decide) rfl (cr_C1 (by decide)) (by decide)) $$ [R13 HO]
  · iframe Hctx R13 HO
  iintro ⟨D13, RZ13, HO⟩
  ihave HT := (pass_on m c (k := 13) (k' := 19) (by decide) (by decide) rfl rfl rfl rfl) $$ D13
  icases HT with ⟨DL13, Q19⟩
  iapply (send_ag m K c _ 19 [18] (by decide) (by decide) (dev21_eq c) rfl (off53_eq c) rfl rfl (cr_C1 (by decide))) $$ [Q19 L19 T19 HO]
  · iframe Hctx Q19 L19 T19 HO
  iintro ⟨F19, HO⟩
  iapply Hk $$ [DL10 F16 RZ13 DL13 F19 HO]
  iframe DL10 F16 RZ13 DL13 F19 HO

set_option maxRecDepth 65536 in
/-- The last received quarter is passed on; two finished batches are copied out. -/
theorem part21 (fV : S4x1024x512.Idx → F .bf16) (v19 v48 v49 : BitVec 32) {α : Type} {Q : α → sProp 𝕄} {k : (PUnit) → Prog (TpuEff nD τ sig (Elt F) Λ₀ .tc) α} :
    iprop(ctx m K ∗ ouP c (sb c 11) (so c 11) (len 11) fullShare.left (OU m) ∗ ouP c (sb c 13) (so c 13) (len 13) fullShare.left (OU m) ∗ ouP c (db c 11) (dO c 11) (len 11) fullShare.left (OU m)
      ∗ ouP c (db c 13) (dO c 13) (len 13) fullShare.left (OU m) ∗ voP c (2 + xb c) fV ∗ lZ c 6 ∗ rTok c 12 ∗ OW c [18] ∗ landing (peer 18 c) 18 ∗ sTok c 18
      ∗ ouP c (sb c 10) (so c 10) (len 10) fullShare.left (OU m) ∗ ouP c (sb c 12) (so c 12) (len 12) fullShare.left (OU m) ∗ ouP c (db c 10) (dO c 10) (len 10) fullShare.left (OU m)
      ∗ voP c (yb c) fV ∗ lZ c 7)
      ⊢ iprop(((lFl c 6 iprop(voP c (2 + xb c) (OU m) ∗ ouP c (2 + xb c) 0 1024 fullShare.left (OU m)) ∗ semVal (recvCell c 12) 0 ∗ sFly c 18 ∗ OW c [] ∗ lFl c 7 iprop(voP c (yb c) (OU m)
        ∗ ouP c (yb c) 0 1024 fullShare.left (OU m))) -∗ run c (k ⟨⟩) Q)
        -∗ run c (k0_part21 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v48 v49 >>= k) Q) := by
  simp only [k0_part21_eq_skeleton]; unfold k0_part21_skel
  simp only [semSignalWord, semWaitWord, Prog.lift, Prog.bind_op, Prog.bind_ret, Prog.pure_eq_ret, wp_deviceId]
  iintro ⟨#Hctx, OL11, OL13, DL11, DL13, Vx, Z6, R12, HO, L18, T18, OL10, OL12, DL10, Vy, Z7⟩ Hk
  ihave BX := (own_x m c) $$ [OL11 OL13 DL11 DL13]
  · iframe OL11 OL13 DL11 DL13
  iapply (copy_out m c 6 (2 + xb c) fullShare.left fV rfl (off18_eq c) (cr_V (by decide))) $$ [BX Vx Z6]
  · iframe BX Vx Z6
  iintro J6
  iapply (wait_recv m K c 12 [18] (by decide) rfl (cr_C1 (by decide)) (by decide)) $$ [R12 HO]
  · iframe Hctx R12 HO
  iintro ⟨D12, RZ12, HO⟩
  ihave HT := (pass_on m c (k := 12) (k' := 18) (by decide) (by decide) rfl rfl rfl rfl) $$ D12
  icases HT with ⟨DL12, Q18⟩
  iapply (send_ag m K c _ 18 [] (by decide) (by decide) (dev22_eq c) rfl (off54_eq c) rfl rfl (cr_C1 (by decide))) $$ [Q18 L18 T18 HO]
  · iframe Hctx Q18 L18 T18 HO
  iintro ⟨F18, HO⟩
  ihave BY := (own_y m c) $$ [OL10 OL12 DL10 DL12]
  · iframe OL10 OL12 DL10 DL12
  iapply (copy_out m c 7 (yb c) fullShare.left fV rfl (off10_eq c) (cr_V (by decide))) $$ [BY Vy Z7]
  · iframe BY Vy Z7
  iintro J7
  iapply Hk $$ [J6 RZ12 F18 HO J7]
  iframe J6 RZ12 F18 HO J7

end Cert.Allreduce

end
-- ==== Proof.PartsD.lean ====
/-
# The parts of the program that copy the output out and wait for what has left
-/
module

public import proofs.«01_k».proof.Proof.Pieces
public import proofs.«01_k».proof.Proof.Gen.KernelIdeal.Skeleton

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 40) → ℕ)

variable (c : Dev nD)

set_option maxRecDepth 65536 in
/-- The third batch is complete and is copied out. -/
theorem part22 (fV : S4x1024x512.Idx → F .bf16) (v47 v48 v49 : BitVec 32) {α : Type} {Q : α → sProp 𝕄} {k : (Σ' (v773 : BitVec 32), BitVec 32) → Prog (TpuEff nD τ sig (Elt F) Λ₀ .tc) α} :
    iprop(ctx m K ∗ rTok c 14 ∗ OW c [] ∗ rTok c 16 ∗ rTok c 18 ∗ voP c (1 - yb c) fV ∗ lZ c 8 ∗ rTok c 15)
      ⊢ iprop((∀ (v773 c0 : BitVec 32), (semVal (recvCell c 14) 0 ∗ semVal (recvCell c 16) 0 ∗ semVal (recvCell c 18) 0 ∗ lFl c 8 iprop(voP c (1 - yb c) (OU m) ∗ ouP c (1 - yb c) 0 1024 fullShare (OU m)) ∗ landed m c 15
        ∗ semVal (recvCell c 15) 0 ∗ OW c []) -∗ run c (k ⟨v773, c0⟩) Q)
        -∗ run c (k0_part22 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v47 v48 v49 >>= k) Q) := by
  simp only [k0_part22_eq_skeleton]; unfold k0_part22_skel
  simp only [semSignalWord, semWaitWord, Prog.lift, Prog.bind_op, Prog.bind_ret, Prog.pure_eq_ret, wp_deviceId]
  iintro ⟨#Hctx, R14, HO, R16, R18, Vny, Z8, R15⟩ Hk
  iapply (wait_recv m K c 14 [] (by decide) rfl (cr_C2 (by decide)) (by decide)) $$ [R14 HO]
  · iframe Hctx R14 HO
  iintro ⟨D14, RZ14, HO⟩
  iapply (wait_recv m K c 16 [] (by decide) rfl (cr_C1 (by decide)) (by decide)) $$ [R16 HO]
  · iframe Hctx R16 HO
  iintro ⟨D16, RZ16, HO⟩
  iapply (wait_recv m K c 18 [] (by decide) rfl (cr_C1 (by decide)) (by decide)) $$ [R18 HO]
  · iframe Hctx R18 HO
  iintro ⟨D18, RZ18, HO⟩
  ihave BNY := (batch_yr m c) $$ [D14 D16 D18]
  · iframe D14 D16 D18
  iapply (copy_out m c 8 (1 - yb c) fullShare fV rfl (off1_eq c) (cr_V (by decide))) $$ [BNY Vny Z8]
  · iframe BNY Vny Z8
  iintro J8
  iapply (wait_recv m K c 15 [] (by decide) rfl (cr_C2 (by decide)) (by decide)) $$ [R15 HO]
  · iframe Hctx R15 HO
  iintro ⟨D15, RZ15, HO⟩
  iapply Hk $$ %_ %_ [RZ14 RZ16 RZ18 J8 D15 RZ15 HO]
  iframe RZ14 RZ16 RZ18 J8 D15 RZ15 HO

set_option maxRecDepth 65536 in
/-- The fourth batch is complete and is copied out; two copies are done. -/
theorem part23 (fV : S4x1024x512.Idx → F .bf16) (v19 v49 v773 c0 : BitVec 32) {α : Type} {Q : α → sProp 𝕄} {k : (PUnit) → Prog (TpuEff nD τ sig (Elt F) Λ₀ .tc) α} :
    iprop(ctx m K ∗ rTok c 17 ∗ OW c [] ∗ rTok c 19 ∗ landed m c 15 ∗ voP c (2 + (1 - xb c)) fV ∗ lZ c 9 ∗ lFl c 6 iprop(voP c (2 + xb c) (OU m) ∗ ouP c (2 + xb c) 0 1024 fullShare.left (OU m))
      ∗ lFl c 7 iprop(voP c (yb c) (OU m) ∗ ouP c (yb c) 0 1024 fullShare.left (OU m)))
      ⊢ iprop(((semVal (recvCell c 17) 0 ∗ semVal (recvCell c 19) 0 ∗ lFl c 9 iprop(voP c (2 + (1 - xb c)) (OU m) ∗ ouP c (2 + (1 - xb c)) 0 1024 fullShare (OU m)) ∗ voP c (2 + xb c) (OU m)
        ∗ ouP c (2 + xb c) 0 1024 fullShare.left (OU m) ∗ lZ c 6 ∗ voP c (yb c) (OU m) ∗ ouP c (yb c) 0 1024 fullShare.left (OU m) ∗ lZ c 7 ∗ OW c []) -∗ run c (k ⟨⟩) Q)
        -∗ run c (k0_part23 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v19 v49 v773 c0 >>= k) Q) := by
  simp only [k0_part23_eq_skeleton]; unfold k0_part23_skel
  simp only [semSignalWord, semWaitWord, Prog.lift, Prog.bind_op, Prog.bind_ret, Prog.pure_eq_ret, wp_deviceId]
  iintro ⟨#Hctx, R17, HO, R19, D15, Vnx, Z9, J6, J7⟩ Hk
  iapply (wait_recv m K c 17 [] (by decide) rfl (cr_C1 (by decide)) (by decide)) $$ [R17 HO]
  · iframe Hctx R17 HO
  iintro ⟨D17, RZ17, HO⟩
  iapply (wait_recv m K c 19 [] (by decide) rfl (cr_C1 (by decide)) (by decide)) $$ [R19 HO]
  · iframe Hctx R19 HO
  iintro ⟨D19, RZ19, HO⟩
  ihave BNX := (batch_xr m c) $$ [D15 D17 D19]
  · iframe D15 D17 D19
  iapply (copy_out m c 9 (2 + (1 - xb c)) fullShare fV rfl (off2_eq c) (cr_V (by decide))) $$ [BNX Vnx Z9]
  · iframe BNX Vnx Z9
  iintro J9
  iapply (copy_wait m K c 6 [] (by decide) rfl (cr_V (by decide)) (by decide)) $$ [J6 HO]
  · iframe Hctx J6 HO
  iintro ⟨⟨Vx, BX⟩, Z6, HO⟩
  iapply (copy_wait m K c 7 [] (by decide) rfl (cr_V (by decide)) (by decide)) $$ [J7 HO]
  · iframe Hctx J7 HO
  iintro ⟨⟨Vy, BY⟩, Z7, HO⟩
  iapply Hk $$ [RZ17 RZ19 J9 Vx BX Z6 Vy BY Z7 HO]
  iframe RZ17 RZ19 J9 Vx BX Z6 Vy BY Z7 HO

set_option maxRecDepth 65536 in
/-- The other two copies are done; the first transfers have left. -/
theorem part24 {α : Type} {Q : α → sProp 𝕄} {k : (PUnit) → Prog (TpuEff nD τ sig (Elt F) Λ₀ .tc) α} :
    iprop(ctx m K ∗ lFl c 8 iprop(voP c (1 - yb c) (OU m) ∗ ouP c (1 - yb c) 0 1024 fullShare (OU m)) ∗ OW c [] ∗ lFl c 9 iprop(voP c (2 + (1 - xb c)) (OU m)
      ∗ ouP c (2 + (1 - xb c)) 0 1024 fullShare (OU m)) ∗ sFly c 0 ∗ sFly c 2 ∗ sFly c 4 ∗ sFly c 1)
      ⊢ iprop(((voP c (1 - yb c) (OU m) ∗ ouP c (1 - yb c) 0 1024 fullShare (OU m) ∗ lZ c 8 ∗ voP c (2 + (1 - xb c)) (OU m) ∗ ouP c (2 + (1 - xb c)) 0 1024 fullShare (OU m) ∗ lZ c 9 ∗ source m c 0
        ∗ semVal (sendCell c 0) 0 ∗ source m c 2 ∗ semVal (sendCell c 2) 0 ∗ source m c 4 ∗ semVal (sendCell c 4) 0 ∗ source m c 1 ∗ semVal (sendCell c 1) 0 ∗ OW c []) -∗ run c (k ⟨⟩) Q)
        -∗ run c (k0_part24 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c >>= k) Q) := by
  simp only [k0_part24_eq_skeleton]; unfold k0_part24_skel
  simp only [semSignalWord, semWaitWord, Prog.lift, Prog.bind_op, Prog.bind_ret, Prog.pure_eq_ret, wp_deviceId]
  iintro ⟨#Hctx, J8, HO, J9, F0, F2, F4, F1⟩ Hk
  iapply (copy_wait m K c 8 [] (by decide) rfl (cr_V (by decide)) (by decide)) $$ [J8 HO]
  · iframe Hctx J8 HO
  iintro ⟨⟨Vny, BNY⟩, Z8, HO⟩
  iapply (copy_wait m K c 9 [] (by decide) rfl (cr_V (by decide)) (by decide)) $$ [J9 HO]
  · iframe Hctx J9 HO
  iintro ⟨⟨Vnx, BNX⟩, Z9, HO⟩
  iapply (wait_send m K c 0 (by decide) rfl (cr_S1 (by decide))) $$ [F0 HO]
  · iframe Hctx F0 HO
  iintro ⟨Q0, SZ0, HO⟩
  iapply (wait_send m K c 2 (by decide) rfl (cr_S1 (by decide))) $$ [F2 HO]
  · iframe Hctx F2 HO
  iintro ⟨Q2, SZ2, HO⟩
  iapply (wait_send m K c 4 (by decide) rfl (cr_S2 (by decide))) $$ [F4 HO]
  · iframe Hctx F4 HO
  iintro ⟨Q4, SZ4, HO⟩
  iapply (wait_send m K c 1 (by decide) rfl (cr_S1 (by decide))) $$ [F1 HO]
  · iframe Hctx F1 HO
  iintro ⟨Q1, SZ1, HO⟩
  iapply Hk $$ [Vny BNY Z8 Vnx BNX Z9 Q0 SZ0 Q2 SZ2 Q4 SZ4 Q1 SZ1 HO]
  iframe Vny BNY Z8 Vnx BNX Z9 Q0 SZ0 Q2 SZ2 Q4 SZ4 Q1 SZ1 HO

set_option maxRecDepth 65536 in
/-- More transfers have left. -/
theorem part25 {α : Type} {Q : α → sProp 𝕄} {k : (PUnit) → Prog (TpuEff nD τ sig (Elt F) Λ₀ .tc) α} :
    iprop(ctx m K ∗ sFly c 3 ∗ OW c [] ∗ sFly c 5 ∗ sFly c 6 ∗ sFly c 7 ∗ sFly c 8)
      ⊢ iprop(((source m c 3 ∗ semVal (sendCell c 3) 0 ∗ source m c 5 ∗ semVal (sendCell c 5) 0 ∗ source m c 6 ∗ semVal (sendCell c 6) 0 ∗ source m c 7 ∗ semVal (sendCell c 7) 0 ∗ source m c 8
        ∗ semVal (sendCell c 8) 0 ∗ OW c []) -∗ run c (k ⟨⟩) Q)
        -∗ run c (k0_part25 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c >>= k) Q) := by
  simp only [k0_part25_eq_skeleton]; unfold k0_part25_skel
  simp only [semSignalWord, semWaitWord, Prog.lift, Prog.bind_op, Prog.bind_ret, Prog.pure_eq_ret, wp_deviceId]
  iintro ⟨#Hctx, F3, HO, F5, F6, F7, F8⟩ Hk
  iapply (wait_send m K c 3 (by decide) rfl (cr_S1 (by decide))) $$ [F3 HO]
  · iframe Hctx F3 HO
  iintro ⟨Q3, SZ3, HO⟩
  iapply (wait_send m K c 5 (by decide) rfl (cr_S2 (by decide))) $$ [F5 HO]
  · iframe Hctx F5 HO
  iintro ⟨Q5, SZ5, HO⟩
  iapply (wait_send m K c 6 (by decide) rfl (cr_S1 (by decide))) $$ [F6 HO]
  · iframe Hctx F6 HO
  iintro ⟨Q6, SZ6, HO⟩
  iapply (wait_send m K c 7 (by decide) rfl (cr_S1 (by decide))) $$ [F7 HO]
  · iframe Hctx F7 HO
  iintro ⟨Q7, SZ7, HO⟩
  iapply (wait_send m K c 8 (by decide) rfl (cr_S1 (by decide))) $$ [F8 HO]
  · iframe Hctx F8 HO
  iintro ⟨Q8, SZ8, HO⟩
  iapply Hk $$ [Q3 SZ3 Q5 SZ5 Q6 SZ6 Q7 SZ7 Q8 SZ8 HO]
  iframe Q3 SZ3 Q5 SZ5 Q6 SZ6 Q7 SZ7 Q8 SZ8 HO

set_option maxRecDepth 65536 in
/-- More transfers have left. -/
theorem part26 {α : Type} {Q : α → sProp 𝕄} {k : (PUnit) → Prog (TpuEff nD τ sig (Elt F) Λ₀ .tc) α} :
    iprop(ctx m K ∗ sFly c 9 ∗ OW c [] ∗ sFly c 11 ∗ sFly c 10 ∗ sFly c 13 ∗ sFly c 12 ∗ sFly c 14)
      ⊢ iprop(((source m c 9 ∗ semVal (sendCell c 9) 0 ∗ source m c 11 ∗ semVal (sendCell c 11) 0 ∗ source m c 10 ∗ semVal (sendCell c 10) 0 ∗ source m c 13 ∗ semVal (sendCell c 13) 0 ∗ source m c 12
        ∗ semVal (sendCell c 12) 0 ∗ source m c 14 ∗ semVal (sendCell c 14) 0 ∗ OW c []) -∗ run c (k ⟨⟩) Q)
        -∗ run c (k0_part26 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c >>= k) Q) := by
  simp only [k0_part26_eq_skeleton]; unfold k0_part26_skel
  simp only [semSignalWord, semWaitWord, Prog.lift, Prog.bind_op, Prog.bind_ret, Prog.pure_eq_ret, wp_deviceId]
  iintro ⟨#Hctx, F9, HO, F11, F10, F13, F12, F14⟩ Hk
  iapply (wait_send m K c 9 (by decide) rfl (cr_S1 (by decide))) $$ [F9 HO]
  · iframe Hctx F9 HO
  iintro ⟨Q9, SZ9, HO⟩
  iapply (wait_send m K c 11 (by decide) rfl (cr_C1 (by decide))) $$ [F11 HO]
  · iframe Hctx F11 HO
  iintro ⟨Q11, SZ11, HO⟩
  iapply (wait_send m K c 10 (by decide) rfl (cr_C1 (by decide))) $$ [F10 HO]
  · iframe Hctx F10 HO
  iintro ⟨Q10, SZ10, HO⟩
  iapply (wait_send m K c 13 (by decide) rfl (cr_C1 (by decide))) $$ [F13 HO]
  · iframe Hctx F13 HO
  iintro ⟨Q13, SZ13, HO⟩
  iapply (wait_send m K c 12 (by decide) rfl (cr_C1 (by decide))) $$ [F12 HO]
  · iframe Hctx F12 HO
  iintro ⟨Q12, SZ12, HO⟩
  iapply (wait_send m K c 14 (by decide) rfl (cr_C2 (by decide))) $$ [F14 HO]
  · iframe Hctx F14 HO
  iintro ⟨Q14, SZ14, HO⟩
  iapply Hk $$ [Q9 SZ9 Q11 SZ11 Q10 SZ10 Q13 SZ13 Q12 SZ12 Q14 SZ14 HO]
  iframe Q9 SZ9 Q11 SZ11 Q10 SZ10 Q13 SZ13 Q12 SZ12 Q14 SZ14 HO

end Cert.Allreduce

end
-- ==== Proof.Body.lean ====
/-
# The whole program on one device

The parts in order, from what a device holds at the start to what it holds at the end.
-/
module

public import proofs.«01_k».proof.Proof.PartsA
public import proofs.«01_k».proof.Proof.PartsB
public import proofs.«01_k».proof.Proof.PartsC
public import proofs.«01_k».proof.Proof.PartsD

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 40) → ℕ)

variable (c : Dev nD)

/-- A finished program. -/
theorem run_ret {α : Type} {Q : α → sProp 𝕄} {a : α} : Q a ⊢ run c (Prog.ret a) Q := by
  unfold run; rw [wp_ret]; iintro H; imodintro; iexact H

/-- What the device holds before the program. -/
def Pre (fk : Vec F S4x512 .f32) (fw : Vec F S512x512 .f32) (f0 : Vec F S1x1024x512 .f32) (f1 : Vec F S1x1024x512 .f32) (fV : S4x1024x512.Idx → F .bf16) (fO : S4x1024x512.Idx → F .bf16) (fS : S4096x512.Idx → F .bf16) (fA : S4096x512.Idx → F .f32) (W : Waits sig Unit) : sProp 𝕄 :=
  iprop(owes (c : Thread nD τ) (O₀ c) W ∗ kP m c ∗ wP m c ∗ kwP c fk ∗ wwP c fw ∗ xb0P c f0 ∗ xb1P c f1 ∗ xP m c (yb c) ∗ voP c (yb c) fV ∗ xP m c (1 - yb c) ∗ voP c (1 - yb c) fV ∗ xP m c (2 + xb c)
    ∗ voP c (2 + xb c) fV ∗ xP m c (2 + (1 - xb c)) ∗ voP c (2 + (1 - xb c)) fV ∗ lZ c 0 ∗ lZ c 1 ∗ lZ c 2 ∗ lZ c 3 ∗ lZ c 4 ∗ lZ c 5 ∗ lZ c 6 ∗ lZ c 7 ∗ lZ c 8 ∗ lZ c 9 ∗ giveY c ∗ giveX c
    ∗ dutyTok ER (barCell (py c)) 0 false ∗ dutyTok ER (barCell (px c)) 0 true ∗ atPos ER (barCell c) 0 ∅ 0 ∗ cred (tallyAt (barCell c) () 2) ∗ sTok c 0 ∗ rTok c 0 ∗ sTok c 1 ∗ rTok c 1 ∗ sTok c 2
    ∗ rTok c 2 ∗ sTok c 3 ∗ rTok c 3 ∗ sTok c 4 ∗ rTok c 4 ∗ sTok c 5 ∗ rTok c 5 ∗ sTok c 6 ∗ rTok c 6 ∗ sTok c 7 ∗ rTok c 7 ∗ sTok c 8 ∗ rTok c 8 ∗ sTok c 9 ∗ rTok c 9 ∗ sTok c 10 ∗ rTok c 10
    ∗ sTok c 11 ∗ rTok c 11 ∗ sTok c 12 ∗ rTok c 12 ∗ sTok c 13 ∗ rTok c 13 ∗ sTok c 14 ∗ rTok c 14 ∗ sTok c 15 ∗ rTok c 15 ∗ sTok c 16 ∗ rTok c 16 ∗ sTok c 17 ∗ rTok c 17 ∗ sTok c 18 ∗ rTok c 18
    ∗ sTok c 19 ∗ rTok c 19 ∗ sbP c ((1 - yb c) * 1024) 1024 fS ∗ sbP c (2048 + (1 - xb c) * 1024) 1024 fS ∗ sbP c (sR c 6) (len 6) fS ∗ sbP c (sR c 7) (len 7) fS ∗ sbP c (sR c 8) (len 8) fS
    ∗ sbP c (sR c 9) (len 9) fS ∗ accP c (yb c * 1024) 1024 fA ∗ accP c (2048 + xb c * 1024) 1024 fA ∗ ouP c (sb c 10) (so c 10) (len 10) fullShare fO
    ∗ ouP c (sb c 11) (so c 11) (len 11) fullShare fO ∗ ouP c (sb c 12) (so c 12) (len 12) fullShare fO ∗ ouP c (sb c 13) (so c 13) (len 13) fullShare fO)
/-- What the device holds after the program. -/
def Post : sProp 𝕄 :=
  iprop(kP m c ∗ lZ c 0 ∗ wP m c ∗ lZ c 1 ∗ kwP c (argK m c) ∗ wwP c (argW m c) ∗ xP m c (1 - yb c) ∗ lZ c 2 ∗ semVal (barCell c) 0 ∗ xP m c (2 + (1 - xb c)) ∗ lZ c 3 ∗ xP m c (yb c) ∗ lZ c 4
    ∗ xb0P c (xblk m c (yb c)) ∗ xP m c (2 + xb c) ∗ lZ c 5 ∗ xb1P c (xblk m c (2 + xb c)) ∗ semVal (recvCell c 0) 0 ∗ landed m c 0 ∗ semVal (recvCell c 1) 0 ∗ landed m c 1
    ∗ semVal (recvCell c 2) 0 ∗ landed m c 2 ∗ semVal (recvCell c 3) 0 ∗ landed m c 3 ∗ semVal (recvCell c 4) 0 ∗ semVal (recvCell c 5) 0 ∗ semVal (recvCell c 7) 0 ∗ landed m c 7
    ∗ semVal (recvCell c 6) 0 ∗ landed m c 6 ∗ semVal (recvCell c 9) 0 ∗ accP c (2048 + xb c * 1024) 1024 (AC m c) ∗ landed m c 5 ∗ landed m c 9 ∗ semVal (recvCell c 8) 0
    ∗ accP c (yb c * 1024) 1024 (AC m c) ∗ landed m c 4 ∗ landed m c 8 ∗ semVal (recvCell c 11) 0 ∗ semVal (recvCell c 10) 0 ∗ semVal (recvCell c 13) 0 ∗ semVal (recvCell c 12) 0
    ∗ semVal (recvCell c 14) 0 ∗ semVal (recvCell c 16) 0 ∗ semVal (recvCell c 18) 0 ∗ semVal (recvCell c 15) 0 ∗ semVal (recvCell c 17) 0 ∗ semVal (recvCell c 19) 0 ∗ voP c (2 + xb c) (OU m)
    ∗ ouP c (2 + xb c) 0 1024 fullShare.left (OU m) ∗ lZ c 6 ∗ voP c (yb c) (OU m) ∗ ouP c (yb c) 0 1024 fullShare.left (OU m) ∗ lZ c 7 ∗ voP c (1 - yb c) (OU m)
    ∗ ouP c (1 - yb c) 0 1024 fullShare (OU m) ∗ lZ c 8 ∗ voP c (2 + (1 - xb c)) (OU m) ∗ ouP c (2 + (1 - xb c)) 0 1024 fullShare (OU m) ∗ lZ c 9 ∗ source m c 0 ∗ semVal (sendCell c 0) 0
    ∗ source m c 2 ∗ semVal (sendCell c 2) 0 ∗ source m c 4 ∗ semVal (sendCell c 4) 0 ∗ source m c 1 ∗ semVal (sendCell c 1) 0 ∗ source m c 3 ∗ semVal (sendCell c 3) 0 ∗ source m c 5
    ∗ semVal (sendCell c 5) 0 ∗ source m c 6 ∗ semVal (sendCell c 6) 0 ∗ source m c 7 ∗ semVal (sendCell c 7) 0 ∗ source m c 8 ∗ semVal (sendCell c 8) 0 ∗ source m c 9 ∗ semVal (sendCell c 9) 0
    ∗ source m c 11 ∗ semVal (sendCell c 11) 0 ∗ source m c 10 ∗ semVal (sendCell c 10) 0 ∗ source m c 13 ∗ semVal (sendCell c 13) 0 ∗ source m c 12 ∗ semVal (sendCell c 12) 0 ∗ source m c 14
    ∗ semVal (sendCell c 14) 0 ∗ source m c 15 ∗ semVal (sendCell c 15) 0 ∗ source m c 17 ∗ semVal (sendCell c 17) 0 ∗ source m c 16 ∗ semVal (sendCell c 16) 0 ∗ source m c 19
    ∗ semVal (sendCell c 19) 0 ∗ source m c 18 ∗ semVal (sendCell c 18) 0 ∗ OW c [])

set_option maxRecDepth 65536 in
set_option maxHeartbeats 1000000 in
/-- The whole program on one device. -/
theorem run_body (fk : Vec F S4x512 .f32) (fw : Vec F S512x512 .f32) (f0 : Vec F S1x1024x512 .f32) (f1 : Vec F S1x1024x512 .f32) (fV : S4x1024x512.Idx → F .bf16) (fO : S4x1024x512.Idx → F .bf16) (fS : S4096x512.Idx → F .bf16) (fA : S4096x512.Idx → F .f32) (W : Waits sig Unit) :
    iprop(ctx m K ∗ Pre m c fk fw f0 f1 fV fO fS fA W) ⊢ run c (cc0_body (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) (fun _ => Post m c ) := by
  simp only [cc0_body_eq_skeleton]; unfold cc0_body_skel
  simp only [k0_part27_eq_skeleton]; unfold k0_part27_skel
  simp only [Prog.lift, Prog.bind_assoc, Prog.bind_op, Prog.bind_ret, Prog.pure_eq_ret]
  unfold Pre
  iintro ⟨#Hctx, HO, Hk0, Hw0, Hkw, Hww, Hb0, Hb1, Xy, Vy, Xny, Vny, Xx, Vx, Xnx, Vnx, Z0, Z1, Z2, Z3, Z4, Z5, Z6, Z7, Z8, Z9, GY, GX, DY, DX, BA, BC, T0, R0, T1, R1, T2, R2, T3, R3, T4, R4, T5, R5, T6, R6, T7, R7, T8, R8, T9, R9, T10, R10, T11, R11, T12, R12, T13, R13, T14, R14, T15, R15, T16, R16, T17, R17, T18, R18, T19, R19, SY, SX, S6, S7, S8, S9, AY, AX, O10, O11, O12, O13⟩
  iapply (part1 c)
  iintro %v2 %v19 %v36 %v38 %v39
  iapply (part2 m K c fk fw f0 f1 W v2 v19 v36 v38 v39) $$ [Hk0 Hkw Z0 Hw0 Hww Z1 Xny Hb0 Z2 Xnx Hb1 Z3 GY DY HO GX DX]
  · iframe Hctx Hk0 Hkw Z0 Hw0 Hww Z1 Xny Hb0 Z2 Xnx Hb1 Z3 GY DY HO GX DX
  iintro %v47 %v48 %v49 ⟨J0, J1, J2, J3, HO⟩
  iapply (part3 m K c v19 v47) $$ [J0 HO J1]
  · iframe Hctx J0 HO J1
  iintro %v77 %v79 %v81 %v84 %v87 %v90 %v92 %v94 %v96 %v97 %v99 %v100 ⟨Hk0, Z0, Hw0, Z1, HO, Hkw, Hww⟩
  iapply (part4 m K c) $$ [J2 HO]
  · iframe Hctx J2 HO
  iintro ⟨Xny, Z2, HO, Hb0⟩
  iapply (part5 m K c fS v48 v81 v96 v97) $$ [SY BA BC HO T0 T2]
  · iframe Hctx SY BA BC HO T0 T2
  iintro ⟨BZ, L4, L7, L9, L11, L13, L14, L16, L18, L1, L3, L5, L6, L8, L10, L12, L15, L17, L19, Q4, F0, F2, HO⟩
  iapply (part6 m K c) $$ [Q4 L4 T4 HO J3 Xy Hb0 Z4]
  · iframe Hctx Q4 L4 T4 HO J3 Xy Hb0 Z4
  iintro ⟨F4, Xnx, Z3, HO, J4, Hb1⟩
  iapply (part7 m K c fS v49 v84 v99) $$ [SX L1 T1 HO L3 T3]
  · iframe Hctx SX L1 T1 HO L3 T3
  iintro ⟨Q5, F1, F3, HO⟩
  iapply (part8 m K c v49 v84 v100) $$ [Q5 L5 T5 HO J4 Xx Hb1 Z5]
  · iframe Hctx Q5 L5 T5 HO J4 Xx Hb1 Z5
  iintro ⟨F5, Xy, Z4, HO, J5, Hb0⟩
  iapply (part9 m K c fA v77) $$ [AY J5 HO]
  · iframe Hctx AY J5 HO
  iintro ⟨AY, Xx, Z5, HO, Hb1⟩
  iapply (part10 m K c fA v48 v79 v87 v96) $$ [AX R0 HO AY]
  · iframe Hctx AX R0 HO AY
  iintro ⟨AX, D0, RZ0, HO, AY⟩
  iapply (part11 m K c fS v49 v87 v90 v99) $$ [D0 S6 L6 T6 HO R1 AX S7]
  · iframe Hctx D0 S6 L6 T6 HO R1 AX S7
  iintro %w ⟨D0, F6, RZ1, HO, AX, D1, Q7⟩
  iapply (part12 m K c fS v48 v49 v87 v96 w) $$ [Q7 L7 T7 HO R2 AY S8]
  · iframe Hctx Q7 L7 T7 HO R2 AY S8
  iintro ⟨F7, RZ2, HO, AY, D2, Q8⟩
  iapply (part13 m K c fS v48 v49 v90 v99) $$ [Q8 L8 T8 HO R3 AX S9 L9 T9]
  · iframe Hctx Q8 L8 T8 HO R3 AX S9 L9 T9
  iintro ⟨F8, RZ3, AX, D3, F9, HO⟩
  iapply (part14 m K c v19 v47 v48 v49 v94 v100) $$ [R4 HO R5 R7 AX]
  · iframe Hctx R4 HO R5 R7 AX
  iintro %v510 %v511 ⟨D4, RZ4, RZ5, RZ7, HO, AX, D5, D7⟩
  iapply (part15 m K c fO v19 v47 v48 v49 v92 v97 v510 v511) $$ [O11 L11 T11 HO R6 AY D4]
  · iframe Hctx O11 L11 T11 HO R6 AY D4
  iintro ⟨OL11, OR11, F11, RZ6, HO, AY, D4, D6⟩
  iapply (part16 m K c fO v19 v47 v48 v49 v94 v100) $$ [O10 L10 T10 HO R9 AX D5]
  · iframe Hctx O10 L10 T10 HO R9 AX D5
  iintro %v577 %v579 ⟨OL10, OR10, F10, RZ9, HO, AX, D5, D9⟩
  iapply (part17 m K c fO v19 v47 v48 v49 v92 v97 v577 v579) $$ [O13 L13 T13 HO R8 AY D4]
  · iframe Hctx O13 L13 T13 HO R8 AY D4
  iintro %v617 ⟨OL13, OR13, F13, D8, RZ8, HO, AY, D4⟩
  iapply (part18 m K c fO v19 v47 v48 v49 v617) $$ [D8 O12 L12 T12 HO OR10 L14 T14]
  · iframe Hctx D8 O12 L12 T12 HO OR10 L14 T14
  iintro ⟨D8, OL12, F12, F14, HO⟩
  iapply (part19 m K c v19 v47 v48 v49) $$ [OR11 OR13 L15 T15 HO R11 L17 T17 R10]
  · iframe Hctx OR11 OR13 L15 T15 HO R11 L17 T17 R10
  iintro ⟨F15, RZ11, DL11, F17, D10, RZ10, HO⟩
  iapply (part20 m K c v19 v47 v48 v49) $$ [D10 L16 T16 HO R13 L19 T19]
  · iframe Hctx D10 L16 T16 HO R13 L19 T19
  iintro ⟨DL10, F16, RZ13, DL13, F19, HO⟩
  iapply (part21 m K c fV v19 v48 v49) $$ [OL11 OL13 DL11 DL13 Vx Z6 R12 HO L18 T18 OL10 OL12 DL10 Vy Z7]
  · iframe Hctx OL11 OL13 DL11 DL13 Vx Z6 R12 HO L18 T18 OL10 OL12 DL10 Vy Z7
  iintro ⟨J6, RZ12, F18, HO, J7⟩
  iapply (part22 m K c fV v47 v48 v49) $$ [R14 HO R16 R18 Vny Z8 R15]
  · iframe Hctx R14 HO R16 R18 Vny Z8 R15
  iintro %v773 %c0 ⟨RZ14, RZ16, RZ18, J8, D15, RZ15, HO⟩
  iapply (part23 m K c fV v19 v49 v773 c0) $$ [R17 HO R19 D15 Vnx Z9 J6 J7]
  · iframe Hctx R17 HO R19 D15 Vnx Z9 J6 J7
  iintro ⟨RZ17, RZ19, J9, Vx, BX, Z6, Vy, BY, Z7, HO⟩
  iapply (part24 m K c) $$ [J8 HO J9 F0 F2 F4 F1]
  · iframe Hctx J8 HO J9 F0 F2 F4 F1
  iintro ⟨Vny, BNY, Z8, Vnx, BNX, Z9, Q0, SZ0, Q2, SZ2, Q4, SZ4, Q1, SZ1, HO⟩
  iapply (part25 m K c) $$ [F3 HO F5 F6 F7 F8]
  · iframe Hctx F3 HO F5 F6 F7 F8
  iintro ⟨Q3, SZ3, Q5, SZ5, Q6, SZ6, Q7, SZ7, Q8, SZ8, HO⟩
  iapply (part26 m K c) $$ [F9 HO F11 F10 F13 F12 F14]
  · iframe Hctx F9 HO F11 F10 F13 F12 F14
  iintro ⟨Q9, SZ9, Q11, SZ11, Q10, SZ10, Q13, SZ13, Q12, SZ12, Q14, SZ14, HO⟩
  iapply (wait_send m K c 15 (by decide) rfl (cr_C2 (by decide))) $$ [F15 HO]
  · iframe Hctx F15 HO
  iintro ⟨Q15, SZ15, HO⟩
  iapply (wait_send m K c 17 (by decide) rfl (cr_C1 (by decide))) $$ [F17 HO]
  · iframe Hctx F17 HO
  iintro ⟨Q17, SZ17, HO⟩
  iapply (wait_send m K c 16 (by decide) rfl (cr_C1 (by decide))) $$ [F16 HO]
  · iframe Hctx F16 HO
  iintro ⟨Q16, SZ16, HO⟩
  iapply (wait_send m K c 19 (by decide) rfl (cr_C1 (by decide))) $$ [F19 HO]
  · iframe Hctx F19 HO
  iintro ⟨Q19, SZ19, HO⟩
  iapply (wait_send m K c 18 (by decide) rfl (cr_C1 (by decide))) $$ [F18 HO]
  · iframe Hctx F18 HO
  iintro ⟨Q18, SZ18, HO⟩
  iapply (run_ret c)
  unfold Post
  iframe Hk0 Z0 Hw0 Z1 Hkw Hww Xny Z2 BZ Xnx Z3 Xy Z4 Hb0 Xx Z5 Hb1 RZ0 D0 RZ1 D1 RZ2 D2 RZ3 D3 RZ4 RZ5 RZ7 D7 RZ6 D6 RZ9 AX D5 D9 RZ8 AY D4 D8 RZ11 RZ10 RZ13 RZ12 RZ14 RZ16 RZ18 RZ15 RZ17 RZ19 Vx BX Z6 Vy BY Z7 Vny BNY Z8 Vnx BNX Z9 Q0 SZ0 Q2 SZ2 Q4 SZ4 Q1 SZ1 Q3 SZ3 Q5 SZ5 Q6 SZ6 Q7 SZ7 Q8 SZ8 Q9 SZ9 Q11 SZ11 Q10 SZ10 Q13 SZ13 Q12 SZ12 Q14 SZ14 Q15 SZ15 Q17 SZ17 Q16 SZ16 Q19 SZ19 Q18 SZ18 HO

end Cert.Allreduce

end
-- ==== Proof.Ghost.lean ====
/-
# What the launch deals to each device

The launch makes, for all devices at once, the invariants of all cells, the positions in them and the
tokens of their duties. This module deals them: a token of a cell goes to the device that has to pay the
duty, which for a barrier cell or a receive cell is another device than the cell's own.
-/
module

public import proofs.«01_k».proof.Proof.Body
public import proofs.«01_k».proof.Proof.Gen.KernelIdeal.Launch

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the cells of a device -/

/-- The kernel's own semaphores. -/
abbrev osem : Fin 50 → SemLoc sig := fun i => .dma i

/-- A device's cells, sorted: the barrier, the sends, the receives. -/
def cellSplit : (Unit ⊕ (Fin 20 ⊕ Fin 20)) ≃ Option (Fin 40) :=
  ((Equiv.sumCongr (Equiv.refl Unit) (finSumFinEquiv (m := 20) (n := 20))).trans (Equiv.sumComm _ _)).trans (Equiv.optionEquivSumPUnit.{0} (Fin 40)).symm

omit [FloatOps F] in
/-- Something of every cell of a device is something of its barrier, of its sends and of its receives. -/
theorem cells_split (c : Dev nD) (Φ : GSem nD τ sig → sProp 𝕄) :
    bigSep Finset.univ (fun k : Option (Fin 40) => Φ (kcell (c, k)))
      = iprop(Φ (barCell c) ∗ bigSep Finset.univ (fun k : Fin 20 => Φ (sendCell c k.val)) ∗ bigSep Finset.univ (fun k : Fin 20 => Φ (recvCell c k.val))) := by
  rw [bigSep_univ_equiv cellSplit, bigSep_univ_sum, bigSep_univ_sum, bigSep_univ_eq_bigSepL [()] (by decide) (by decide), bigSepL_singleton]
  rfl

omit [FloatOps F] in
/-- A family over the twenty transfers, written out. -/
theorem bigSep_20 (Φ : ℕ → sProp 𝕄) :
    bigSep Finset.univ (fun k : Fin 20 => Φ k.val) = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [bigSep_univ_eq_bigSepL [0, 1, 2, 3, 4, 5, 6, 7, 8, 9, 10, 11, 12, 13, 14, 15, 16, 17, 18, 19] (by decide) (by decide)]; rfl
omit [FloatOps F] in
/-- A family over the ten local copies, written out. -/
theorem bigSep_10 (Φ : ℕ → sProp 𝕄) :
    bigSep Finset.univ (fun k : Fin 10 => Φ k.val) = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [0, 1, 2, 3, 4, 5, 6, 7, 8, 9] (by decide) (by decide)]; rfl

theorem kcell_injective : Function.Injective (kcell : Dev nD × Option (Fin 40) → GSem nD τ sig) := by
  rintro ⟨c, k⟩ ⟨c', k'⟩ h
  have h1 : c = c' := by
    have := congrArg (fun g : GSem nD τ sig => g.1.1) h
    cases k <;> cases k' <;> exact this
  subst h1
  cases k with
  | none => cases k' with
    | none => rfl
    | some j => exact absurd (congrArg Prod.snd h) (by simp)
  | some i => cases k' with
    | none => exact absurd (congrArg Prod.snd h) (by simp)
    | some j =>
      have h2 : (dm i.val) = dm j.val := SemLoc.dma.inj (congrArg Prod.snd h)
      have h3 : i.val = j.val := by rw [← dm_val (i := i.val) (by omega), ← dm_val (i := j.val) (by omega), h2]
      rw [Fin.ext h3]
def ringCells : Finset (GSem nD τ sig) := Finset.univ.map ⟨kcell, kcell_injective⟩

/-- The tokens of a device's own cells: two of its barrier, one of each send and receive cell. -/
abbrev tokOf (cj : Dev nD × (Unit ⊕ Option (Fin 40))) : GSem nD τ sig × ℕ × Bool := match cj.2 with
  | .inl _ => (barCell cj.1, 0, true)
  | .inr k => (kcell (cj.1, k), 0, false)
theorem tokOf_injective : Function.Injective tokOf := by
  rintro ⟨c, j⟩ ⟨c', j'⟩ h
  cases j with
  | inl u => cases j' with
    | inl u' =>
      have h1 : c = c' := congrArg (fun x : GSem nD τ sig × ℕ × Bool => x.1.1.1) h
      rw [h1]
    | inr k' => exact absurd (congrArg (fun x : GSem nD τ sig × ℕ × Bool => x.2.2) h) (by simp)
  | inr k => cases j' with
    | inl u' => exact absurd (congrArg (fun x : GSem nD τ sig × ℕ × Bool => x.2.2) h) (by simp)
    | inr k' =>
      have h1 : ((c, k) : Dev nD × Option (Fin 40)) = (c', k') := kcell_injective (congrArg (fun x : GSem nD τ sig × ℕ × Bool => x.1) h)
      rw [(Prod.mk.inj h1).1, (Prod.mk.inj h1).2]
def ringToks : Finset (GSem nD τ sig × ℕ × Bool) := Finset.univ.map ⟨tokOf, tokOf_injective⟩

/-- What the certificate's ghost state starts as. -/
def u₀ : UU :=
  (initOf (Pipeline.cells cfgs cellOf_inj) (Pipeline.launchToks cfgs cellOf_inj), (initOf ringCells ringToks, 1))

/-- The tokens of the device's own cells. -/
def toks (c : Dev nD) : sProp 𝕄 :=
  iprop(dutyTok ER (barCell c) 0 true ∗ dutyTok ER (barCell c) 0 false
    ∗ bigSep Finset.univ (fun k : Fin 20 => dutyTok ER (sendCell c k.val) 0 false) ∗ bigSep Finset.univ (fun k : Fin 20 => dutyTok ER (recvCell c k.val) 0 false))
/-- The tokens of the duties the device pays. -/
def payToks (c : Dev nD) : sProp 𝕄 :=
  iprop(dutyTok ER (barCell (px c)) 0 true ∗ dutyTok ER (barCell (py c)) 0 false
    ∗ bigSep Finset.univ (fun k : Fin 20 => dutyTok ER (sendCell c k.val) 0 false) ∗ bigSep Finset.univ (fun k : Fin 20 => dutyTok ER (recvCell (peer k.val c) k.val) 0 false))

/-- What the launch deals to a device. -/
def G (c : Dev nD) : sProp 𝕄 :=
  iprop((bigSep Finset.univ fun k : Option (Fin 40) => roundState ER (Rd m) (kcell (c, k)) 0)
    ∗ (bigSep Finset.univ fun k : Option (Fin 40) => atPos ER (kcell (c, k)) 0 ∅ 0)
    ∗ (bigSep Finset.univ fun k : Option (Fin 40) => reached ER (kcell (c, k)) 0) ∗ toks c)
/-- What stays with one device. -/
def lin (c : Dev nD) : sProp 𝕄 :=
  iprop((bigSep Finset.univ fun k : Option (Fin 40) => atPos ER (kcell (c, k)) 0 ∅ 0) ∗ payToks c ∗ bigSep Finset.univ (fun j : Fin 10 => lZ c j.val))
/-- What a device has once the invariants are made. -/
def G' (c : Dev nD) : sProp 𝕄 := iprop(∃ K, records m K ∗ lin c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option (Fin 40) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_eq_bigSepL [()] (by decide) (by decide), bigSepL_singleton]
    exact congrArg (fun X => iprop(dutyTok ER (barCell c) 0 true ∗ X)) (cells_split c fun g => dutyTok ER g 0 false)
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

set_option maxRecDepth 20000 in
theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ (fun k : Fin 20 => semVal (sendCell c k.val) 0) ∗ bigSep Finset.univ (fun k : Fin 20 => semVal (recvCell c k.val) 0))
        ∗ bigSep Finset.univ (fun j : Fin 10 => lZ c j.val)) := by
  unfold Pipeline.ownSems0
  rw [bigSep_univ_equiv (finSumFinEquiv (m := 40) (n := 10)), bigSep_univ_sum, bigSep_univ_equiv (finSumFinEquiv (m := 20) (n := 20)), bigSep_univ_sum]
  have h (i : Fin 50) : (semVal ((c : Thread nD τ), osem i) 0 : sProp 𝕄) = semVal ((c : Thread nD τ), .dma (dm i.val)) 0 := by
    rw [show (dm i.val : DmaSem sig) = i from Fin.ext (Nat.mod_eq_of_lt i.isLt)]
  exact congrArg₂ (fun X Y => iprop(X ∗ Y)) (congrArg₂ (fun X Y => iprop(X ∗ Y)) (bigSep_congr fun k _ => h _) (bigSep_congr fun k _ => h _)) (bigSep_congr fun k _ => h _)
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Option (Fin 40) => semVal (kcell (c, k)) 0) ∗ bigSep Finset.univ (fun j : Fin 10 => lZ c j.val)) : sProp 𝕄) := by
  rw [ownSems0_eq, unscopedSems0_eq, cells_split c fun g => semVal g 0]
  iintro ⟨⟨⟨HS, HR⟩, HL⟩, HB⟩
  iframe HS HR HL HB

/-! ## The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option (Fin 40) => iprop(∃ κ : ℕ, cellInv ER (Rd m) κ (kcell (c, k))))
          ∗ (bigSep Finset.univ fun k : Option (Fin 40) => reached ER (kcell (c, k)) 0)
          ∗ (bigSep Finset.univ fun k : Option (Fin 40) => atPos ER (kcell (c, k)) 0 ∅ 0) ∗ toks c ∗ bigSep Finset.univ (fun j : Fin 10 => lZ c j.val)) := by
  unfold G
  iintro ⟨Hos, Hus, Hst, Hat, Hr, Htok⟩
  ihave Hv := (sems0_eq (F := F) c) $$ [Hos Hus]
  · isplitl [Hos] <;> iassumption
  icases Hv with ⟨Hv, HL⟩
  imod (show iprop((bigSep Finset.univ fun k : Option (Fin 40) => semVal (kcell (c, k)) 0) ∗ bigSep Finset.univ fun k : Option (Fin 40) => roundState ER (Rd m) (kcell (c, k)) 0)
      ⊢ (|={Set.univ}=> bigSep Finset.univ fun k : Option (Fin 40) => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HL

/-- Exchanging the two devices of a pair along the first or the second axis, or as transfer `k` does. -/
def eX : Dev nD ≃ Dev nD := ⟨px, px, px_px, px_px⟩
def eY : Dev nD ≃ Dev nD := ⟨py, py, py_py, py_py⟩
def eP (k : ℕ) : Dev nD ≃ Dev nD := ⟨peer k, peer k, peer_peer k, peer_peer k⟩

/-- The tokens, each dealt to the device that pays the duty. -/
theorem toks_around : (bigSep Finset.univ fun c : Dev nD => (toks c : sProp 𝕄)) ⊢ bigSep Finset.univ fun c : Dev nD => payToks c := by
  have hR : (bigSep Finset.univ fun c : Dev nD => bigSep Finset.univ (fun k : Fin 20 => (dutyTok ER (recvCell c k.val) 0 false : sProp 𝕄)))
      = bigSep Finset.univ fun c : Dev nD => bigSep Finset.univ (fun k : Fin 20 => (dutyTok ER (recvCell (peer k.val c) k.val) 0 false : sProp 𝕄)) := by
    rw [bigSep_univ_comm, bigSep_univ_comm (fun (c : Dev nD) (k : Fin 20) => (dutyTok ER (recvCell (peer k.val c) k.val) 0 false : sProp 𝕄))]
    exact bigSep_congr fun k _ => bigSep_univ_equiv (eP k.val) (fun c : Dev nD => (dutyTok ER (recvCell c k.val) 0 false : sProp 𝕄))
  unfold toks payToks
  rw [bigSep_sep', bigSep_sep', bigSep_sep', bigSep_sep', bigSep_sep', bigSep_sep', hR,
    bigSep_univ_equiv eX (fun c : Dev nD => (dutyTok ER (barCell c) 0 true : sProp 𝕄)),
    bigSep_univ_equiv eY (fun c : Dev nD => (dutyTok ER (barCell c) 0 false : sProp 𝕄))]
  exact rfl_ent

omit [FloatOps F] in
/-- Something that may be used again and again is used for each member of a family. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option (Fin 40) => iprop(∃ κ : ℕ, cellInv ER (Rd m) κ (kcell (c, k))))
          ∗ (bigSep Finset.univ fun k : Option (Fin 40) => reached ER (kcell (c, k)) 0)
          ∗ (bigSep Finset.univ fun k : Option (Fin 40) => atPos ER (kcell (c, k)) 0 ∅ 0) ∗ toks c ∗ bigSep Finset.univ (fun j : Fin 10 => lZ c j.val)) : sProp 𝕄)
      ⊢ bigSep Finset.univ (G' m) := by
  rw [bigSep_sep', bigSep_sep', bigSep_sep', bigSep_sep', ← bigSep_univ_prod (fun ck : Dev nD × Option (Fin 40) => iprop(∃ κ : ℕ, cellInv ER (Rd m) κ (kcell ck))),
    ← bigSep_univ_prod (fun ck : Dev nD × Option (Fin 40) => (reached ER (kcell ck) 0 : sProp 𝕄))]
  iintro ⟨HI, HR, Hat, Htok, HL⟩
  ihave HK := (BI.bigSep_exists_pi Finset.univ (fun (ck : Dev nD × Option (Fin 40)) (κ : ℕ) => (cellInv ER (Rd m) κ (kcell ck) : sProp 𝕄))) $$ HI
  icases HK with ⟨%K, HI⟩
  ihave Htk := (toks_around (F := F)) $$ Htok
  iapply (with_each (R := records m K) (Φ := lin) fun c _ => show iprop(records m K ∗ lin c) ⊢ G' m c from by
    unfold G'; iintro H; iexists K; iexact H)
  isplitl [HI HR]
  · have h : iprop(bigSep Finset.univ (fun ck : Dev nD × Option (Fin 40) => (cellInv ER (Rd m) (K ck) (kcell ck) : sProp 𝕄))
        ∗ bigSep Finset.univ (fun ck : Dev nD × Option (Fin 40) => (reached ER (kcell ck) 0 : sProp 𝕄))) ⊢ records m K := by
      unfold records; rw [bigSep_sep']
    iapply h
    isplitl [HI] <;> iassumption
  · have h : iprop((bigSep Finset.univ fun c : Dev nD => bigSep Finset.univ fun k : Option (Fin 40) => (atPos ER (kcell (c, k)) 0 ∅ 0 : sProp 𝕄))
        ∗ (bigSep Finset.univ fun c : Dev nD => (payToks c : sProp 𝕄)) ∗ (bigSep Finset.univ fun c : Dev nD => bigSep Finset.univ (fun j : Fin 10 => (lZ c j.val : sProp 𝕄))))
        ⊢ bigSep Finset.univ lin := by
      unfold lin; rw [bigSep_sep', bigSep_sep']
    iapply h
    isplitl [Hat]; · iexact Hat
    isplitl [Htk]; · iexact Htk
    iexact HL

/-- All devices' semaphores become invariants, and every device gets its part. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem bar_eq_iff {a b : Dev nD} : Iff (barCell a = barCell b) (a = b) :=
  ⟨fun h => congrArg (fun g : GSem nD τ sig => g.1.1) h, fun h => h ▸ rfl⟩
theorem recv_eq_iff {a b : Dev nD} {j k : ℕ} (hj : j < 20) (hk : k < 20) : Iff (recvCell a j = recvCell b k) (a = b ∧ j = k) := by
  refine ⟨fun h => ⟨congrArg (fun g : GSem nD τ sig => g.1.1) h, ?_⟩, fun h => by rw [h.1, h.2]⟩
  have h2 : dm (20 + j) = dm (20 + k) := SemLoc.dma.inj (congrArg Prod.snd h)
  have h3 := congrArg Fin.val h2
  rw [dm_val (by omega), dm_val (by omega)] at h3
  omega
theorem bar_ne_recv (a b : Dev nD) (k : ℕ) : barCell a ≠ recvCell b k := fun h => by
  have := congrArg Prod.snd h; simp at this

theorem owed_bar (d c : Dev nD) (ks : List ℕ) : owed d ks (barCell c) () = 0 := by
  by_contra h
  obtain ⟨k, -, e⟩ := owed_pos (Nat.pos_of_ne_zero h)
  exact bar_ne_recv _ _ _ e
/-- A device owes a receive cell the credit of that transfer, once for every time the transfer is in the list. -/
theorem owed_recv (d c : Dev nD) {k : ℕ} (hk : k < 20) (ks : List ℕ) (hks : ∀ j ∈ ks, j < 20) :
    owed d ks (recvCell c k) () = if d = peer k c then ks.count k * amt k else 0 := by
  induction ks with
  | nil => show 0 = _; rw [List.count_nil, Nat.zero_mul, ite_self]
  | cons j ks ih =>
    unfold owed
    rw [Pi.add_apply, Finsupp.add_apply, tallyAt_apply, ih fun i hi => hks i (List.mem_cons_of_mem _ hi)]
    have hj := hks j List.mem_cons_self
    by_cases hjk : j = k
    · subst hjk
      by_cases hd : d = peer j c
      · rw [if_pos hd, if_pos hd, if_pos ⟨by rw [hd, peer_peer], rfl⟩, List.count_cons_self, Nat.add_mul, Nat.one_mul]
      · rw [if_neg hd, if_neg hd, if_neg fun h => hd (by rw [((recv_eq_iff hk hj).1 h.1).1, peer_peer])]
    · rw [if_neg (c := recvCell c k = recvCell (peer j d) j ∧ () = ()) fun h => hjk ((recv_eq_iff hk hj).1 h.1).2.symm, Nat.add_zero, List.count_cons_of_ne hjk]

theorem order_count : ∀ k : Fin 20, order.count k.val = 1 := by decide
theorem order_lt : ∀ j ∈ order, j < 20 := by decide

theorem launch_bar (c : Dev nD) :
    tallyOn (barCell c) (launchCredit (Pipeline.owing O₀) 0 (barCell c)) = (tallyAt (barCell c) () 2 : CellTallies nD τ sig Unit) := by
  have hd (d : Dev nD) : O₀ d (barCell c) () = (if d = px c then 1 else 0) + (if d = py c then 1 else 0) := by
    unfold O₀ O₁
    rw [Pi.add_apply, Finsupp.add_apply, Pi.add_apply, Finsupp.add_apply, tallyAt_apply, tallyAt_apply, owed_bar, Nat.zero_add]
    have e1 : (barCell c = barCell (px d) ∧ () = ()) ↔ d = px c := by
      rw [bar_eq_iff]; exact ⟨fun h => by rw [h.1, px_px], fun h => ⟨by rw [h, px_px], rfl⟩⟩
    have e2 : (barCell c = barCell (py d) ∧ () = ()) ↔ d = py c := by
      rw [bar_eq_iff]; exact ⟨fun h => by rw [h.1, py_py], fun h => ⟨by rw [h, py_py], rfl⟩⟩
    exact congrArg₂ (· + ·) (if_congr e1 rfl rfl) (if_congr e2 rfl rfl)
  unfold tallyAt; refine congrArg _ (Finsupp.ext fun u => ?_); cases u
  rw [Pipeline.launchCredit_owing, Finsupp.single_eq_same, Finset.sum_congr rfl fun d _ => hd d, Finset.sum_add_distrib,
    Finset.sum_ite_eq' Finset.univ (px c) fun _ => 1, Finset.sum_ite_eq' Finset.univ (py c) fun _ => 1, if_pos (Finset.mem_univ _), if_pos (Finset.mem_univ _)]

theorem launch_recv (c : Dev nD) (k : Fin 20) :
    tallyOn (recvCell c k.val) (launchCredit (Pipeline.owing O₀) 0 (recvCell c k.val)) = (tallyAt (recvCell c k.val) () (amt k.val) : CellTallies nD τ sig Unit) := by
  have hd (d : Dev nD) : O₀ d (recvCell c k.val) () = if d = peer k.val c then amt k.val else 0 := by
    unfold O₀ O₁
    rw [Pi.add_apply, Finsupp.add_apply, Pi.add_apply, Finsupp.add_apply, tallyAt_apply, tallyAt_apply, owed_recv d c k.isLt order order_lt, order_count k, Nat.one_mul,
      if_neg (c := recvCell c k.val = barCell (px d) ∧ () = ()) fun h => bar_ne_recv _ _ _ h.1.symm,
      if_neg (c := recvCell c k.val = barCell (py d) ∧ () = ()) fun h => bar_ne_recv _ _ _ h.1.symm, Nat.add_zero]
  unfold tallyAt; refine congrArg _ (Finsupp.ext fun u => ?_); cases u
  rw [Pipeline.launchCredit_owing, Finsupp.single_eq_same, Finset.sum_congr rfl fun d _ => hd d, Finset.sum_ite_eq' Finset.univ (peer k.val c) fun _ => amt k.val,
    if_pos (Finset.mem_univ _)]

/-- The credit tokens of a device. -/
def creds (c : Dev nD) : sProp 𝕄 :=
  iprop(cred (tallyAt (barCell c) () 2) ∗ bigSep Finset.univ fun k : Fin 20 => cred (tallyAt (recvCell c k.val) () (amt k.val)))

theorem dm_inj20 : Function.Injective (fun k : Fin 20 => (SemLoc.dma (dm (20 + k.val)) : SemLoc sig)) := fun j k h => by
  have h3 := congrArg Fin.val (SemLoc.dma.inj h)
  rw [dm_val (by omega), dm_val (by omega)] at h3
  exact Fin.ext (by omega)

theorem creds_of_launch (c : Dev nD) : (Pipeline.launchCred O₀ c : sProp 𝕄) ⊢ creds c := by
  unfold Pipeline.launchCred creds
  rw [bigSep_univ_at _ (SemLoc.reg barS), launch_bar]
  refine sep_mono_right ?_
  refine ent_trans (bigSep_subset (t := Finset.univ.map ⟨_, dm_inj20⟩) fun s hs => ?_) ?_
  · obtain ⟨k, -, rfl⟩ := Finset.mem_map.1 hs
    exact Finset.mem_erase.2 ⟨fun h => by simp at h, Finset.mem_univ _⟩
  · rw [bigSep_map]
    exact Entails.of_eq (bigSep_congr fun k _ => congrArg cred (launch_recv c k))

end Cert.Allreduce

end
-- ==== Proof.Launch.lean ====
/-
# The launch

One device enters the program with what the launch deals to it and leaves it with its arrays, the result
filled in, and its semaphores back at zero. From that the run of all four devices follows.
-/
module

public import proofs.«01_k».proof.Proof.Ghost
public import Idealize.ShloMosaic.Lib.Pipeline.CollectiveSegs

@[expose] public section

noncomputable section

namespace Cert.Allreduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

section Device
variable (c : Dev nD)

/-- A device's four arrays, the result at `f`. -/
def arrs (f : S4x1024x512.Idx → F .bf16) : sProp 𝕄 :=
  iprop((((c : Thread nD τ).loc main_arg0) ↦{fullShare} (argX m c : Buf (Elt F) ((c : Thread nD τ).loc main_arg0)))
    ∗ kP m c ∗ wP m c ∗ (((c : Thread nD τ).loc main_v1) ↦{fullShare} (f : Buf (Elt F) ((c : Thread nD τ).loc main_v1))))
/-- The parts of the send buffer and of the accumulator the program does not touch. -/
def idle (fS : S4096x512.Idx → F .bf16) (fA : S4096x512.Idx → F .f32) : sProp 𝕄 :=
  iprop(sbP c (yb c * 1024 + xb c * 512) 512 fS ∗ sbP c (2048 + xb c * 1024 + yb c * 512) 512 fS
    ∗ accP c ((1 - yb c) * 1024) 1024 fA ∗ accP c (2048 + (1 - xb c) * 1024) 1024 fA)

/-- The tokens of the transfers, sorted by transfer. -/
theorem tokens : iprop(lin c ∗ creds c)
    ⊢ (iprop((atPos ER (barCell c) 0 ∅ 0 ∗ dutyTok ER (barCell (px c)) 0 true ∗ dutyTok ER (barCell (py c)) 0 false ∗ cred (tallyAt (barCell c) () 2))
        ∗ bigSep Finset.univ (fun k : Fin 20 => sTok c k.val) ∗ bigSep Finset.univ (fun k : Fin 20 => rTok c k.val) ∗ bigSep Finset.univ (fun j : Fin 10 => lZ c j.val)) : sProp 𝕄) := by
  unfold lin payToks creds sTok rTok
  rw [cells_split c fun g => atPos ER g 0 ∅ 0, bigSep_sep', bigSep_sep', bigSep_sep']
  iintro ⟨⟨⟨A, B, C⟩, ⟨D, E, G, H⟩, I⟩, J, N⟩
  iframe A B C D E G H I J N

set_option maxRecDepth 65536 in
/-- A device enters the program. -/
theorem enter (fk : Vec F S4x512 .f32) (fw : Vec F S512x512 .f32) (f0 : Vec F S1x1024x512 .f32) (f1 : Vec F S1x1024x512 .f32) (fV : S4x1024x512.Idx → F .bf16)
    (fA : S4096x512.Idx → F .f32) (fS : S4096x512.Idx → F .bf16) (fR : S3072x512.Idx → F .bf16) (fO : S4x1024x512.Idx → F .bf16) (W : Waits sig Unit) :
    iprop((lin c ∗ creds c) ∗ arrs m c fV ∗ owes (c : Thread nD τ) (O₀ c) W
      ∗ (((c : Thread nD τ).loc cc0_scratch0) ↦{fullShare} (fA : Buf (Elt F) ((c : Thread nD τ).loc cc0_scratch0)))
      ∗ (((c : Thread nD τ).loc cc0_scratch1) ↦{fullShare} (fS : Buf (Elt F) ((c : Thread nD τ).loc cc0_scratch1)))
      ∗ (((c : Thread nD τ).loc cc0_scratch2) ↦{fullShare} (fR : Buf (Elt F) ((c : Thread nD τ).loc cc0_scratch2)))
      ∗ (((c : Thread nD τ).loc cc0_scratch3) ↦{fullShare} (fO : Buf (Elt F) ((c : Thread nD τ).loc cc0_scratch3)))
      ∗ xb0P c f0 ∗ xb1P c f1 ∗ kwP c fk ∗ wwP c fw)
      ⊢ iprop(Pre m c fk fw f0 f1 fV fO fS fA W ∗ idle c fS fA) := by
  have hA := acc_all c fA
  have hS := sb_start c fS
  have hR := rb_start c fR
  have hO := ou_start c fO
  have hV := (vo_all c fV).1
  have hX := (x_all m c).1
  have hT := tokens (F := F) c
  rw [bigSep_20 fun k => sTok c k, bigSep_20 fun k => rTok c k, bigSep_10 fun j => lZ c j] at hT
  unfold arrs
  refine ent_trans (smono hT (smono (smono hX (smono rfl_ent (smono rfl_ent hV))) (smono rfl_ent (smono hA (smono hS (smono hR (smono hO rfl_ent))))))) ?_
  iintro ⟨⟨⟨BA, DX, DY, BC⟩, ⟨T0, T1, T2, T3, T4, T5, T6, T7, T8, T9, T10, T11, T12, T13, T14, T15, T16, T17, T18, T19⟩,
      ⟨R0, R1, R2, R3, R4, R5, R6, R7, R8, R9, R10, R11, R12, R13, R14, R15, R16, R17, R18, R19⟩, ⟨Z0, Z1, Z2, Z3, Z4, Z5, Z6, Z7, Z8, Z9⟩⟩,
    ⟨⟨⟨Xy, Xny⟩, Xx, Xnx⟩, Hk0, Hw0, ⟨⟨Vy, Vny⟩, Vx, Vnx⟩⟩, HO, ⟨⟨AY, I2⟩, AX, I3⟩, ⟨⟨⟨I0, S6, S8⟩, SY⟩, ⟨I1, S7, S9⟩, SX⟩,
    ⟨L0, L1, L2, L3, L4, L5, L6, L7, L8, L9⟩, ⟨⟨O10, O12, O11, O13⟩, L10, L11, L12, L13, L14, L15, L16, L17, L18, L19⟩, Hb0, Hb1, Hkw, Hww⟩
  ihave GY := (show iprop(landing c 0 ∗ landing c 2 ∗ landing c 4 ∗ landing c 7 ∗ landing c 9 ∗ landing c 11 ∗ landing c 13 ∗ landing c 14 ∗ landing c 16 ∗ landing c 18)
    ⊢ (giveY c : sProp 𝕄) from rfl_ent) $$ [L0 L2 L4 L7 L9 L11 L13 L14 L16 L18]
  · iframe L0 L2 L4 L7 L9 L11 L13 L14 L16 L18
  ihave GX := (show iprop(landing c 1 ∗ landing c 3 ∗ landing c 5 ∗ landing c 6 ∗ landing c 8 ∗ landing c 10 ∗ landing c 12 ∗ landing c 15 ∗ landing c 17 ∗ landing c 19)
    ⊢ (giveX c : sProp 𝕄) from rfl_ent) $$ [L1 L3 L5 L6 L8 L10 L12 L15 L17 L19]
  · iframe L1 L3 L5 L6 L8 L10 L12 L15 L17 L19
  ihave O10 := (show ouP c (yb c) (xb c * 512) 256 fullShare fO ⊢ (ouP c (sb c 10) (so c 10) (len 10) fullShare fO : sProp 𝕄) from rfl_ent) $$ O10
  ihave O12 := (show ouP c (yb c) (xb c * 512 + 256) 256 fullShare fO ⊢ (ouP c (sb c 12) (so c 12) (len 12) fullShare fO : sProp 𝕄) from rfl_ent) $$ O12
  ihave O11 := (show ouP c (2 + xb c) (yb c * 512) 256 fullShare fO ⊢ (ouP c (sb c 11) (so c 11) (len 11) fullShare fO : sProp 𝕄) from rfl_ent) $$ O11
  ihave O13 := (show ouP c (2 + xb c) (yb c * 512 + 256) 256 fullShare fO ⊢ (ouP c (sb c 13) (so c 13) (len 13) fullShare fO : sProp 𝕄) from rfl_ent) $$ O13
  unfold Pre idle
  iframe HO Hk0 Hw0 Hkw Hww Hb0 Hb1 Xy Vy Xny Vny Xx Vx Xnx Vnx Z0 Z1 Z2 Z3 Z4 Z5 Z6 Z7 Z8 Z9 GY GX DY DX BA BC T0 R0 T1 R1 T2 R2 T3 R3 T4 R4 T5 R5 T6 R6 T7 R7 T8 R8 T9 R9 T10 R10 T11 R11 T12 R12 T13 R13 T14 R14 T15 R15 T16 R16 T17 R17 T18 R18 T19 R19 SY SX S6 S7 S8 S9 AY AX O10 O11 O12 O13 I0 I1 I2 I3

/-- What a device has after the program. -/
def Fin1 : sProp 𝕄 :=
  iprop(arrs m c (OU m) ∗ unscopedSems0 c ∗ Pipeline.ownSems0 (Ix := Unit) (Name := ℕ) (U := UU) (Lvl := ℕ) (Val := Elt F) (τ := τ) osem c ∗ Pipeline.scopedRest cfg0.spec c)

set_option maxRecDepth 65536 in
/-- A device leaves the program. -/
theorem leave (fS : S4096x512.Idx → F .bf16) (fA : S4096x512.Idx → F .f32) :
    iprop(Post m c ∗ idle c fS fA) ⊢ iprop(Fin1 m c ∗ OW c []) := by
  have hA := acc_end (F := F) c
  have hS := sb_end m c
  have hR := rb_end m c
  have hO := ou_end m c
  have hV := (vo_all c (OU m)).2
  have hX := (x_all m c).2
  unfold Fin1
  rw [ownSems0_eq, unscopedSems0_eq, bigSep_20 fun k => semVal (sendCell c k) 0, bigSep_20 fun k => semVal (recvCell c k) 0, bigSep_10 fun j => lZ c j, scopedRest0_eq]
  unfold Post idle arrs
  iintro ⟨⟨Hk0, Z0, Hw0, Z1, Hkw, Hww, Xny, Z2, BZ, Xnx, Z3, Xy, Z4, Hb0, Xx, Z5, Hb1, RZ0, D0, RZ1, D1, RZ2, D2, RZ3, D3, RZ4, RZ5, RZ7, D7, RZ6, D6, RZ9, AX, D5, D9, RZ8, AY, D4, D8, RZ11, RZ10, RZ13, RZ12, RZ14, RZ16, RZ18, RZ15, RZ17, RZ19, Vx, BX, Z6, Vy, BY, Z7, Vny, BNY, Z8, Vnx, BNX, Z9, Q0, SZ0, Q2, SZ2, Q4, SZ4, Q1, SZ1, Q3, SZ3, Q5, SZ5, Q6, SZ6, Q7, SZ7, Q8, SZ8, Q9, SZ9, Q11, SZ11, Q10, SZ10, Q13, SZ13, Q12, SZ12, Q14, SZ14, Q15, SZ15, Q17, SZ17, Q16, SZ16, Q19, SZ19, Q18, SZ18, HO⟩, I0, I1, I2, I3⟩
  ihave A := hA $$ [AX AY I2 I3]
  · isplitl [AY I2]
    · isplitl [AY]; · iexists _; iexact AY
      iexists _; iexact I2
    isplitl [AX]; · iexists _; iexact AX
    iexists _; iexact I3
  ihave S := hS $$ [I0 I1 Q0 Q1 Q2 Q3 Q4 Q5 Q6 Q7 Q8 Q9]
  · isplitl [I0 Q6 Q8 Q0 Q2 Q4]
    · isplitl [I0 Q6 Q8]
      · isplitl [I0]; · iexists _; iexact I0
        iframe Q6 Q8
      iframe Q0 Q2 Q4
    isplitl [I1 Q7 Q9]
    · isplitl [I1]; · iexists _; iexact I1
      iframe Q7 Q9
    iframe Q1 Q3 Q5
  ihave R := hR $$ [D0 D1 D2 D3 D4 D5 D6 D7 D8 D9]
  · iframe D0 D1 D2 D3 D4 D5 D6 D7 D8 D9
  ihave O := hO $$ [BX BY BNY BNX Q10 Q11 Q12 Q13 Q14 Q15 Q16 Q17 Q18 Q19]
  · iframe BX BY BNY BNX Q10 Q11 Q12 Q13 Q14 Q15 Q16 Q17 Q18 Q19
  ihave V := hV $$ [Vx Vy Vny Vnx]
  · iframe Vx Vy Vny Vnx
  ihave X := hX $$ [Xx Xy Xny Xnx]
  · iframe Xx Xy Xny Xnx
  ihave E0 := (show xb0P c (xblk m c (yb c)) ⊢ (iprop(∃ f : Buf (Elt F) ((c : Thread nD τ).loc cc0_scratch4), ((c : Thread nD τ).loc cc0_scratch4) ↦{fullShare} f) : sProp 𝕄) from by
    unfold xb0P; iintro H; iexists _; iexact H) $$ Hb0
  ihave E1 := (show xb1P c (xblk m c (2 + xb c)) ⊢ (iprop(∃ f : Buf (Elt F) ((c : Thread nD τ).loc cc0_scratch5), ((c : Thread nD τ).loc cc0_scratch5) ↦{fullShare} f) : sProp 𝕄) from by
    unfold xb1P; iintro H; iexists _; iexact H) $$ Hb1
  ihave E2 := (show kwP c (argK m c) ⊢ (iprop(∃ f : Buf (Elt F) ((c : Thread nD τ).loc cc0_scratch6), ((c : Thread nD τ).loc cc0_scratch6) ↦{fullShare} f) : sProp 𝕄) from by
    unfold kwP; iintro H; iexists _; iexact H) $$ Hkw
  ihave E3 := (show wwP c (argW m c) ⊢ (iprop(∃ f : Buf (Elt F) ((c : Thread nD τ).loc cc0_scratch7), ((c : Thread nD τ).loc cc0_scratch7) ↦{fullShare} f) : sProp 𝕄) from by
    unfold wwP; iintro H; iexists _; iexact H) $$ Hww
  iframe X Hk0 Hw0 V BZ Z0 Z1 Z2 Z3 Z4 Z5 Z6 Z7 Z8 Z9 SZ0 SZ1 SZ2 SZ3 SZ4 SZ5 SZ6 SZ7 SZ8 SZ9 SZ10 SZ11 SZ12 SZ13 SZ14 SZ15 SZ16 SZ17 SZ18 SZ19 RZ0 RZ1 RZ2 RZ3 RZ4 RZ5 RZ6 RZ7 RZ8 RZ9 RZ10 RZ11 RZ12 RZ13 RZ14 RZ15 RZ16 RZ17 RZ18 RZ19 A S R O E0 E1 E2 E3 HO

/-- The program, on one device. -/
theorem run_device (K) (fk : Vec F S4x512 .f32) (fw : Vec F S512x512 .f32) (f0 : Vec F S1x1024x512 .f32) (f1 : Vec F S1x1024x512 .f32) (fV : S4x1024x512.Idx → F .bf16)
    (fA : S4096x512.Idx → F .f32) (fS : S4096x512.Idx → F .bf16) (fR : S3072x512.Idx → F .bf16) (fO : S4x1024x512.Idx → F .bf16) (W : Waits sig Unit) :
    iprop(ctx m K ∗ (lin c ∗ creds c) ∗ arrs m c fV ∗ owes (c : Thread nD τ) (O₀ c) W
      ∗ (((c : Thread nD τ).loc cc0_scratch0) ↦{fullShare} (fA : Buf (Elt F) ((c : Thread nD τ).loc cc0_scratch0)))
      ∗ (((c : Thread nD τ).loc cc0_scratch1) ↦{fullShare} (fS : Buf (Elt F) ((c : Thread nD τ).loc cc0_scratch1)))
      ∗ (((c : Thread nD τ).loc cc0_scratch2) ↦{fullShare} (fR : Buf (Elt F) ((c : Thread nD τ).loc cc0_scratch2)))
      ∗ (((c : Thread nD τ).loc cc0_scratch3) ↦{fullShare} (fO : Buf (Elt F) ((c : Thread nD τ).loc cc0_scratch3)))
      ∗ xb0P c f0 ∗ xb1P c f1 ∗ kwP c fk ∗ wwP c fw)
      ⊢ run c (cc0_body (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) (fun _ => iprop(Fin1 m c ∗ OW c [])) := by
  have h1 := enter m c fk fw f0 f1 fV fA fS fR fO W
  have h2 := run_body m K c fk fw f0 f1 fV fO fS fA W
  have h3 := leave m c fS fA
  refine ent_trans (smono rfl_ent h1) ?_
  refine ent_trans (show iprop(ctx m K ∗ Pre m c fk fw f0 f1 fV fO fS fA W ∗ idle c fS fA) ⊢ iprop((ctx m K ∗ Pre m c fk fw f0 f1 fV fO fS fA W) ∗ idle c fS fA) from by
    iintro ⟨H1, H2, H3⟩; iframe H1 H2 H3) ?_
  exact ent_trans (smono h2 rfl_ent) (ent_trans (wp_frame_r _ _ _) (wp_mono _ _ _ fun _ => h3))

end Device

/-! ## The proof data of the call -/

/-- What a device starts from. -/
def start (c : Dev nD) : sProp 𝕄 := iprop(G' m c ∗ creds c ∗ levAts L lv ∗ arrs m c (m ((c : Thread nD τ).loc main_v1)))

def dats (_ : Fin 1) (c : Dev nD) : Dat τ (Elt F) Unit ℕ UU ℕ cfg0 c where
  A w := w.elim0
  after w := w.elim0
  Φ t := match t with
    | ⟨0, _⟩ => iprop(start m c ∗ Pipeline.scopedRest cfg0.spec c)
    | ⟨_ + 1, _⟩ => Fin1 m c
  q _ := fullShare
  owed t := match t with
    | ⟨0, _⟩ => O₀ c
    | ⟨_ + 1, _⟩ => 0

theorem no_windows {M : Type} [URA M] (Φ : Fin 0 → sProp M) : bigSep Finset.univ Φ = (BI.emp : sProp M) := by
  rw [Finset.univ_eq_empty, BI.bigSep_empty]

set_option maxRecDepth 65536 in
theorem body_obligation (c : Dev nD) : BodyObligation (dats (F := F) m 0 c) (defs₀ (F := F)) 𝒱₀ () Set.univ := fun t => by
  rw [fin_N0 t]
  have hW (Φ : Fin cfg0.W → sProp 𝕄) : bigSep Finset.univ Φ = (BI.emp : sProp 𝕄) := no_windows Φ
  rw [hW, hW]
  show iprop((start m c ∗ Pipeline.scopedRest cfg0.spec c) ∗ (dats m 0 c).owesAt () t0_0.castSucc ∗ emp)
    ⊢ run c (cc0_body (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) (fun _ => iprop(Fin1 m c ∗ (dats m 0 c).owesAt () t0_0.succ ∗ emp))
  unfold Dat.owesAt Pipeline.owesWithin start G'
  rw [show (dats m 0 c).owed t0_0.castSucc = O₀ c from rfl, show (dats m 0 c).owed t0_0.succ = 0 from rfl, scopedRest0_eq]
  iintro ⟨⟨⟨⟨%K, HR, HL⟩, HC, HV, HA⟩, ⟨%f0, B0⟩, ⟨%f1, B1⟩, ⟨%f2, B2⟩, ⟨%f3, B3⟩, ⟨%f4, B4⟩, ⟨%f5, B5⟩, ⟨%f6, B6⟩, ⟨%f7, B7⟩⟩, ⟨%W, -, HO⟩, -⟩
  iapply (ent_trans (run_device m c K f6 f7 f4 f5 (m ((c : Thread nD τ).loc main_v1)) f0 f1 f2 f3 W)
    (wp_mono _ _ _ fun _ => show iprop(Fin1 m c ∗ OW c []) ⊢ _ from by
      unfold OW
      iintro ⟨H1, %W', HO⟩
      isplitl [H1]; · iexact H1
      isplitl [HO]
      · iexists W'
        isplitr; · ipureintro; exact fun _ _ => Or.inl trivial
        iexact HO
      iempintro))
  unfold ctx xb0P xb1P kwP wwP
  iframe HR HV HL HC HA HO B0 B1 B2 B3 B4 B5 B6 B7

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds_of_launch (F := F) c) $$ Hcr
  imodintro
  unfold start arrs kP wP
  isplitl
  · isplitl [HG]; · iexact HG
    isplitl [Hc]; · iexact Hc
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ Pipeline.scopedRest cfg0.spec c) from rfl]
  iintro ⟨Hs, -, Hr⟩
  iframe Hs Hr

theorem phi1_exit (c : Dev nD) :
    (dats m 0 c).Φ (Fin.last cfg0.N) ⊢ iprop((arrs m c (OU m) ∗ unscopedSems0 c)
      ∗ Pipeline.ownSems0 (Ix := Unit) (Name := ℕ) (U := UU) (Lvl := ℕ) (Val := Elt F) (τ := τ) osem c ∗ Pipeline.scopedRest cfg0.spec c) := by
  rw [show (dats m 0 c).Φ (Fin.last cfg0.N) = Fin1 m c from rfl]
  unfold Fin1
  iintro ⟨H1, H2, H3, H4⟩
  iframe H1 H2 H3 H4

/-- What one device's memory holds at the end. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = (OU m : Buf (Elt F) ((c : Thread nD τ).loc main_v1))

omit [FloatOps F] in
/-- A whole buffer held at the end is in memory what it is held at. -/
theorem read_whole {ℓ : Loc nD τ sig} {f : Buf (Elt F) ℓ} {s : Phys nD τ sig (Elt F)} :
    iprop((ℓ ↦{fullShare} f) ∗ SI s) ⊢ (iprop(⌜s.mem.mem ℓ = f⌝) : sProp 𝕄) := by
  iintro ⟨H, HS⟩
  ihave %h := (SI_pointsTo_agree (st := s) (ℓ := ℓ) (I := Finset.univ) (q := fullShare) (f := f)) $$ [H HS]
  · isplitl [HS] <;> iassumption
  ipureintro
  exact funext fun i => h i (Finset.mem_univ i)

theorem ends_read (c : Dev nD) (s : Phys nD τ sig (Elt F)) :
    iprop(arrs m c (OU m) ∗ SI s) ⊢ (iprop(⌜Ends m c s.mem⌝ ∗ SI s) : sProp 𝕄) := by
  unfold arrs kP wP
  iintro ⟨⟨HX, HK, HW, HV⟩, HS⟩
  ihave %h0 := (read_whole (s := s)) $$ [HX HS]
  · isplitl [HX] <;> iassumption
  ihave %h1 := (read_whole (s := s)) $$ [HK HS]
  · isplitl [HK] <;> iassumption
  ihave %h2 := (read_whole (s := s)) $$ [HW HS]
  · isplitl [HW] <;> iassumption
  ihave %h3 := (read_whole (s := s)) $$ [HV HS]
  · isplitl [HV] <;> iassumption
  isplitr
  · ipureintro; exact ⟨h0, h1, h2, h3⟩
  iexact HS

abbrev s₀ : MemSt nD τ sig (Elt F) := ⟨m, fun _ => 0, ρ⟩

set_option maxRecDepth 8000 in
/-- On four devices, from any memory with all counters at zero, every run of the kernel ends; then every device holds
    the result, the arguments are as they were, and all counters are at zero again. -/
theorem run_main : θ_run defs (onTc (τ := τ) (main (F := F))) (s₀ m ρ) (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      ihave H := (own_pair_emb (embR : Emb (UB × Counters) 𝕄) (initOf ringCells ringToks) 1) $$ HX
      icases H with ⟨HX, -⟩
      have hf : BI.own (((Emb.inl : Emb UB (UB × Counters)).trans (embR : Emb (UB × Counters) 𝕄)) (initOf ringCells ringToks)) ⊢ (|==> bigSep Finset.univ (G m) : sProp 𝕄) := fund_ring m
      imod hf $$ HX with HG
      imodintro
      isplitl [HP] <;> iassumption)
    (hglob := glob m)
    (hA := fun _ w => w.elim0) (hpf := fun _ k => k.elim0)
    (X := start m) (Y := fun c => iprop(arrs m c (OU m) ∗ unscopedSems0 c)) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := fun c s' => by
      iintro ⟨⟨HA, Hu⟩, -, HSI⟩
      ihave H := (ends_read m c s') $$ [HA HSI]
      · isplitl [HA] <;> iassumption
      icases H with ⟨%h1, HSI⟩
      imod (Pipeline.unscopedSems0_read (X := unscopedSems0 c) (c := c) fupd_intro s') $$ [Hu HSI] with ⟨%h2, HSI⟩
      · isplitl [Hu] <;> iassumption
      imodintro
      isplitr
      · ipureintro; exact ⟨h1, h2⟩
      iexact HSI)
    (hQ := fun _ h hs => ⟨fun c => (h c).2.2.1, sem_eq_zero hs fun c => (h c).2.2.2⟩)

end Cert.Allreduce

end
-- ==== Proof.Value.lean ====
/-
# The result over exact arithmetic

Read at one place, a device's partial product is a sum over its 512 channels of the gated convolution times a
weight; the reference's result is the same sum over all 2048 channels. The kernel adds the four devices'
partial products, in an order that depends on the batch and the row, and addition of extended reals may be
put in any order: the two results are equal, with no condition on the arguments.
-/
module

public import Idealize.ShloMosaic.Lib.Pointwise
public import Idealize.ShloMosaic.Lib.IdealHost
public import Idealize.ShloMosaic.Lib.Layout
public import proofs.«01_k».proof.Proof.Model
public import proofs.«01_k».proof.Proof.Gen.ReferenceIdeal.Run

@[expose] public section

noncomputable section

namespace Cert.Allreduce

open Cert.KernelIdeal Cert.KernelIdeal.Gen
open Idealize.ShloMosaic

/-! ## One channel -/

/-- A channel `d` rows back; zero before the first row. -/
def back (g : Fin 1024 → EReal) (d : ℕ) (r : Fin 1024) : EReal :=
  if h : r.val < d then 0 else g ⟨r.val - d, lt_of_le_of_lt (Nat.sub_le _ _) r.isLt⟩
/-- The four-tap convolution of a channel. -/
def conv (g : Fin 1024 → EReal) (k : Fin 4 → EReal) (r : Fin 1024) : EReal :=
  back g 3 r * k 0 + back g 2 r * k 1 + back g 1 r * k 2 + g r * k 3
/-- The gate. -/
def gate (x : EReal) : EReal := Ideal.div x (1 + Ideal.exp (-x))

theorem exp_nonneg_all (x : EReal) : 0 ≤ Ideal.exp x := by
  induction x with
  | bot => exact le_refl _
  | top => exact le_top
  | coe r => exact EReal.coe_nonneg.mpr (Real.exp_pos r).le
theorem one_add_exp_ne (x : EReal) : 1 + Ideal.exp x ≠ 0 :=
  ne_of_gt (lt_of_lt_of_le zero_lt_one (le_add_of_nonneg_right (exp_nonneg_all x)))

/-- The gate as the kernel spells it. -/
theorem gate_eq (x : EReal) : x * Ideal.div 1 (1 + Ideal.exp (0 - x)) = gate x := by
  rw [Ideal.mul_one_div (one_add_exp_ne _), sub_eq_add_neg, zero_add]; rfl

theorem pay3_at (k : FVec Ideal S4x512 .bf16) (x : FVec Ideal S1x1024x512 .f32) (r : Fin 1024) (n : Fin 512) :
    k0_pay3 k x (Idealize.ShloMosaic.ix2 r n)
      = gate (conv (fun r => x (Idealize.ShloMosaic.ix3 0 r n)) (fun t => k (Idealize.ShloMosaic.ix2 t n)) r) := by
  pointwise [k0_pay3]
  refine (gate_eq (x (Idealize.ShloMosaic.ix3 0 r n) * k (Idealize.ShloMosaic.ix2 3 n)
    + back (fun r => x (Idealize.ShloMosaic.ix3 0 r n)) 3 r * k (Idealize.ShloMosaic.ix2 0 n)
    + back (fun r => x (Idealize.ShloMosaic.ix3 0 r n)) 2 r * k (Idealize.ShloMosaic.ix2 1 n)
    + back (fun r => x (Idealize.ShloMosaic.ix3 0 r n)) 1 r * k (Idealize.ShloMosaic.ix2 2 n))).trans (congrArg gate ?_)
  unfold conv
  abel

/-! ## A partial product, and the reference -/

theorem Pv_at (k : FVec Ideal S4x512 .bf16) (w : FVec Ideal S512x512 .bf16) (x : FVec Ideal S1x1024x512 .f32) (r : Fin 1024)
    (n : Fin 512) : Pv k w x (Idealize.ShloMosaic.ix2 r n)
      = ∑ l : Fin 512, gate (conv (fun r => x (Idealize.ShloMosaic.ix3 0 r l)) (fun t => k (Idealize.ShloMosaic.ix2 t l)) r)
          * w (Idealize.ShloMosaic.ix2 l n) := by
  pointwise [Pv]
  exact Finset.sum_congr rfl fun l _ => by rw [pay3_at]

/-- The summand of channel `l`: the gated convolution times the weight. -/
def term (X : (⟨3, ![4, 1024, 2048]⟩ : Shape).Idx → EReal) (K : (⟨2, ![4, 2048]⟩ : Shape).Idx → EReal) (W : (⟨2, ![2048, 512]⟩ : Shape).Idx → EReal) (b : Fin 4) (r : Fin 1024)
    (n : Fin 512) (l : Fin 2048) : EReal :=
  gate (conv (fun r => X (Idealize.ShloMosaic.ix3 b r l)) (fun t => K (Idealize.ShloMosaic.ix2 t l)) r) * W (Idealize.ShloMosaic.ix2 l n)

/-- Reading back one and two rows, from the far end of the padding. -/
theorem back_add (g : Fin 1024 → EReal) (t d : ℕ) (h3 : t + d = 3) (r : Fin 1024)
    (h' : ¬ t + r.val < 3 → t + r.val - 3 < 1024) :
    (if h : t + r.val < 3 then (0 : EReal) else g ⟨t + r.val - 3, h' h⟩) = back g d r := by
  unfold back
  by_cases h : r.val < d
  · rw [dif_pos h, dif_pos (by omega)]
  · rw [dif_neg h, dif_neg (by omega)]
    exact congrArg g (Fin.ext (by show t + r.val - 3 = r.val - d; omega))

section Reference
variable (m' : (ℓ : Loc Cert.ReferenceIdeal.nD Cert.ReferenceIdeal.τ Cert.ReferenceIdeal.sig) → Buf (Elt Ideal) ℓ)

/-- The reference's arguments. -/
def refX : (⟨3, ![4, 1024, 2048]⟩ : Shape).Idx → EReal := m' (((0 : Dev Cert.ReferenceIdeal.nD).tc : Thread Cert.ReferenceIdeal.nD Cert.ReferenceIdeal.τ).loc Cert.ReferenceIdeal.main_arg0)
/-- Its taps. -/
def refK : (⟨2, ![4, 2048]⟩ : Shape).Idx → EReal := m' (((0 : Dev Cert.ReferenceIdeal.nD).tc : Thread Cert.ReferenceIdeal.nD Cert.ReferenceIdeal.τ).loc Cert.ReferenceIdeal.main_arg1)
/-- Its matrix. -/
def refW : (⟨2, ![2048, 512]⟩ : Shape).Idx → EReal := m' (((0 : Dev Cert.ReferenceIdeal.nD).tc : Thread Cert.ReferenceIdeal.nD Cert.ReferenceIdeal.τ).loc Cert.ReferenceIdeal.main_arg2)

/-- The reference's result. -/
def refOut : (⟨3, ![4, 1024, 512]⟩ : Shape).Idx → EReal := Cert.ReferenceIdeal.Value.res_main_v37 (F := Ideal) m' 0

/-- The reference's result at one place: the sum over all channels. -/
theorem res_at (b : Fin 4) (r : Fin 1024) (n : Fin 512) :
    refOut m' (Idealize.ShloMosaic.ix3 b r n) = ∑ l : Fin 2048, term (refX m') (refK m') (refW m') b r n l := by
  unfold refOut
  pointwise [Cert.ReferenceIdeal.Value.res_main_v37]
  refine Finset.sum_congr rfl fun l _ => ?_
  unfold term gate conv
  rw [← back_add (fun r => refX m' (Idealize.ShloMosaic.ix3 b r l)) 1 2 rfl r (fun h => by omega),
    ← back_add (fun r => refX m' (Idealize.ShloMosaic.ix3 b r l)) 2 1 rfl r (fun h => by omega)]
  rfl
end Reference

/-! ## The four devices together -/

theorem ix2_eq (r n : ℕ) : ix2 r n = Idealize.ShloMosaic.ix2 ⟨r % 1024, Nat.mod_lt _ (by decide)⟩ ⟨n % 512, Nat.mod_lt _ (by decide)⟩ := by
  funext a; fin_cases a <;> rfl

/-- Channel `l` of device `c`, among all channels. -/
def chan (c : Fin 4) (l : Fin 512) : Fin 2048 := ⟨c.val * 512 + l.val, by omega⟩

variable {m : (ℓ : Loc nD τ sig) → Buf (Elt Ideal) ℓ}

/-- A device's partial product is the sum over its channels. -/
theorem P_sum {X : (⟨3, ![4, 1024, 2048]⟩ : Shape).Idx → EReal} {K : (⟨2, ![4, 2048]⟩ : Shape).Idx → EReal}
    {W : (⟨2, ![2048, 512]⟩ : Shape).Idx → EReal} (c : Fin 4)
    (hX : argX m c = Layout.block ⟨3, ![4, 1024, 512]⟩ ⟨3, ![4, 1024, 2048]⟩ 2 4 c X)
    (hK : argK m c = Layout.block ⟨2, ![4, 512]⟩ ⟨2, ![4, 2048]⟩ 1 4 c K)
    (hW : argW m c = Layout.block ⟨2, ![512, 512]⟩ ⟨2, ![2048, 512]⟩ 0 4 c W)
    (b : Fin 4) (r : Fin 1024) (n : Fin 512) :
    P m c b.val r.val n.val = (∑ l : Fin 512, term X K W b r n (chan c l) : EReal) := by
  have hr : (⟨r.val % 1024, Nat.mod_lt _ (by decide)⟩ : Fin 1024) = r := Fin.ext (Nat.mod_eq_of_lt r.isLt)
  have hn : (⟨n.val % 512, Nat.mod_lt _ (by decide)⟩ : Fin 512) = n := Fin.ext (Nat.mod_eq_of_lt n.isLt)
  unfold P
  rw [ix2_eq, hr, hn, Pv_at]
  refine Finset.sum_congr rfl fun l _ => ?_
  have ex : ∀ r' : Fin 1024, xblk m c b.val (Idealize.ShloMosaic.ix3 0 r' l) = X (Idealize.ShloMosaic.ix3 b r' (chan c l)) := fun r' => by
    unfold xblk; rw [hX, Layout.block_apply]
    refine congrArg X (funext fun a => Fin.ext ?_)
    fin_cases a
    · exact Nat.mod_eq_of_lt b.isLt
    · exact Nat.mod_eq_of_lt r'.isLt
    · exact congrArg (c.val * 512 + ·) (Nat.mod_eq_of_lt l.isLt)
  have ek : ∀ t : Fin 4, k0_pay1 (argK m c) (Idealize.ShloMosaic.ix2 t l) = K (Idealize.ShloMosaic.ix2 t (chan c l)) := fun t => by
    show argK m c (Idealize.ShloMosaic.ix2 t l) = _
    rw [hK, Layout.block_apply]
    refine congrArg K (funext fun a => Fin.ext ?_)
    fin_cases a <;> rfl
  have ew : k0_pay2 (argW m c) (Idealize.ShloMosaic.ix2 l n) = W (Idealize.ShloMosaic.ix2 (chan c l) n) := by
    show argW m c (Idealize.ShloMosaic.ix2 l n) = _
    rw [hW, Layout.block_apply]
    refine congrArg W (funext fun a => Fin.ext ?_)
    fin_cases a <;> rfl
  unfold term
  rw [ew]
  simp only [ex, ek]

/-- A device, its partners and the device across make up all four, in either order. -/
theorem four_sum (f : Fin 4 → EReal) (c : Fin 4) :
    f c + f (py c) + (f (px c) + f (py (px c))) = ∑ d, f d ∧ f c + f (px c) + (f (py c) + f (px (py c))) = ∑ d, f d := by
  rw [Fin.sum_univ_four]
  fin_cases c
  · show f 0 + f 1 + (f 3 + f 2) = f 0 + f 1 + f 2 + f 3 ∧ f 0 + f 3 + (f 1 + f 2) = f 0 + f 1 + f 2 + f 3
    constructor <;> abel
  · show f 1 + f 0 + (f 2 + f 3) = f 0 + f 1 + f 2 + f 3 ∧ f 1 + f 2 + (f 0 + f 3) = f 0 + f 1 + f 2 + f 3
    constructor <;> abel
  · show f 2 + f 3 + (f 1 + f 0) = f 0 + f 1 + f 2 + f 3 ∧ f 2 + f 1 + (f 3 + f 0) = f 0 + f 1 + f 2 + f 3
    constructor <;> abel
  · show f 3 + f 2 + (f 0 + f 1) = f 0 + f 1 + f 2 + f 3 ∧ f 3 + f 0 + (f 2 + f 1) = f 0 + f 1 + f 2 + f 3
    constructor <;> abel

/-- Whichever device forms it, the final value is the sum of the four partial products. -/
theorem S4_sum (c : Dev nD) (b r n : ℕ) : S4 m c b r n = ∑ d : Fin 4, (P m d b r n : EReal) := by
  have h : S4 m c b r n = (P m c b r n + P m (fstP c b) b r n + (P m (sndP c b) b r n + P m (fstP (sndP c b) b) b r n) : EReal) := rfl
  rw [h]
  unfold fstP sndP
  by_cases hb : b < 2
  · simp only [if_pos hb]; exact (four_sum (fun d => P m d b r n) c).1
  · simp only [if_neg hb]; exact (four_sum (fun d => P m d b r n) c).2

/-- The kernel's result is the reference's, when each device holds its block of every argument. -/
theorem OU_eq (m' : (ℓ : Loc Cert.ReferenceIdeal.nD Cert.ReferenceIdeal.τ Cert.ReferenceIdeal.sig) → Buf (Elt Ideal) ℓ)
    (h : ∀ c : Dev nD, argX m c = Layout.block ⟨3, ![4, 1024, 512]⟩ ⟨3, ![4, 1024, 2048]⟩ 2 4 c (refX m')
      ∧ argK m c = Layout.block ⟨2, ![4, 512]⟩ ⟨2, ![4, 2048]⟩ 1 4 c (refK m')
      ∧ argW m c = Layout.block ⟨2, ![512, 512]⟩ ⟨2, ![2048, 512]⟩ 0 4 c (refW m')) :
    OU m = refOut m' := by
  funext i
  obtain ⟨b, r, n, rfl⟩ : ∃ (b : Fin 4) (r : Fin 1024) (n : Fin 512), i = Idealize.ShloMosaic.ix3 b r n := ⟨i 0, i 1, i 2, eq_ix3 i⟩
  rw [res_at]
  show S4 m _ b.val r.val n.val = _
  rw [S4_sum, Fin.sum_univ_tiles 4 512 rfl]
  exact Finset.sum_congr rfl fun c _ => P_sum c (h c).1 (h c).2.1 (h c).2.2 b r n

end Cert.Allreduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel's run, at any float values: it ends, the arguments unchanged and all counters at zero. -/
theorem kernel_quiescent {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => ⟨(h.1 c).1, (h.1 c).2.1, (h.1 c).2.2.1⟩, h.2⟩) (Cert.Allreduce.run_main m g)

/-- The reference's run: it ends, the arguments unchanged; it has no semaphore. -/
theorem reference_quiescent : Cert.quiescent_ReferenceIdeal (hReferenceIdeal := Cert.ReferenceIdeal.Gen.facts) := fun m g _ =>
  (θ_run _ _ _).mono (fun r h => ⟨fun c => ⟨(h c).2.1, (h c).2.2.1, (h c).2.2.2⟩, sem_eq_zero_of_no_sems (by decide) r.2⟩)
    (Cert.ReferenceIdeal.Value.run (F := Ideal) m g)

/-- The kernel's result is the reference's, over exact arithmetic. -/
theorem algebraic : Cert.algebraic_KernelIdeal_ReferenceIdeal (hKernelIdeal := Cert.KernelIdeal.Gen.facts)
    (hReferenceIdeal := Cert.ReferenceIdeal.Gen.facts) := fun m g m' g' _ hin =>
  ⟨Cert.Allreduce.refOut m',
    (θ_run _ _ _).mono (fun _ h c => ⟨(h.1 c).2.2.2.trans (Cert.Allreduce.OU_eq m' hin), (h.1 c).1, (h.1 c).2.1, (h.1 c).2.2.1⟩)
      (Cert.Allreduce.run_main (F := Ideal) m g),
    (θ_run _ _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  fun m g _ => kernel_quiescent (F := Bits) m g, fun m g _ => kernel_quiescent (F := Ideal) m g, reference_quiescent, trivial, algebraic⟩

end Cert.Proof

end
